-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_tables_in_range.lean ====
abbrev S16384x2048 : Shape := ⟨2, ![16384, 2048]⟩
abbrev S2048 : Shape := ⟨1, ![2048]⟩
abbrev S36864 : Shape := ⟨1, ![36864]⟩
abbrev S72 : Shape := ⟨1, ![72]⟩
abbrev S1 : Shape := ⟨1, ![1]⟩
abbrev S8x2048x7168 : Shape := ⟨3, ![8, 2048, 7168]⟩
abbrev S8x7168x2048 : Shape := ⟨3, ![8, 7168, 2048]⟩
abbrev S72x512 : Shape := ⟨2, ![72, 512]⟩
abbrev S72x1 : Shape := ⟨2, ![72, 1]⟩
abbrev S_ : Shape := ⟨0, ![]⟩
abbrev S1x1 : Shape := ⟨2, ![1, 1]⟩

class Facts : Prop where
  shapeCasts_S36864_S72x512 : S36864.ShapeCasts S72x512
  bcast_S72_S72x1_0 : S72.BroadcastsInDim S72x1 (![0] : Fin 1 → Fin S72x1.rank)
  bcast_S_S72x512 : S_.BroadcastsInDim S72x512 (![] : Fin 0 → Fin S72x512.rank)
  bcast_S_S72x1 : S_.BroadcastsInDim S72x1 (![] : Fin 0 → Fin S72x1.rank)
  bcast_S72x1_S72x512_0_1 : S72x1.BroadcastsInDim S72x512 (![0, 1] : Fin 2 → Fin S72x512.rank)
  bcast_S_S1 : S_.BroadcastsInDim S1 (![] : Fin 0 → Fin S1.rank)
  bcast_S1_S1x1_1 : S1.BroadcastsInDim S1x1 (![1] : Fin 1 → Fin S1x1.rank)
  bcast_S1x1_S72x512_0_1 : S1x1.BroadcastsInDim S72x512 (![0, 1] : Fin 2 → Fin S72x512.rank)

variable [Facts]

def fn_part1 {F : FTy → Type} [FloatOps F] (main_v13 : IVec S72x512 1) (main_v15 : IVec S1 1) (main_v17 : IVec S1 1) : IVec S72x512 1 :=
  let main_v18 : IVec S1 1 := andi main_v15 main_v17
  let main_v19 : IVec S1x1 1 := broadcastInDim S1x1 ![1] bcast_S1_S1x1_1 main_v18
  let main_v20 : IVec S72x512 1 := broadcastInDim S72x512 ![0, 1] bcast_S1x1_S72x512_0_1 main_v19
  let main_v21 : IVec S72x512 1 := andi main_v13 main_v20
  main_v21

def fn {F : FTy → Type} [FloatOps F] (main_arg0 : FVec F S16384x2048 .f32) (main_arg1 : FVec F S2048 .f32) (main_arg2 : IVec S36864 32) (main_arg3 : IVec S72 32) (main_arg4 : IVec S1 32) (main_arg5 : FVec F S8x2048x7168 .f32) (main_arg6 : FVec F S8x2048x7168 .f32) (main_arg7 : FVec F S8x7168x2048 .f32) : IVec S72x512 1 :=
  let main_v0 : IVec S72x512 32 := shapeCast S72x512 main_arg2 shapeCasts_S36864_S72x512
  let main_v1 : IVec S72x1 32 := broadcastInDim S72x1 ![0] bcast_S72_S72x1_0 main_arg3
  let main_c : IVec S_ 32 := constantI S_ 32 0#32
  let main_v2 : IVec S72x512 32 := broadcastInDim S72x512 ![] bcast_S_S72x512 main_c
  let main_v3 : IVec S72x512 1 := cmpi .sge main_v0 main_v2
  let main_c_0 : IVec S_ 32 := constantI S_ 32 16384#32
  let main_v4 : IVec S72x512 32 := broadcastInDim S72x512 ![] bcast_S_S72x512 main_c_0
  let main_v5 : IVec S72x512 1 := cmpi .slt main_v0 main_v4
  let main_v6 : IVec S72x512 1 := andi main_v3 main_v5
  let main_c_1 : IVec S_ 32 := constantI S_ 32 0#32
  let main_v7 : IVec S72x1 32 := broadcastInDim S72x1 ![] bcast_S_S72x1 main_c_1
  let main_v8 : IVec S72x1 1 := cmpi .sge main_v1 main_v7
  let main_c_2 : IVec S_ 32 := constantI S_ 32 8#32
  let main_v9 : IVec S72x1 32 := broadcastInDim S72x1 ![] bcast_S_S72x1 main_c_2
  let main_v10 : IVec S72x1 1 := cmpi .slt main_v1 main_v9
  let main_v11 : IVec S72x1 1 := andi main_v8 main_v10
  let main_v12 : IVec S72x512 1 := broadcastInDim S72x512 ![0, 1] bcast_S72x1_S72x512_0_1 main_v11
  let main_v13 : IVec S72x512 1 := andi main_v6 main_v12
  let main_c_3 : IVec S_ 32 := constantI S_ 32 0#32
  let main_v14 : IVec S1 32 := broadcastInDim S1 ![] bcast_S_S1 main_c_3
  let main_v15 : IVec S1 1 := cmpi .sge main_arg4 main_v14
  let main_c_4 : IVec S_ 32 := constantI S_ 32 72#32
  let main_v16 : IVec S1 32 := broadcastInDim S1 ![] bcast_S_S1 main_c_4
  let main_v17 : IVec S1 1 := cmpi .sle main_arg4 main_v16
  fn_part1 (F := F) main_v13 main_v15 main_v17
-- ==== Kernel.lean ====
abbrev S16384x2048 : Shape := ⟨2, ![16384, 2048]⟩
abbrev S2048 : Shape := ⟨1, ![2048]⟩
abbrev S36864 : Shape := ⟨1, ![36864]⟩
abbrev S72 : Shape := ⟨1, ![72]⟩
abbrev S1 : Shape := ⟨1, ![1]⟩
abbrev S8x2048x7168 : Shape := ⟨3, ![8, 2048, 7168]⟩
abbrev S8x7168x2048 : Shape := ⟨3, ![8, 7168, 2048]⟩
abbrev S1x2048 : Shape := ⟨2, ![1, 2048]⟩
abbrev S36864x2048 : Shape := ⟨2, ![36864, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S2x512x2048 : Shape := ⟨3, ![2, 512, 2048]⟩
abbrev S2 : Shape := ⟨1, ![2]⟩
abbrev S_ : Shape := ⟨0, ![]⟩
abbrev S1x512x2048 : Shape := ⟨3, ![1, 512, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 10
  | .vmem => 11
  | .smem => 3
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x2048x7168, .f32⟩
  | .hbm, ⟨3, _⟩ => ⟨S8x2048x7168, .f32⟩
  | .hbm, ⟨4, _⟩ => ⟨S8x7168x2048, .f32⟩
  | .hbm, ⟨5, _⟩ => ⟨S8x2048x7168, .bf16⟩
  | .hbm, ⟨6, _⟩ => ⟨S8x2048x7168, .bf16⟩
  | .hbm, ⟨7, _⟩ => ⟨S8x7168x2048, .bf16⟩
  | .hbm, ⟨8, _⟩ => ⟨S1x2048, .f32⟩
  | .hbm, ⟨9, _⟩ => ⟨S36864x2048, .f32⟩
  | .local _ .vmem, ⟨0, _⟩ => ⟨S1x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S512x2048, .f32⟩
  | .local _ .vmem, ⟨8, _⟩ => ⟨S512x2048, .f32⟩
  | .local _ .vmem, ⟨9, _⟩ => ⟨S2x512x2048, .f32⟩
  | .local _ .vmem, ⟨10, _⟩ => ⟨S512x2048, .bf16⟩
  | .local _ .smem, ⟨0, _⟩ => ⟨S36864, .i32⟩
  | .local _ .smem, ⟨1, _⟩ => ⟨S72, .i32⟩
  | .local _ .smem, ⟨2, _⟩ => ⟨S1, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![72, 7], ![false, false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_15 : BitVec 32 := 0#32
  let c256_i32 : BitVec 32 := 256#32
  let v34 : BitVec 32 := Scalar.addi c0_i32_15 c256_i32
  let c1_i32_16 : BitVec 32 := 1#32
  ⟨c0_i32_15, v34, c1_i32_16⟩
def k0_off2 (k0_t1 : Fin k0_t1_loop.trips) : Fin 1 → Nat :=
  let c0_i32_20 : BitVec 32 := 0#32
  let c2_i32_18 : BitVec 32 := 2#32
  let c0_i32_15 : BitVec 32 := 0#32
  let c1_i32_16 : BitVec 32 := 1#32
  let arg14 : BitVec 32 := Scf.iv c0_i32_15 c1_i32_16 k0_t1
  let v35 : BitVec 32 := Scalar.muli c2_i32_18 arg14
  let c0_i32_19 : BitVec 32 := 0#32
  let v36 : BitVec 32 := Scalar.addi v35 c0_i32_19
  let v37 : BitVec 32 := Scalar.addi c0_i32_20 v36
  let v38 : Index := Scalar.indexCast v37
  ![v38.toNat]
def k0_off3 (k0_t1 : Fin k0_t1_loop.trips) : Fin 2 → Nat :=
  let c2_i32_18 : BitVec 32 := 2#32
  let c0_i32_15 : BitVec 32 := 0#32
  let c1_i32_16 : BitVec 32 := 1#32
  let arg14 : BitVec 32 := Scf.iv c0_i32_15 c1_i32_16 k0_t1
  let v35 : BitVec 32 := Scalar.muli c2_i32_18 arg14
  let c0_i32_19 : BitVec 32 := 0#32
  let v36 : BitVec 32 := Scalar.addi v35 c0_i32_19
  let c0_i32_25 : BitVec 32 := 0#32
  ![v36.toNat, 0]
def k0_off4 (v39 : BitVec 32) : Fin 2 → Nat :=
  let c0_i32_26 : BitVec 32 := 0#32
  ![v39.toNat, 0]
def k0_cond2 (i : grid0.Coords) (v0 : BitVec 32) : BitVec 1 :=
  let arg1 : BitVec 32 := BitVec.ofNat 32 (i 1).val
  let c0_i32_5 : BitVec 32 := 0#32
  let v15 : BitVec 1 := Scalar.cmpi .eq arg1 c0_i32_5
  let arg0 : BitVec 32 := BitVec.ofNat 32 (i 0).val
  let c0_i32_6 : BitVec 32 := 0#32
  let v16 : BitVec 1 := Scalar.cmpi .eq arg0 c0_i32_6
  let v17 : BitVec 1 := Scalar.andi v15 v16
  let v1 : BitVec 1 := Scalar.cmpi .slt arg0 v0
  let v18 : BitVec 1 := Scalar.andi v17 v1
  let v19 : BitVec 32 := Scalar.extui v18
  let c0_i32_7 : BitVec 32 := 0#32
  let v20 : BitVec 1 := Scalar.cmpi .ne v19 c0_i32_7
  v20

def k0_chk1 (i : grid0.Coords) (v0 : BitVec 32) (v39 : BitVec 32) : Prop :=
  (∀ (k0_h2 : k0_cond2 i v0 = 1#1), ∀ a, (k0_off4 v39) a + S1x2048.size a ≤ S16384x2048.size a)
theorem k0_off4_inb : ∀ (i : grid0.Coords) (v0 : BitVec 32) (v39 : BitVec 32) (k0_hw1 : k0_chk1 i v0 v39), ∀ (k0_h2 : k0_cond2 i v0 = 1#1), ∀ a, (k0_off4 v39) a + S1x2048.size a ≤ S16384x2048.size a := fun i v0 v39 k0_hw1 k0_h2 => k0_hw1 k0_h2

def k0_off5 (k0_t1 : Fin k0_t1_loop.trips) : Fin 1 → Nat :=
  let c0_i32_29 : BitVec 32 := 0#32
  let c2_i32_27 : BitVec 32 := 2#32
  let c0_i32_15 : BitVec 32 := 0#32
  let c1_i32_16 : BitVec 32 := 1#32
  let arg14 : BitVec 32 := Scf.iv c0_i32_15 c1_i32_16 k0_t1
  let v46 : BitVec 32 := Scalar.muli c2_i32_27 arg14
  let c1_i32_28 : BitVec 32 := 1#32
  let v47 : BitVec 32 := Scalar.addi v46 c1_i32_28
  let v48 : BitVec 32 := Scalar.addi c0_i32_29 v47
  let v49 : Index := Scalar.indexCast v48
  ![v49.toNat]
def k0_off6 (k0_t1 : Fin k0_t1_loop.trips) : Fin 2 → Nat :=
  let c2_i32_27 : BitVec 32 := 2#32
  let c0_i32_15 : BitVec 32 := 0#32
  let c1_i32_16 : BitVec 32 := 1#32
  let arg14 : BitVec 32 := Scf.iv c0_i32_15 c1_i32_16 k0_t1
  let v46 : BitVec 32 := Scalar.muli c2_i32_27 arg14
  let c1_i32_28 : BitVec 32 := 1#32
  let v47 : BitVec 32 := Scalar.addi v46 c1_i32_28
  let c0_i32_34 : BitVec 32 := 0#32
  ![v47.toNat, 0]
def k0_off7 (v50 : BitVec 32) : Fin 2 → Nat :=
  let c0_i32_35 : BitVec 32 := 0#32
  ![v50.toNat, 0]

def k0_chk2 (i : grid0.Coords) (v0 : BitVec 32) (v50 : BitVec 32) : Prop :=
  (∀ (k0_h2 : k0_cond2 i v0 = 1#1), ∀ a, (k0_off7 v50) a + S1x2048.size a ≤ S16384x2048.size a)
theorem k0_off7_inb : ∀ (i : grid0.Coords) (v0 : BitVec 32) (v50 : BitVec 32) (k0_hw2 : k0_chk2 i v0 v50), ∀ (k0_h2 : k0_cond2 i v0 = 1#1), ∀ a, (k0_off7 v50) a + S1x2048.size a ≤ S16384x2048.size a := fun i v0 v50 k0_hw2 k0_h2 => k0_hw2 k0_h2

@[reducible] def k0_t2_loop : Scf.Loop 32 :=
  let c0_i32_15 : BitVec 32 := 0#32
  let c512_i32 : BitVec 32 := 512#32
  let v34 : BitVec 32 := Scalar.addi c0_i32_15 c512_i32
  let c1_i32_16 : BitVec 32 := 1#32
  ⟨c0_i32_15, v34, c1_i32_16⟩
def k0_off8 (i : grid0.Coords) : Fin 1 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off9 (i : grid0.Coords) : Fin 3 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_26 : BitVec 32 := 0#32
  let c0_i32_27 : BitVec 32 := 0#32
  ![v11.toNat, 0, 0]
def k0_off10 (k0_t2 : Fin k0_t2_loop.trips) : Fin 2 → Nat :=
  let c0_i32_15 : BitVec 32 := 0#32
  let c1_i32_16 : BitVec 32 := 1#32
  let arg14 : BitVec 32 := Scf.iv c0_i32_15 c1_i32_16 k0_t2
  let c0_i32_28 : BitVec 32 := 0#32
  ![arg14.toNat, 0]
def k0_off11 (i : grid0.Coords) : Fin 3 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v35 : Index := Scalar.indexCast v11
  let c0_18 : Index := 0#32
  let c0_19 : Index := 0#32
  ![v35.toNat, 0, 0]
@[reducible] def k0_t3_loop : Scf.Loop 32 :=
  let c0_i32_17 : BitVec 32 := 0#32
  let c256_i32 : BitVec 32 := 256#32
  let v37 : BitVec 32 := Scalar.addi c0_i32_17 c256_i32
  let c1_i32_18 : BitVec 32 := 1#32
  ⟨c0_i32_17, v37, c1_i32_18⟩
def k0_off12 (i : grid0.Coords) (k0_t3 : Fin k0_t3_loop.trips) : Fin 1 → Nat :=
  let arg0 : BitVec 32 := BitVec.ofNat 32 (i 0).val
  let c1_i32_15 : BitVec 32 := 1#32
  let v34 : BitVec 32 := Scalar.addi arg0 c1_i32_15
  let c71_i32 : BitVec 32 := 71#32
  let v35 : BitVec 32 := Scalar.minsi v34 c71_i32
  let c512_i32 : BitVec 32 := 512#32
  let v40 : BitVec 32 := Scalar.muli v35 c512_i32
  let c2_i32_20 : BitVec 32 := 2#32
  let c0_i32_17 : BitVec 32 := 0#32
  let c1_i32_18 : BitVec 32 := 1#32
  let arg14 : BitVec 32 := Scf.iv c0_i32_17 c1_i32_18 k0_t3
  let v38 : BitVec 32 := Scalar.muli c2_i32_20 arg14
  let c0_i32_21 : BitVec 32 := 0#32
  let v39 : BitVec 32 := Scalar.addi v38 c0_i32_21
  let v41 : BitVec 32 := Scalar.addi v40 v39
  let v42 : Index := Scalar.indexCast v41
  ![v42.toNat]
def k0_off13 (i : grid0.Coords) : Fin 1 → Nat :=
  let c1_i32_16 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v36 : BitVec 32 := Scalar.subi c1_i32_16 v11
  ![v36.toNat]
def k0_off14 (i : grid0.Coords) : Fin 3 → Nat :=
  let c1_i32_16 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v36 : BitVec 32 := Scalar.subi c1_i32_16 v11
  let c0_i32_22 : BitVec 32 := 0#32
  let c0_i32_23 : BitVec 32 := 0#32
  ![v36.toNat, 0, 0]
def k0_off15 (k0_t3 : Fin k0_t3_loop.trips) : Fin 2 → Nat :=
  let c2_i32_20 : BitVec 32 := 2#32
  let c0_i32_17 : BitVec 32 := 0#32
  let c1_i32_18 : BitVec 32 := 1#32
  let arg14 : BitVec 32 := Scf.iv c0_i32_17 c1_i32_18 k0_t3
  let v38 : BitVec 32 := Scalar.muli c2_i32_20 arg14
  let c0_i32_21 : BitVec 32 := 0#32
  let v39 : BitVec 32 := Scalar.addi v38 c0_i32_21
  let c0_i32_24 : BitVec 32 := 0#32
  ![v39.toNat, 0]
def k0_off16 (v43 : BitVec 32) : Fin 2 → Nat :=
  let c0_i32_25 : BitVec 32 := 0#32
  ![v43.toNat, 0]
def k0_cond4 (i : grid0.Coords) (v27 : BitVec 32) : BitVec 1 :=
  let arg1 : BitVec 32 := BitVec.ofNat 32 (i 1).val
  let c1_i32_10 : BitVec 32 := 1#32
  let v25 : BitVec 1 := Scalar.cmpi .eq arg1 c1_i32_10
  let arg0 : BitVec 32 := BitVec.ofNat 32 (i 0).val
  let c1_i32_11 : BitVec 32 := 1#32
  let v26 : BitVec 32 := Scalar.addi arg0 c1_i32_11
  let v28 : BitVec 1 := Scalar.cmpi .slt v26 v27
  let v29 : BitVec 1 := Scalar.andi v25 v28
  let v30 : BitVec 32 := Scalar.extui v29
  let c0_i32_13 : BitVec 32 := 0#32
  let v31 : BitVec 1 := Scalar.cmpi .ne v30 c0_i32_13
  v31

def k0_chk3 (i : grid0.Coords) (v27 : BitVec 32) (v43 : BitVec 32) : Prop :=
  (∀ (k0_h4 : k0_cond4 i v27 = 1#1), ∀ a, (k0_off16 v43) a + S1x2048.size a ≤ S16384x2048.size a)
theorem k0_off16_inb : ∀ (i : grid0.Coords) (v27 : BitVec 32) (v43 : BitVec 32) (k0_hw3 : k0_chk3 i v27 v43), ∀ (k0_h4 : k0_cond4 i v27 = 1#1), ∀ a, (k0_off16 v43) a + S1x2048.size a ≤ S16384x2048.size a := fun i v27 v43 k0_hw3 k0_h4 => k0_hw3 k0_h4

def k0_off17 (i : grid0.Coords) (k0_t3 : Fin k0_t3_loop.trips) : Fin 1 → Nat :=
  let arg0 : BitVec 32 := BitVec.ofNat 32 (i 0).val
  let c1_i32_15 : BitVec 32 := 1#32
  let v34 : BitVec 32 := Scalar.addi arg0 c1_i32_15
  let c71_i32 : BitVec 32 := 71#32
  let v35 : BitVec 32 := Scalar.minsi v34 c71_i32
  let c512_i32_28 : BitVec 32 := 512#32
  let v52 : BitVec 32 := Scalar.muli v35 c512_i32_28
  let c2_i32_26 : BitVec 32 := 2#32
  let c0_i32_17 : BitVec 32 := 0#32
  let c1_i32_18 : BitVec 32 := 1#32
  let arg14 : BitVec 32 := Scf.iv c0_i32_17 c1_i32_18 k0_t3
  let v50 : BitVec 32 := Scalar.muli c2_i32_26 arg14
  let c1_i32_27 : BitVec 32 := 1#32
  let v51 : BitVec 32 := Scalar.addi v50 c1_i32_27
  let v53 : BitVec 32 := Scalar.addi v52 v51
  let v54 : Index := Scalar.indexCast v53
  ![v54.toNat]
def k0_off18 (i : grid0.Coords) : Fin 1 → Nat :=
  let c1_i32_16 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v36 : BitVec 32 := Scalar.subi c1_i32_16 v11
  ![v36.toNat]
def k0_off19 (i : grid0.Coords) : Fin 3 → Nat :=
  let c1_i32_16 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v36 : BitVec 32 := Scalar.subi c1_i32_16 v11
  let c0_i32_29 : BitVec 32 := 0#32
  let c0_i32_30 : BitVec 32 := 0#32
  ![v36.toNat, 0, 0]
def k0_off20 (k0_t3 : Fin k0_t3_loop.trips) : Fin 2 → Nat :=
  let c2_i32_26 : BitVec 32 := 2#32
  let c0_i32_17 : BitVec 32 := 0#32
  let c1_i32_18 : BitVec 32 := 1#32
  let arg14 : BitVec 32 := Scf.iv c0_i32_17 c1_i32_18 k0_t3
  let v50 : BitVec 32 := Scalar.muli c2_i32_26 arg14
  let c1_i32_27 : BitVec 32 := 1#32
  let v51 : BitVec 32 := Scalar.addi v50 c1_i32_27
  let c0_i32_31 : BitVec 32 := 0#32
  ![v51.toNat, 0]
def k0_off21 (v55 : BitVec 32) : Fin 2 → Nat :=
  let c0_i32_32 : BitVec 32 := 0#32
  ![v55.toNat, 0]

def k0_chk4 (i : grid0.Coords) (v27 : BitVec 32) (v55 : BitVec 32) : Prop :=
  (∀ (k0_h4 : k0_cond4 i v27 = 1#1), ∀ a, (k0_off21 v55) a + S1x2048.size a ≤ S16384x2048.size a)
theorem k0_off21_inb : ∀ (i : grid0.Coords) (v27 : BitVec 32) (v55 : BitVec 32) (k0_hw4 : k0_chk4 i v27 v55), ∀ (k0_h4 : k0_cond4 i v27 = 1#1), ∀ a, (k0_off21 v55) a + S1x2048.size a ≤ S16384x2048.size a := fun i v27 v55 k0_hw4 k0_h4 => k0_hw4 k0_h4

def k0_cond1 (i : grid0.Coords) : BitVec 1 :=
  let arg1 : BitVec 32 := BitVec.ofNat 32 (i 1).val
  let c0_i32_3 : BitVec 32 := 0#32
  let v12 : BitVec 1 := Scalar.cmpi .eq arg1 c0_i32_3
  let v13 : BitVec 32 := Scalar.extui v12
  let c0_i32_4 : BitVec 32 := 0#32
  let v14 : BitVec 1 := Scalar.cmpi .ne v13 c0_i32_4
  v14

def k0_cond5 (i : grid0.Coords) (v0 : BitVec 32) : BitVec 1 :=
  let arg0 : BitVec 32 := BitVec.ofNat 32 (i 0).val
  let v1 : BitVec 1 := Scalar.cmpi .slt arg0 v0
  let v32 : BitVec 32 := Scalar.extui v1
  let c0_i32_14 : BitVec 32 := 0#32
  let v33 : BitVec 1 := Scalar.cmpi .ne v32 c0_i32_14
  v33

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_4 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S16384x2048 : Shape := ⟨2, ![16384, 2048]⟩
abbrev S2048 : Shape := ⟨1, ![2048]⟩
abbrev S36864 : Shape := ⟨1, ![36864]⟩
abbrev S72 : Shape := ⟨1, ![72]⟩
abbrev S1 : Shape := ⟨1, ![1]⟩
abbrev S8x2048x7168 : Shape := ⟨3, ![8, 2048, 7168]⟩
abbrev S8x7168x2048 : Shape := ⟨3, ![8, 7168, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S72x512 : Shape := ⟨2, ![72, 512]⟩
abbrev S72x512x1 : Shape := ⟨3, ![72, 512, 1]⟩
abbrev S72x512x2048 : Shape := ⟨3, ![72, 512, 2048]⟩
abbrev S72x1 : Shape := ⟨2, ![72, 1]⟩
abbrev S72x2048x7168 : Shape := ⟨3, ![72, 2048, 7168]⟩
abbrev S72x7168x2048 : Shape := ⟨3, ![72, 7168, 2048]⟩
abbrev S72x512x7168 : Shape := ⟨3, ![72, 512, 7168]⟩
abbrev S72x1x1 : Shape := ⟨3, ![72, 1, 1]⟩
abbrev S36864x2048 : Shape := ⟨2, ![36864, 2048]⟩

abbrev nBuf : Space → Nat
  | .hbm => 84
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S36864, .i32⟩
  | .hbm, ⟨3, _⟩ => ⟨S72, .i32⟩
  | .hbm, ⟨4, _⟩ => ⟨S1, .i32⟩
  | .hbm, ⟨5, _⟩ => ⟨S8x2048x7168, .f32⟩
  | .hbm, ⟨6, _⟩ => ⟨S8x2048x7168, .f32⟩
  | .hbm, ⟨7, _⟩ => ⟨S8x7168x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S72x512, .i32⟩
  | .hbm, ⟨25, _⟩ => ⟨S_, .i32⟩
  | .hbm, ⟨26, _⟩ => ⟨S72x512, .i32⟩
  | .hbm, ⟨27, _⟩ => ⟨S72x512, .i1⟩
  | .hbm, ⟨28, _⟩ => ⟨S_, .i32⟩
  | .hbm, ⟨29, _⟩ => ⟨S72x512, .i32⟩
  | .hbm, ⟨30, _⟩ => ⟨S72x512, .i32⟩
  | .hbm, ⟨31, _⟩ => ⟨S72x512, .i32⟩
  | .hbm, ⟨32, _⟩ => ⟨S72x512x1, .i32⟩
  | .hbm, ⟨33, _⟩ => ⟨S72x512x2048, .f32⟩
  | .hbm, ⟨34, _⟩ => ⟨S_, .i32⟩
  | .hbm, ⟨35, _⟩ => ⟨S72, .i32⟩
  | .hbm, ⟨36, _⟩ => ⟨S72, .i1⟩
  | .hbm, ⟨37, _⟩ => ⟨S_, .i32⟩
  | .hbm, ⟨38, _⟩ => ⟨S72, .i32⟩
  | .hbm, ⟨39, _⟩ => ⟨S72, .i32⟩
  | .hbm, ⟨40, _⟩ => ⟨S72, .i32⟩
  | .hbm, ⟨41, _⟩ => ⟨S72x1, .i32⟩
  | .hbm, ⟨42, _⟩ => ⟨S72x2048x7168, .f32⟩
  | .hbm, ⟨43, _⟩ => ⟨S_, .i32⟩
  | .hbm, ⟨44, _⟩ => ⟨S72, .i32⟩
  | .hbm, ⟨45, _⟩ => ⟨S72, .i1⟩
  | .hbm, ⟨46, _⟩ => ⟨S_, .i32⟩
  | .hbm, ⟨47, _⟩ => ⟨S72, .i32⟩
  | .hbm, ⟨48, _⟩ => ⟨S72, .i32⟩
  | .hbm, ⟨49, _⟩ => ⟨S72, .i32⟩
  | .hbm, ⟨50, _⟩ => ⟨S72x1, .i32⟩
  | .hbm, ⟨51, _⟩ => ⟨S72x2048x7168, .f32⟩
  | .hbm, ⟨52, _⟩ => ⟨S_, .i32⟩
  | .hbm, ⟨53, _⟩ => ⟨S72, .i32⟩
  | .hbm, ⟨54, _⟩ => ⟨S72, .i1⟩
  | .hbm, ⟨55, _⟩ => ⟨S_, .i32⟩
  | .hbm, ⟨56, _⟩ => ⟨S72, .i32⟩
  | .hbm, ⟨57, _⟩ => ⟨S72, .i32⟩
  | .hbm, ⟨58, _⟩ => ⟨S72, .i32⟩
  | .hbm, ⟨59, _⟩ => ⟨S72x1, .i32⟩
  | .hbm, ⟨60, _⟩ => ⟨S72x7168x2048, .f32⟩
  | .hbm, ⟨61, _⟩ => ⟨S72x512x7168, .f32⟩
  | .hbm, ⟨62, _⟩ => ⟨S72x512x7168, .f32⟩
  | .hbm, ⟨63, _⟩ => ⟨S72x512x7168, .f32⟩
  | .hbm, ⟨64, _⟩ => ⟨S_, .f32⟩
  | .hbm, ⟨65, _⟩ => ⟨S72x512x7168, .f32⟩
  | .hbm, ⟨66, _⟩ => ⟨S72x512x7168, .f32⟩
  | .hbm, ⟨67, _⟩ => ⟨S_, .f32⟩
  | .hbm, ⟨68, _⟩ => ⟨S72x512x7168, .f32⟩
  | .hbm, ⟨69, _⟩ => ⟨S72x512x7168, .f32⟩
  | .hbm, ⟨70, _⟩ => ⟨S72x512x7168, .f32⟩
  | .hbm, ⟨71, _⟩ => ⟨S72x512x7168, .f32⟩
  | .hbm, ⟨72, _⟩ => ⟨S72x512x7168, .f32⟩
  | .hbm, ⟨73, _⟩ => ⟨S72x512x2048, .f32⟩
  | .hbm, ⟨74, _⟩ => ⟨S72, .i32⟩
  | .hbm, ⟨75, _⟩ => ⟨S72, .i32⟩
  | .hbm, ⟨76, _⟩ => ⟨S72, .i1⟩
  | .hbm, ⟨77, _⟩ => ⟨S72x1x1, .i1⟩
  | .hbm, ⟨78, _⟩ => ⟨S_, .f32⟩
  | .hbm, ⟨79, _⟩ => ⟨S_, .f32⟩
  | .hbm, ⟨80, _⟩ => ⟨S72x512x2048, .i1⟩
  | .hbm, ⟨81, _⟩ => ⟨S72x512x2048, .f32⟩
  | .hbm, ⟨82, _⟩ => ⟨S72x512x2048, .f32⟩
  | .hbm, ⟨83, _⟩ => ⟨S36864x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x12352 : Shape := ⟨2, ![2048, 12352]⟩
abbrev S2048x8192 : Shape := ⟨2, ![2048, 8192]⟩
abbrev S2048x4096 : Shape := ⟨2, ![2048, 4096]⟩
abbrev S2048x32 : Shape := ⟨2, ![2048, 32]⟩
abbrev S2048x16x2 : Shape := ⟨3, ![2048, 16, 2]⟩
abbrev S2048x16x8 : Shape := ⟨3, ![2048, 16, 8]⟩
abbrev S2048x128 : Shape := ⟨2, ![2048, 128]⟩
abbrev S_ : Shape := ⟨0, ![]⟩
abbrev S2048x384 : Shape := ⟨2, ![2048, 384]⟩
abbrev S2048x12800 : Shape := ⟨2, ![2048, 12800]⟩
abbrev S1x2048 : Shape := ⟨2, ![1, 2048]⟩
abbrev S16384x12800 : Shape := ⟨2, ![16384, 12800]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 19
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12352, .f32⟩
  | .hbm, ⟨3, _⟩ => ⟨S2048x12352, .bf16⟩
  | .hbm, ⟨4, _⟩ => ⟨S2048x8192, .bf16⟩
  | .hbm, ⟨5, _⟩ => ⟨S2048x4096, .bf16⟩
  | .hbm, ⟨6, _⟩ => ⟨S2048x32, .bf16⟩
  | .hbm, ⟨7, _⟩ => ⟨S2048x32, .bf16⟩
  | .hbm, ⟨8, _⟩ => ⟨S2048x16x2, .bf16⟩
  | .hbm, ⟨9, _⟩ => ⟨S2048x16x2, .bf16⟩
  | .hbm, ⟨10, _⟩ => ⟨S2048x16x2, .bf16⟩
  | .hbm, ⟨11, _⟩ => ⟨S2048x16x2, .bf16⟩
  | .hbm, ⟨12, _⟩ => ⟨S2048x16x8, .bf16⟩
  | .hbm, ⟨13, _⟩ => ⟨S2048x128, .bf16⟩
  | .hbm, ⟨14, _⟩ => ⟨S_, .bf16⟩
  | .hbm, ⟨15, _⟩ => ⟨S2048x384, .bf16⟩
  | .hbm, ⟨16, _⟩ => ⟨S2048x12800, .bf16⟩
  | .hbm, ⟨17, _⟩ => ⟨S1x2048, .f32⟩
  | .hbm, ⟨18, _⟩ => ⟨S16384x12800, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2048 : Shape := ⟨1, ![2048]⟩
abbrev S2048x12352 : Shape := ⟨2, ![2048, 12352]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x12352 : Shape := ⟨2, ![16384, 12352]⟩
abbrev S16384x32 : Shape := ⟨2, ![16384, 32]⟩
abbrev S16384x16x2 : Shape := ⟨3, ![16384, 16, 2]⟩
abbrev S16384x16x8 : Shape := ⟨3, ![16384, 16, 8]⟩
abbrev S16384x128 : Shape := ⟨2, ![16384, 128]⟩
abbrev S16384x12288 : Shape := ⟨2, ![16384, 12288]⟩
abbrev S16384x384 : Shape := ⟨2, ![16384, 384]⟩
abbrev S16384x12800 : Shape := ⟨2, ![16384, 12800]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12352, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x12352, .f32⟩
  | .hbm, ⟨20, _⟩ => ⟨S16384x32, .f32⟩
  | .hbm, ⟨21, _⟩ => ⟨S16384x16x2, .f32⟩
  | .hbm, ⟨22, _⟩ => ⟨S16384x32, .f32⟩
  | .hbm, ⟨23, _⟩ => ⟨S16384x16x2, .f32⟩
  | .hbm, ⟨24, _⟩ => ⟨S16384x16x8, .f32⟩
  | .hbm, ⟨25, _⟩ => ⟨S16384x128, .f32⟩
  | .hbm, ⟨26, _⟩ => ⟨S16384x12288, .f32⟩
  | .hbm, ⟨27, _⟩ => ⟨S_, .f32⟩
  | .hbm, ⟨28, _⟩ => ⟨S16384x384, .f32⟩
  | .hbm, ⟨29, _⟩ => ⟨S16384x12800, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S16384x4096 : Shape := ⟨2, ![16384, 4096]⟩
abbrev S4096x2048 : Shape := ⟨2, ![4096, 2048]⟩
abbrev S16384x2048 : Shape := ⟨2, ![16384, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S4096x2048, .bf16⟩
  | .hbm, ⟨4, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S16384x4096, .f32⟩
  | .hbm, ⟨4, _⟩ => ⟨S16384x2048, .f32⟩
  | .hbm, ⟨5, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Rows.lean ====
/-
  The rows the experts' gather moves: row `r` of slot `s` of the two-slot buffer, row `v` of the token array, the DMA
  cell of a slot, the copy of one row and the wait for one row, and the flight of a whole block of 512 rows.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout

@[expose] public section

noncomputable section

namespace Cert.Experts

open Cert.KernelIdeal Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The gather's two-slot buffer, and the token array. -/
abbrev xb : Memref sig .tc .vmem S2x512x2048 .f32 := Memref.whole cc0_scratch0
abbrev xh : Memref sig .tc .hbm S16384x2048 .f32 := Memref.whole main_arg0

/-- Row `r` of slot `s`, as a set of elements of the two-slot buffer. -/
def rowSet (s r : ℕ) : Finset S2x512x2048.Idx := Finset.univ.filter fun i => (i 0).val = s ∧ (i 1).val = r
/-- Slot `s` as a set of elements. -/
def slotSet (s : ℕ) : Finset S2x512x2048.Idx := Finset.univ.filter fun i => (i 0).val = s
/-- Row `v` of the token array. -/
def xrow (v : ℕ) : Finset S16384x2048.Idx := Finset.univ.filter fun i => (i 0).val = v

theorem mem_rowSet (s r : ℕ) (i : S2x512x2048.Idx) : i ∈ rowSet s r ↔ (i 0).val = s ∧ (i 1).val = r := by
  simp [rowSet]
theorem mem_slotSet (s : ℕ) (i : S2x512x2048.Idx) : i ∈ slotSet s ↔ (i 0).val = s := by
  simp [slotSet]
theorem mem_xrow (v : ℕ) (i : S16384x2048.Idx) : i ∈ xrow v ↔ (i 0).val = v := by
  simp [xrow]

/-- A row of a slot, spelt as the kernel spells it: the slot sliced and squeezed, then the row sliced. -/
abbrev rowM (o : Fin 3 → ℕ) (ho : ∀ a, o a + S1x512x2048.size a ≤ S2x512x2048.size a) (r : Fin 2 → ℕ)
    (hr : ∀ a, r a + S1x2048.size a ≤ S512x2048.size a) : Memref sig .tc .vmem S1x2048 .f32 :=
  ((xb.slice (Rect.unit (s := S2x512x2048) o S1x512x2048.size ho) (fun _ => rfl)).squeeze S512x2048
    squeezes_S1x512x2048_S512x2048).slice (Rect.unit (s := S512x2048) r S1x2048.size hr) (fun _ => rfl)
/-- A row of the token array. -/
abbrev srcM (x : Fin 2 → ℕ) (hx : ∀ a, x a + S1x2048.size a ≤ S16384x2048.size a) : Memref sig .tc .hbm S1x2048 .f32 :=
  xh.slice (Rect.unit (s := S16384x2048) x S1x2048.size hx) (fun _ => rfl)
/-- A slot's DMA semaphore. -/
abbrev cellM (o : Fin 1 → ℕ) (ho : ∀ a, o a + S1.size a ≤ S2.size a) : DmaSem sig :=
  ((cc0_scratch2.slice (Rect.unit (s := S2) o S1.size ho)).squeeze S_ squeezes_S1_S_).sem

/-- The DMA cell of slot `s`. -/
def cellN (s : Fin 2) : DmaSem sig := ![9, 10] s

theorem cellM_eq (s : Fin 2) (o : Fin 1 → ℕ) (ho) (h : o = ![s.val]) : cellM o ho = cellN s := by
  subst h; revert s; decide

theorem rowM_emb (s r : ℕ) (o : Fin 3 → ℕ) (ho) (q : Fin 2 → ℕ) (hq) (h : o = ![s, 0, 0]) (h' : q = ![r, 0])
    (y : S1x2048.Idx) : (((rowM o ho q hq).view.emb y : S2x512x2048.Idx) 0).val = s
      ∧ (((rowM o ho q hq).view.emb y : S2x512x2048.Idx) 1).val = r
      ∧ (((rowM o ho q hq).view.emb y : S2x512x2048.Idx) 2).val = (y 1).val := by
  subst h; subst h'
  have hr : r < 512 := by have : r + 1 ≤ 512 := hq 0; omega
  have hy0 : (y 0).val = 0 := by have : (y 0).val < 1 := (y 0).isLt; omega
  have hy1 : (y 1).val < 2048 := (y 1).isLt
  have e : (Rect.unit (s := S512x2048) ![r, 0] S1x2048.size hq).emb y = ix2 (⟨r, hr⟩ : Fin 512) (⟨(y 1).val, hy1⟩ : Fin 2048) := by
    rw [eq_ix2 ((Rect.unit (s := S512x2048) ![r, 0] S1x2048.size hq).emb y)]
    congr 1
    · apply Fin.ext; show r + 1 * (y 0).val = r; omega
    · apply Fin.ext; show 0 + 1 * (y 1).val = (y 1).val; omega
  have e2 : (rowM ![s, 0, 0] ho ![r, 0] hq).view.emb y
      = (Rect.unit (s := S2x512x2048) ![s, 0, 0] S1x512x2048.size ho).emb
          (ix3 (⟨0, Nat.one_pos⟩ : Fin 1) (⟨r, hr⟩ : Fin 512) (⟨(y 1).val, hy1⟩ : Fin 2048)) := by
    show (Rect.unit (s := S2x512x2048) ![s, 0, 0] S1x512x2048.size ho).emb
      (Shape.reshapeEquiv _ ((Rect.unit (s := S512x2048) ![r, 0] S1x2048.size hq).emb y)) = _
    rw [e]
    exact congrArg _ (reshapeEquiv_ix2_1ab _ _ _)
  rw [e2]
  refine ⟨?_, ?_, ?_⟩
  · show s + 1 * 0 = s; omega
  · show 0 + 1 * r = r; omega
  · show 0 + 1 * (y 1).val = (y 1).val; omega

theorem srcM_emb (v : ℕ) (x : Fin 2 → ℕ) (hx) (h : x = ![v, 0]) (y : S1x2048.Idx) :
    (((srcM x hx).view.emb y : S16384x2048.Idx) 0).val = v ∧ (((srcM x hx).view.emb y : S16384x2048.Idx) 1).val = (y 1).val := by
  subst h
  have hy0 : (y 0).val = 0 := by have : (y 0).val < 1 := (y 0).isLt; omega
  refine ⟨?_, ?_⟩
  · show v + 1 * (y 0).val = v; omega
  · show 0 + 1 * (y 1).val = (y 1).val; omega

theorem rowM_set (s r : ℕ) (o : Fin 3 → ℕ) (ho) (q : Fin 2 → ℕ) (hq) (h : o = ![s, 0, 0]) (h' : q = ![r, 0]) :
    (rowM o ho q hq).view.set = rowSet s r := by
  ext i
  rw [mem_rowSet]
  constructor
  · intro hi
    obtain ⟨y, -, rfl⟩ := Finset.mem_map.mp hi
    have := rowM_emb s r o ho q hq h h' y
    exact ⟨this.1, this.2.1⟩
  · intro hi
    let y : S1x2048.Idx := ix2 (0 : Fin 1) (⟨(i 2).val, (i 2).isLt⟩ : Fin 2048)
    have := rowM_emb s r o ho q hq h h' y
    refine Finset.mem_map.mpr ⟨y, Finset.mem_univ _, ?_⟩
    funext a
    apply Fin.ext
    match a with
    | ⟨0, _⟩ => exact this.1.trans hi.1.symm
    | ⟨1, _⟩ => exact this.2.1.trans hi.2.symm
    | ⟨2, _⟩ => exact this.2.2.trans rfl

theorem srcM_set (v : ℕ) (x : Fin 2 → ℕ) (hx) (h : x = ![v, 0]) : (srcM x hx).view.set = xrow v := by
  ext i
  rw [mem_xrow]
  constructor
  · intro hi
    obtain ⟨y, -, rfl⟩ := Finset.mem_map.mp hi
    exact (srcM_emb v x hx h y).1
  · intro hi
    let y : S1x2048.Idx := ix2 (0 : Fin 1) (⟨(i 1).val, (i 1).isLt⟩ : Fin 2048)
    have := srcM_emb v x hx h y
    refine Finset.mem_map.mpr ⟨y, Finset.mem_univ _, ?_⟩
    funext a
    apply Fin.ext
    match a with
    | ⟨0, _⟩ => exact this.1.trans hi.symm
    | ⟨1, _⟩ => exact this.2.trans rfl

/-! ## The gathered block -/

/-- The two-slot buffer with every slot holding the rows the block's table names: row `r` is row `tok r` of `X`. -/
def gath (X : S16384x2048.Idx → Elt F .f32) (tok : Fin 512 → Fin 16384) : S2x512x2048.Idx → Elt F .f32 :=
  fun i => X (ix2 (tok ⟨(i 1).val, (i 1).isLt⟩) (⟨(i 2).val, (i 2).isLt⟩ : Fin 2048))

/-- One row landed is the gathered block on that row. -/
theorem landed_row (c : Dev nD) (s : ℕ) (r : Fin 512) (tok : Fin 512 → Fin 16384) (X : S16384x2048.Idx → Elt F .f32)
    (fd : S2x512x2048.Idx → Elt F .f32) (o ho q hq x hx) (h : o = ![s, 0, 0]) (h' : q = ![r.val, 0]) (hv : x = ![(tok r).val, 0])
    (i : S2x512x2048.Idx) (hi : i ∈ rowSet s r.val) :
    (rowM o ho q hq).view.write (Elt F) fd (ReadAs.same.apply ((srcM x hx).view.read (Elt F) X)) Finset.univ i = gath X tok i := by
  rw [← rowM_set s r.val o ho q hq h h'] at hi
  obtain ⟨y, -, rfl⟩ := Finset.mem_map.mp hi
  rw [View.write_emb_of_mem (h := Finset.mem_univ y)]
  have e := rowM_emb s r.val o ho q hq h h' y
  have e' := srcM_emb (tok r).val x hx hv y
  show X ((srcM x hx).view.emb y) = X _
  congr 1
  funext a
  apply Fin.ext
  match a with
  | ⟨0, _⟩ =>
    refine e'.1.trans ?_
    show (tok r).val = (tok ⟨_, _⟩).val
    congr 2
    exact Fin.ext e.2.1.symm
  | ⟨1, _⟩ => exact e'.2.trans e.2.2.symm

variable (c : Dev nD)

/-- The whole of the token array at share `q`, a part of it, and a part of the two-slot buffer. -/
abbrev xAt (q : PosShare TreeShare) (S : Finset S16384x2048.Idx) (X : S16384x2048.Idx → Elt F .f32) : sProp 𝕄 :=
  xh.view.loc (c : Thread nD τ) ↦[S]{q} X
abbrev bAt (S : Finset S2x512x2048.Idx) (f : S2x512x2048.Idx → Elt F .f32) : sProp 𝕄 :=
  xb.view.loc (c : Thread nD τ) ↦[S]{fullShare} f

/-- What the copy of row `t` delivers: the row landed, and the token array's row back. -/
def deliv (s : Fin 2) (tok : Fin 512 → Fin 16384) (X : S16384x2048.Idx → Elt F .f32) (t : Fin 512) : sProp 𝕄 :=
  iprop(bAt c (rowSet s.val t.val) (gath X tok) ∗ xAt c (Transfers.shareTokN fullShare t.val) (xrow (tok t).val) X)

instance deliv_storable (s : Fin 2) (tok : Fin 512 → Fin 16384) (X : S16384x2048.Idx → Elt F .f32) (t : Fin 512) :
    BI.Storable (upEmb : UEmb _ 𝕄) (deliv c s tok X t) := by unfold deliv; infer_instance

/-- One row's credit. -/
abbrev NN : ℕ := cc0_scratch0.dmaCredit S1x2048 .f32

/-- The block's flight on its slot's cell: `j` rows issued, `u` units waited for. -/
abbrev flight (s : Fin 2) (tok : Fin 512 → Fin 16384) (X : S16384x2048.Idx → Elt F .f32) (j u : ℕ) : sProp 𝕄 :=
  Transfers.Batch (countersEmb (U := Pipeline.UD sig nD τ)) (c : Thread nD τ) (.dma (cellN s)) () NN (deliv c s tok X) j u

variable {𝒱 : Variants} {bd : Option 𝒱.V}

/-- The copy of row `r` of the block. -/
theorem issue_row (s : Fin 2) (r : Fin 512) (tok : Fin 512 → Fin 16384) (X : S16384x2048.Idx → Elt F .f32)
    (fd : S2x512x2048.Idx → Elt F .f32) {o : Fin 3 → ℕ} {ho} {q : Fin 2 → ℕ} {hq} {x : Fin 2 → ℕ} {hx} {oc : Fin 1 → ℕ} {hc}
    (h : o = ![s.val, 0, 0]) (h' : q = ![r.val, 0]) (hv : x = ![(tok r).val, 0]) (hcc : oc = ![s.val])
    {h1 h2 h3} {k : PUnit → Prog (TpuEff nD τ sig (Elt F) Λ₀ .tc) PUnit} {Q : PUnit → sProp 𝕄} :
    iprop(xAt c (Transfers.shareTokN fullShare r.val) Finset.univ X ∗ bAt c (rowSet s.val r.val) fd ∗ flight c s tok X r.val 0)
      ⊢ iprop((xAt c (Transfers.shareTokN fullShare r.val) (Finset.univ \ xrow (tok r).val) X -∗ flight c s tok X (r.val + 1) 0
            -∗ wp frame (wpE defs₀ 𝒱 (c : Thread nD τ) bd) Set.univ (k ⟨⟩) Q)
          -∗ wp frame (wpE defs₀ 𝒱 (c : Thread nD τ) bd) Set.univ
            (.op (.enqueueDma (srcM x hx) (.here (rowM o ho q hq)) (.dma (cellM oc hc)) h1 h2 h3) k) Q) := by
  have es := srcM_set (tok r).val x hx hv
  have ed := rowM_set s.val r.val o ho q hq h h'
  have ec := cellM_eq s oc hc hcc
  iintro ⟨Hx, Hb, HB⟩ Hk
  ihave Hx' := (pointsTo_split_subset (ℓ := xh.view.loc (c : Thread nD τ)) (q := Transfers.shareTokN fullShare r.val) (f := X)
    (Finset.subset_univ (xrow (tok r).val))).1 $$ Hx
  icases Hx' with ⟨Hr, Hrest⟩
  iapply (Transfers.wp_dmaBatch (countersEmb (U := Pipeline.UD sig nD τ)) 𝒱 (c : Thread nD τ) bd (src := srcM x hx)
    (dst := rowM o ho q hq) (sm := .dma (cellM oc hc)) (fs := X) (fd := fd) (q := Transfers.shareTokN fullShare r.val)
    (Sd := rowSet s.val r.val) (D := deliv c s tok X) (j := r.val) (u := 0)
    () NN rfl ed.subset r.isLt (Nat.zero_le _) (by
      unfold deliv
      rw [es]
      refine sep_mono_left (Entails.of_eq ?_)
      exact pointsTo_congr fun i hi => landed_row c s.val r tok X fd o ho q hq x hx h h' hv i hi)) $$ [Hr Hb HB]
  · rw [es, ec]
    isplitl [Hr]; · iexact Hr
    isplitl [Hb]; · iexact Hb
    iexact HB
  rw [ec]
  iintro HB
  iapply Hk $$ Hrest
  iexact HB

/-- The wait for one row that is not the block's last. -/
theorem wait_row (s : Fin 2) (u : ℕ) (hu : u + 1 < 512) (tok : Fin 512 → Fin 16384) (X : S16384x2048.Idx → Elt F .f32)
    {o : Fin 3 → ℕ} {ho} {q : Fin 2 → ℕ} {hq} {x : Fin 2 → ℕ} {hx} {oc : Fin 1 → ℕ} {hc} (hcc : oc = ![s.val])
    {h1 h2} {k : PUnit → Prog (TpuEff nD τ sig (Elt F) Λ₀ .tc) PUnit} {Q : PUnit → sProp 𝕄} {W : Waits sig Unit} :
    iprop(flight c s tok X 512 (u * NN) ∗ owes (c : Thread nD τ) 0 W)
      ⊢ iprop((iprop(flight c s tok X 512 ((u + 1) * NN) ∗ ∃ W', owes (c : Thread nD τ) 0 W')
            -∗ wp frame (wpE defs₀ 𝒱 (c : Thread nD τ) bd) Set.univ (k ⟨⟩) Q)
          -∗ wp frame (wpE defs₀ 𝒱 (c : Thread nD τ) bd) Set.univ
            (.op (.waitDma2 (cellM oc hc) (srcM x hx) (rowM o ho q hq) h1 h2) k) Q) := by
  have ec := cellM_eq s oc hc hcc
  have hN : 0 < NN := (rowM o ho q hq).view.dmaCredit_pos (by decide)
  have e : u * NN + NN = (u + 1) * NN := by rw [Nat.add_mul, Nat.one_mul]
  iintro HB Hk
  iapply (Transfers.wp_waitBatch (countersEmb (U := Pipeline.UD sig nD τ)) 𝒱 (c : Thread nD τ) bd (srcw := srcM x hx)
    (dstw := rowM o ho q hq) (sem := cellM oc hc) (D := deliv c s tok X) (u := u * NN) (N := NN) (W := W)
    () rfl (by rw [e, Nat.mul_comm NN]; exact Nat.mul_lt_mul_of_pos_right hu hN)) $$ [HB]
  · rw [ec]; iexact HB
  rw [ec, e]
  iintro ⟨HB, HO⟩
  iapply Hk
  isplitl [HB]; · iexact HB
  iexists _; iexact HO

/-- The wait for the block's last row: every row has landed and the cell is back at zero. -/
theorem wait_last (s : Fin 2) (tok : Fin 512 → Fin 16384) (X : S16384x2048.Idx → Elt F .f32)
    {o : Fin 3 → ℕ} {ho} {q : Fin 2 → ℕ} {hq} {x : Fin 2 → ℕ} {hx} {oc : Fin 1 → ℕ} {hc} (hcc : oc = ![s.val])
    {h1 h2} {k : PUnit → Prog (TpuEff nD τ sig (Elt F) Λ₀ .tc) PUnit} {Q : PUnit → sProp 𝕄} {W : Waits sig Unit} :
    iprop(flight c s tok X 512 (511 * NN) ∗ owes (c : Thread nD τ) 0 W)
      ⊢ iprop((iprop(bigSep Finset.univ (deliv c s tok X) ∗ semVal ((c : Thread nD τ), .dma (cellN s)) 0 ∗ ∃ W', owes (c : Thread nD τ) 0 W')
            -∗ wp frame (wpE defs₀ 𝒱 (c : Thread nD τ) bd) Set.univ (k ⟨⟩) Q)
          -∗ wp frame (wpE defs₀ 𝒱 (c : Thread nD τ) bd) Set.univ
            (.op (.waitDma2 (cellM oc hc) (srcM x hx) (rowM o ho q hq) h1 h2) k) Q) := by
  have ec := cellM_eq s oc hc hcc
  have hN : 0 < NN := (rowM o ho q hq).view.dmaCredit_pos (by decide)
  iintro HB Hk
  iapply (Transfers.wp_waitBatchLast (countersEmb (U := Pipeline.UD sig nD τ)) 𝒱 (c : Thread nD τ) bd (srcw := srcM x hx)
    (dstw := rowM o ho q hq) (sem := cellM oc hc) (D := deliv c s tok X) (u := 511 * NN) (N := NN) (W := W)
    () rfl hN (by omega)) $$ [HB]
  · rw [ec]; iexact HB
  rw [ec]
  iintro ⟨HD, Hv, HO⟩
  iapply Hk
  isplitl [HD]; · iexact HD
  isplitl [Hv]; · iexact Hv
  iexists _; iexact HO

/-! ## A block's flight as a whole -/

/-- The kept part of row `t`'s read token while its own row is lent. -/
abbrev kept (tok : Fin 512 → Fin 16384) (X : S16384x2048.Idx → Elt F .f32) (t : Fin 512) : sProp 𝕄 :=
  xAt c (Transfers.shareTokN fullShare t.val) (Finset.univ \ xrow (tok t).val) X
/-- Row `t`'s read token. -/
abbrev token (X : S16384x2048.Idx → Elt F .f32) (t : Fin 512) : sProp 𝕄 := xAt c (Transfers.shareTokN fullShare t.val) Finset.univ X
/-- What is left of the token array beside the rows' tokens. -/
abbrev xrest (X : S16384x2048.Idx → Elt F .f32) : sProp 𝕄 := xAt c (Transfers.shareDrop fullShare 512) Finset.univ X

/-- Before row `j` is issued: the flight so far, the tokens and the slot's rows from `j` on, the kept parts before. -/
def issuing (s : Fin 2) (tok : Fin 512 → Fin 16384) (X : S16384x2048.Idx → Elt F .f32) (fd : S2x512x2048.Idx → Elt F .f32)
    (j : ℕ) : sProp 𝕄 :=
  iprop(flight c s tok X j 0 ∗ bigSep (Ring.rangeSet 512 j 512) (token c X) ∗ bigSep (Ring.rangeSet 512 0 j) (kept c tok X)
    ∗ bigSep (Ring.rangeSet 512 j 512) (fun t => bAt c (rowSet s.val t.val) fd))

/-- A block in flight: every row issued, none waited for. -/
def inflight (s : Fin 2) (tok : Fin 512 → Fin 16384) (X : S16384x2048.Idx → Elt F .f32) : sProp 𝕄 :=
  iprop(flight c s tok X 512 0 ∗ bigSep Finset.univ (kept c tok X) ∗ xrest c X)

theorem slot_rows (s : Fin 2) (fd : S2x512x2048.Idx → Elt F .f32) :
    (bAt c (slotSet s.val) fd : sProp 𝕄) = bigSep Finset.univ (fun t : Fin 512 => bAt c (rowSet s.val t.val) fd) := by
  have hd : ∀ a b : Fin 512, a ≠ b → Disjoint (rowSet s.val a.val) (rowSet s.val b.val) := by
    intro a b h
    rw [Finset.disjoint_left]
    intro i hi hj
    rw [mem_rowSet] at hi hj
    exact h (Fin.ext (hi.2.symm.trans hj.2))
  have e : slotSet s.val = Finset.univ.biUnion fun t : Fin 512 => rowSet s.val t.val := by
    ext i
    rw [mem_slotSet, Finset.mem_biUnion]
    constructor
    · intro h
      exact ⟨⟨(i 1).val, (i 1).isLt⟩, Finset.mem_univ _, (mem_rowSet _ _ _).mpr ⟨h, rfl⟩⟩
    · rintro ⟨t, -, h⟩
      exact ((mem_rowSet _ _ _).mp h).1
  rw [e]
  exact (pointsTo_biUnion (ℓ := xb.view.loc (c : Thread nD τ)) (q := fullShare) (f := fd) Finset.univ (fun t : Fin 512 => rowSet s.val t.val) (fun a _ b _ h => hd a b h))

/-- A slot, its cell at zero and the token array set a block's issue going. -/
theorem issue_start (s : Fin 2) (tok : Fin 512 → Fin 16384) (X : S16384x2048.Idx → Elt F .f32) (fd : S2x512x2048.Idx → Elt F .f32) :
    iprop(semVal ((c : Thread nD τ), .dma (cellN s)) 0 ∗ xAt c fullShare Finset.univ X ∗ bAt c (slotSet s.val) fd)
      ⊢ (|={Set.univ}=> iprop(issuing c s tok X fd 0 ∗ xrest c X) : sProp 𝕄) := by
  unfold issuing
  rw [Ring.bigSep_rangeSet_empty (Φ := kept c tok X) (le_refl 0), Ring.rangeSet_univ, slot_rows]
  iintro ⟨Hv, Hx, Hb⟩
  imod (Transfers.batch_alloc' (Lvl := ℕ) (countersEmb (U := Pipeline.UD sig nD τ)) (c : Thread nD τ) () NN (deliv c s tok X)
    (sm := .dma (cellN s)) (E := Set.univ)) $$ Hv with HB
  ihave Hx := (Transfers.pointsTo_toks_split (ℓ := xh.view.loc (c : Thread nD τ)) (S := Finset.univ) (f := X) fullShare 512) $$ Hx
  icases Hx with ⟨Hr, Ht⟩
  imodintro
  isplitr [Hr]
  · isplitl [HB]; · iexact HB
    isplitl [Ht]; · iexact Ht
    isplitr; · iempintro
    iexact Hb
  iexact Hr

/-- Every row issued is the block in flight. -/
theorem issue_end (s : Fin 2) (tok : Fin 512 → Fin 16384) (X : S16384x2048.Idx → Elt F .f32) (fd : S2x512x2048.Idx → Elt F .f32) :
    iprop(issuing c s tok X fd 512 ∗ xrest c X) ⊢ (inflight c s tok X : sProp 𝕄) := by
  unfold issuing inflight
  rw [Ring.rangeSet_univ]
  iintro ⟨⟨HB, -, Hk, -⟩, Hr⟩
  isplitl [HB]; · iexact HB
  isplitl [Hk]; · iexact Hk
  iexact Hr

/-- A block's deliveries and the kept parts are the slot holding the gathered rows and the token array whole. -/
theorem drained (s : Fin 2) (tok : Fin 512 → Fin 16384) (X : S16384x2048.Idx → Elt F .f32) :
    iprop(bigSep Finset.univ (deliv c s tok X) ∗ bigSep Finset.univ (kept c tok X) ∗ xrest c X)
      ⊢ (iprop(bAt c (slotSet s.val) (gath X tok) ∗ xAt c fullShare Finset.univ X) : sProp 𝕄) := by
  rw [slot_rows]
  have e : iprop(bigSep Finset.univ (deliv c s tok X) ∗ bigSep Finset.univ (kept c tok X))
      ⊢ (iprop(bigSep Finset.univ (fun t : Fin 512 => bAt c (rowSet s.val t.val) (gath X tok)) ∗ bigSep Finset.univ (token c X)) : sProp 𝕄) := by
    rw [← BI.bigSep_sep', ← BI.bigSep_sep']
    refine BI.bigSep_mono fun t _ => ?_
    show iprop(iprop(bAt c (rowSet s.val t.val) (gath X tok) ∗ xAt c (Transfers.shareTokN fullShare t.val) (xrow (tok t).val) X) ∗ kept c tok X t)
      ⊢ (iprop(bAt c (rowSet s.val t.val) (gath X tok) ∗ token c X t) : sProp 𝕄)
    iintro ⟨⟨Hb, H1⟩, H2⟩
    isplitl [Hb]; · iexact Hb
    iapply (pointsTo_split_subset (ℓ := xh.view.loc (c : Thread nD τ)) (q := Transfers.shareTokN fullShare t.val) (f := X)
      (Finset.subset_univ (xrow (tok t).val))).2
    isplitl [H1] <;> iassumption
  iintro ⟨HD, Hk, Hr⟩
  ihave H := e $$ [HD Hk]
  · isplitl [HD] <;> iassumption
  icases H with ⟨Hb, Hx⟩
  isplitl [Hb]; · iexact Hb
  iapply (Transfers.pointsTo_toks_join (ℓ := xh.view.loc (c : Thread nD τ)) (S := Finset.univ) (f := X) fullShare 512)
  isplitl [Hr]; · iexact Hr
  iexact Hx

end Cert.Experts

end
-- ==== Proof.Offs.lean ====
/-
  The offsets and conditions of the experts' body in closed form: the rows and slots its transfers name, and when each
  branch is taken, as plain statements about the grid point and the number of blocks in use.
-/
module

public import proofs.«01_k».proof.Proof.Gen.KernelIdeal.Launch
public import proofs.«01_k».proof.Proof.Gen.KernelIdeal.Skeleton

@[expose] public section

set_option maxRecDepth 100000

namespace Cert.Experts

open Cert.KernelIdeal Cert.KernelIdeal.Gen
open Idealize.ShloMosaic

/-! ## Words -/

theorem word_eq_zero : ∀ n : Fin 72, Scalar.cmpi .eq (BitVec.ofNat 32 n.val) 0#32 = 1#1 ↔ n.val = 0 := by decide +kernel
theorem word_eq_one : ∀ n : Fin 72, Scalar.cmpi .eq (BitVec.ofNat 32 n.val) 1#32 = 1#1 ↔ n.val = 1 := by decide +kernel
theorem word_slt : ∀ (n : Fin 74) (k : Fin 73), Scalar.cmpi .slt (BitVec.ofNat 32 n.val) (BitVec.ofNat 32 k.val) = 1#1 ↔ n.val < k.val := by
  decide +kernel
theorem word_succ : ∀ n : Fin 72, Scalar.addi (BitVec.ofNat 32 n.val) 1#32 = BitVec.ofNat 32 (n.val + 1) := by decide +kernel
theorem bit_widen : ∀ b : BitVec 1, (Scalar.cmpi .ne (Scalar.extui b : BitVec 32) 0#32) = b := by decide
theorem bit_and : ∀ a b : BitVec 1, Scalar.andi a b = 1#1 ↔ a = 1#1 ∧ b = 1#1 := by decide

/-- The words of the number of blocks in use that the body compares with. -/
theorem slt_word (n : ℕ) (hn : n < 74) (v : BitVec 32) (hv : v.toNat ≤ 72) :
    Scalar.cmpi .slt (BitVec.ofNat 32 n) v = 1#1 ↔ n < v.toNat := by
  have e : v = BitVec.ofNat 32 v.toNat := by simp
  conv_lhs => rw [e]
  exact word_slt ⟨n, hn⟩ ⟨v.toNat, by omega⟩

/-! ## Conditions -/

/-- Hidden block 0. -/
theorem cond1_iff (i : grid0.Coords) : k0_cond1 i = 1#1 ↔ (i 1).val = 0 := by
  have h1 : (i 1).val < 7 := (i 1).isLt
  unfold k0_cond1
  dsimp only
  rw [bit_widen]
  exact word_eq_zero ⟨(i 1).val, by omega⟩

/-- The first point, with a block in use. -/
theorem cond2_iff (i : grid0.Coords) (v : BitVec 32) (hv : v.toNat ≤ 72) :
    k0_cond2 i v = 1#1 ↔ (i 0).val = 0 ∧ (i 1).val = 0 ∧ (i 0).val < v.toNat := by
  have h1 : (i 1).val < 7 := (i 1).isLt
  have h0 : (i 0).val < 72 := (i 0).isLt
  unfold k0_cond2
  dsimp only
  rw [bit_widen, bit_and, bit_and]
  rw [word_eq_zero ⟨(i 1).val, by omega⟩, word_eq_zero ⟨(i 0).val, by omega⟩, slt_word ((i 0).val) (by omega) v hv]
  dsimp only
  omega

/-- Hidden block 1, with a next block in use. -/
theorem cond4_iff (i : grid0.Coords) (v : BitVec 32) (hv : v.toNat ≤ 72) :
    k0_cond4 i v = 1#1 ↔ (i 1).val = 1 ∧ (i 0).val + 1 < v.toNat := by
  have h1 : (i 1).val < 7 := (i 1).isLt
  have h0 : (i 0).val < 72 := (i 0).isLt
  unfold k0_cond4
  dsimp only
  rw [bit_widen, bit_and]
  rw [word_eq_one ⟨(i 1).val, by omega⟩, word_succ ⟨(i 0).val, by omega⟩, slt_word ((i 0).val + 1) (by omega) v hv]

/-- The block is in use. -/
theorem cond5_iff (i : grid0.Coords) (v : BitVec 32) (hv : v.toNat ≤ 72) : k0_cond5 i v = 1#1 ↔ (i 0).val < v.toNat := by
  have h0 : (i 0).val < 72 := (i 0).isLt
  unfold k0_cond5
  dsimp only
  rw [bit_widen]
  rw [slt_word ((i 0).val) (by omega) v hv]

/-- The condition of the branch that waits for the block's rows and normalises them, as the body spells it. -/
def condW (i : grid0.Coords) (v : BitVec 32) : BitVec 1 :=
  Scalar.cmpi .ne (Scalar.extui (Scalar.andi (Scalar.cmpi .eq (BitVec.ofNat 32 (i 1).val) 0#32)
    (Scalar.cmpi .slt (BitVec.ofNat 32 (i 0).val) v)) : BitVec 32) 0#32

/-- Hidden block 0 of a block in use. -/
theorem condW_iff (i : grid0.Coords) (v : BitVec 32) (hv : v.toNat ≤ 72) :
    condW i v = 1#1 ↔ (i 1).val = 0 ∧ (i 0).val < v.toNat := by
  have h1 : (i 1).val < 7 := (i 1).isLt
  have h0 : (i 0).val < 72 := (i 0).isLt
  unfold condW
  rw [bit_widen, bit_and]
  rw [word_eq_zero ⟨(i 1).val, by omega⟩, slt_word ((i 0).val) (by omega) v hv]

/-! ## Offsets -/

theorem trips1 : k0_t1_loop.trips = 256 := by decide +kernel
theorem trips2 : k0_t2_loop.trips = 512 := by decide +kernel
theorem trips3 : k0_t3_loop.trips = 256 := by decide +kernel

theorem iv_word (k : ℕ) : Scf.iv 0#32 1#32 k = BitVec.ofNat 32 k := by simp [Scf.iv]

theorem even_word : ∀ k : Fin 256, Scalar.addi (Scalar.muli 2#32 (BitVec.ofNat 32 k.val)) 0#32 = BitVec.ofNat 32 (2 * k.val) := by
  decide +kernel
theorem odd_word : ∀ k : Fin 256, Scalar.addi (Scalar.muli 2#32 (BitVec.ofNat 32 k.val)) 1#32 = BitVec.ofNat 32 (2 * k.val + 1) := by
  decide +kernel
theorem next_word : ∀ n : Fin 72, Scalar.muli (Scalar.minsi (Scalar.addi (BitVec.ofNat 32 n.val) 1#32) 71#32) 512#32
    = BitVec.ofNat 32 (512 * min (n.val + 1) 71) := by
  decide +kernel

/-- The parity of the block, as the body computes it. -/
def par (a : BitVec 32) : BitVec 32 :=
  Scalar.select (Scalar.andi (Scalar.xori (Scalar.cmpi .slt (Scalar.remsi a (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi a (Scalar.select (Scalar.cmpi .eq 2#32 0#32) 1#32 2#32)) 0#32))
    (Scalar.addi (Scalar.remsi a (Scalar.select (Scalar.cmpi .eq 2#32 0#32) 1#32 2#32)) (Scalar.select (Scalar.cmpi .eq 2#32 0#32) 1#32 2#32))
    (Scalar.remsi a (Scalar.select (Scalar.cmpi .eq 2#32 0#32) 1#32 2#32))

theorem par_eq : ∀ n : Fin 72, par (BitVec.ofNat 32 n.val) = BitVec.ofNat 32 (n.val % 2) := by decide +kernel
theorem par_toNat (i : grid0.Coords) : (par (BitVec.ofNat 32 (i 0).val)).toNat = (i 0).val % 2 := by
  have h0 : (i 0).val < 72 := (i 0).isLt
  rw [par_eq ⟨(i 0).val, by omega⟩, BitVec.toNat_ofNat]
  dsimp only
  omega
theorem other_word : ∀ n : Fin 72, (Scalar.subi 1#32 (BitVec.ofNat 32 (n.val % 2))).toNat = (n.val + 1) % 2 := by decide +kernel
theorem other_toNat (i : grid0.Coords) : (Scalar.subi 1#32 (par (BitVec.ofNat 32 (i 0).val))).toNat = ((i 0).val + 1) % 2 := by
  have h0 : (i 0).val < 72 := (i 0).isLt
  rw [par_eq ⟨(i 0).val, by omega⟩]
  exact other_word ⟨(i 0).val, by omega⟩

theorem off2_eq (k : Fin k0_t1_loop.trips) : k0_off2 k = ![2 * k.val] := by
  have hk : k.val < 256 := trips1 ▸ k.isLt
  unfold k0_off2
  dsimp only
  rw [iv_word, even_word ⟨k.val, hk⟩]
  simp [Scalar.addi, Scalar.indexCast, IntOp.addi]
  omega
theorem off3_eq (k : Fin k0_t1_loop.trips) : k0_off3 k = ![2 * k.val, 0] := by
  have hk : k.val < 256 := trips1 ▸ k.isLt
  unfold k0_off3
  dsimp only
  rw [iv_word, even_word ⟨k.val, hk⟩]
  simp
  omega
theorem off5_eq (k : Fin k0_t1_loop.trips) : k0_off5 k = ![2 * k.val + 1] := by
  have hk : k.val < 256 := trips1 ▸ k.isLt
  unfold k0_off5
  dsimp only
  rw [iv_word, odd_word ⟨k.val, hk⟩]
  simp [Scalar.addi, Scalar.indexCast, IntOp.addi]
  omega
theorem off6_eq (k : Fin k0_t1_loop.trips) : k0_off6 k = ![2 * k.val + 1, 0] := by
  have hk : k.val < 256 := trips1 ▸ k.isLt
  unfold k0_off6
  dsimp only
  rw [iv_word, odd_word ⟨k.val, hk⟩]
  simp
  omega
theorem off8_eq (i : grid0.Coords) : k0_off8 i = ![(i 0).val % 2] := by
  show ![(par (BitVec.ofNat 32 (i 0).val)).toNat] = _
  rw [par_toNat]
theorem off9_eq (i : grid0.Coords) : k0_off9 i = ![(i 0).val % 2, 0, 0] := by
  show ![(par (BitVec.ofNat 32 (i 0).val)).toNat, 0, 0] = _
  rw [par_toNat]
theorem off10_eq (k : Fin k0_t2_loop.trips) : k0_off10 k = ![k.val, 0] := by
  have hk : k.val < 512 := trips2 ▸ k.isLt
  unfold k0_off10
  dsimp only
  rw [iv_word]
  simp
  omega
theorem off11_eq (i : grid0.Coords) : k0_off11 i = ![(i 0).val % 2, 0, 0] := by
  show ![(par (BitVec.ofNat 32 (i 0).val)).toNat, 0, 0] = _
  rw [par_toNat]
theorem off12_eq (i : grid0.Coords) (h : (i 0).val + 1 < 72) (k : Fin k0_t3_loop.trips) : k0_off12 i k = ![512 * ((i 0).val + 1) + 2 * k.val] := by
  have hk : k.val < 256 := trips3 ▸ k.isLt
  unfold k0_off12
  dsimp only
  rw [iv_word, even_word ⟨k.val, hk⟩, next_word ⟨(i 0).val, by omega⟩]
  have e : min ((i 0).val + 1) 71 = (i 0).val + 1 := by omega
  simp [Scalar.addi, Scalar.indexCast, IntOp.addi]
  rw [e]
  omega
theorem off13_eq (i : grid0.Coords) : k0_off13 i = ![((i 0).val + 1) % 2] := by
  show ![(Scalar.subi 1#32 (par (BitVec.ofNat 32 (i 0).val))).toNat] = _
  rw [other_toNat]
theorem off14_eq (i : grid0.Coords) : k0_off14 i = ![((i 0).val + 1) % 2, 0, 0] := by
  show ![(Scalar.subi 1#32 (par (BitVec.ofNat 32 (i 0).val))).toNat, 0, 0] = _
  rw [other_toNat]
theorem off15_eq (k : Fin k0_t3_loop.trips) : k0_off15 k = ![2 * k.val, 0] := by
  have hk : k.val < 256 := trips3 ▸ k.isLt
  unfold k0_off15
  dsimp only
  rw [iv_word, even_word ⟨k.val, hk⟩]
  simp
  omega
theorem off17_eq (i : grid0.Coords) (h : (i 0).val + 1 < 72) (k : Fin k0_t3_loop.trips) : k0_off17 i k = ![512 * ((i 0).val + 1) + (2 * k.val + 1)] := by
  have hk : k.val < 256 := trips3 ▸ k.isLt
  unfold k0_off17
  dsimp only
  rw [iv_word, odd_word ⟨k.val, hk⟩, next_word ⟨(i 0).val, by omega⟩]
  have e : min ((i 0).val + 1) 71 = (i 0).val + 1 := by omega
  simp [Scalar.addi, Scalar.indexCast, IntOp.addi]
  rw [e]
  omega
theorem off18_eq (i : grid0.Coords) : k0_off18 i = ![((i 0).val + 1) % 2] := by
  show ![(Scalar.subi 1#32 (par (BitVec.ofNat 32 (i 0).val))).toNat] = _
  rw [other_toNat]
theorem off19_eq (i : grid0.Coords) : k0_off19 i = ![((i 0).val + 1) % 2, 0, 0] := by
  show ![(Scalar.subi 1#32 (par (BitVec.ofNat 32 (i 0).val))).toNat, 0, 0] = _
  rw [other_toNat]
theorem off20_eq (k : Fin k0_t3_loop.trips) : k0_off20 k = ![2 * k.val + 1, 0] := by
  have hk : k.val < 256 := trips3 ▸ k.isLt
  unfold k0_off20
  dsimp only
  rw [iv_word, odd_word ⟨k.val, hk⟩]
  simp
  omega

end Cert.Experts

end
-- ==== Proof.Loops.lean ====
/-
  The body's three loops: the two that issue a block's row copies (at the first point, and the look-ahead at hidden block 1),
  and the one that waits for a block's rows.
-/
module

public import proofs.«01_k».proof.Proof.Rows
public import proofs.«01_k».proof.Proof.Offs

@[expose] public section

noncomputable section

namespace Cert.Experts

open Cert.KernelIdeal Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The three scalar tables: the rows' sources, the blocks' experts, the number of blocks in use. -/
abbrev tokM : Memref sig .tc .smem S36864 .i32 := Memref.whole main_arg2
abbrev expM : Memref sig .tc .smem S72 .i32 := Memref.whole main_arg3
abbrev numM : Memref sig .tc .smem S1 .i32 := Memref.whole main_arg4

/-- The sources of block `b`'s rows, by the table `T` whose entries are rows of the token array. -/
def tokB (T : S36864.Idx → BitVec 32) (hT : ∀ x, (T x).toNat < 16384) (b : ℕ) (hb : b < 72) : Fin 512 → Fin 16384 :=
  fun r => ⟨(T (ix1 (⟨512 * b + r.val, by omega⟩ : Fin 36864))).toNat, hT _⟩

variable (c : Dev nD)

/-- A table's half share, which every point holds. -/
abbrev tokAt (T : S36864.Idx → BitVec 32) : sProp 𝕄 := tokM.view.loc (c : Thread nD τ) ↦{fullShare.right} T
abbrev expAt (T : S72.Idx → BitVec 32) : sProp 𝕄 := expM.view.loc (c : Thread nD τ) ↦{fullShare.right} T
abbrev numAt (T : S1.Idx → BitVec 32) : sProp 𝕄 := numM.view.loc (c : Thread nD τ) ↦{fullShare.right} T

variable {𝒱 : Variants} {bd : Option 𝒱.V}

/-- A table read at a unit rectangle is its entry there. -/
theorem tok_read (T : S36864.Idx → BitVec 32) (j : ℕ) (hj : j < 36864) (o : Fin 1 → ℕ) (ho : ∀ a, o a + S1.size a ≤ S36864.size a)
    (h : o = ![j]) (x : S1.Idx) :
    (tokM.access (Rect.unit (s := S36864) o S1.size ho)).read (Elt F) T x = T (ix1 (⟨j, hj⟩ : Fin 36864)) := by
  subst h
  show T _ = T _
  congr 1
  funext a
  apply Fin.ext
  have hx : (x 0).val < 1 := (x 0).isLt
  match a with
  | ⟨0, _⟩ => show j + 1 * (x 0).val = j; omega

/-- One row's part of a trip: read its source from the table, check it, issue the copy. -/
theorem row_part (s : Fin 2) (r : ℕ) (hr : r < 512) (b : ℕ) (hb : b < 72) (T : S36864.Idx → BitVec 32) (hT : ∀ x, (T x).toNat < 16384)
    (X : S16384x2048.Idx → Elt F .f32) (fd : S2x512x2048.Idx → Elt F .f32)
    {ot : Fin 1 → ℕ} {hot : ∀ a, ot a + S1.size a ≤ S36864.size a} (et : ot = ![512 * b + r])
    {P : BitVec 32 → Prop} {dec : ∀ v, Decidable (P v)} (hP : ∀ v : BitVec 32, v.toNat < 16384 → P v)
    {o : Fin 3 → ℕ} {ho} {q : Fin 2 → ℕ} {hq} {hx : ∀ v : BitVec 32, P v → ∀ a, (![v.toNat, 0] : Fin 2 → ℕ) a + S1x2048.size a ≤ S16384x2048.size a}
    {oc : Fin 1 → ℕ} {hc}
    (h : o = ![s.val, 0, 0]) (h' : q = ![r, 0]) (hcc : oc = ![s.val])
    {h1 : ∀ v (hv : P v), (srcM (![v.toNat, 0] : Fin 2 → ℕ) (hx v hv)).view.WordExact} {h2} {h3}
    {k : PUnit → Prog (TpuEff nD τ sig (Elt F) Λ₀ .tc) PUnit} {Q : PUnit → sProp 𝕄} :
    iprop(issuing c s (tokB T hT b hb) X fd r ∗ tokAt c T)
      ⊢ iprop((iprop(issuing c s (tokB T hT b hb) X fd (r + 1) ∗ tokAt c T)
            -∗ wp frame (wpE defs₀ 𝒱 (c : Thread nD τ) bd) Set.univ (k ⟨⟩) Q)
          -∗ wp frame (wpE defs₀ 𝒱 (c : Thread nD τ) bd) Set.univ
            (smemLoad tokM (Rect.unit (s := S36864) ot S1.size hot) numel1_S1 rfl >>= fun v : BitVec 32 =>
              Prog.lift (TpuEff.assume (P v) (dec v)) >>= fun hp =>
                Prog.lift (.enqueueDma (srcM (![v.toNat, 0] : Fin 2 → ℕ) (hx v hp.down)) (.here (rowM o ho q hq)) (.dma (cellM oc hc)) (h1 v hp.down) h2 h3)
                  >>= k) Q) := by
  have e : (smemLoad tokM (Rect.unit (s := S36864) ot S1.size hot) numel1_S1 rfl >>= fun v : BitVec 32 =>
        Prog.lift (TpuEff.assume (P v) (dec v)) >>= fun hp =>
          Prog.lift (.enqueueDma (srcM (![v.toNat, 0] : Fin 2 → ℕ) (hx v hp.down)) (.here (rowM o ho q hq)) (.dma (cellM oc hc)) (h1 v hp.down) h2 h3)
            >>= k : Prog (TpuEff nD τ sig (Elt F) Λ₀ .tc) PUnit)
      = smemLoadElt tokM (Rect.unit (s := S36864) ot S1.size hot) (View.loads_smem_one rfl numel1_S1)
          (Shape.Idx.first (numel1_S1.symm ▸ Nat.one_pos)) fun v : BitVec 32 => Prog.op (.assume (P v) (dec v)) fun hp => Prog.op
            (.enqueueDma (srcM (![v.toNat, 0] : Fin 2 → ℕ) (hx v hp.down)) (.here (rowM o ho q hq)) (.dma (cellM oc hc)) (h1 v hp.down) h2 h3) k := rfl
  rw [e]
  unfold issuing
  rw [Ring.bigSep_rangeSet_head (Φ := token c X) (lo := r) hr hr,
    Ring.bigSep_rangeSet_head (Φ := fun t : Fin 512 => bAt c (rowSet s.val t.val) fd) (lo := r) hr hr,
    Ring.bigSep_rangeSet_last (Φ := kept c (tokB T hT b hb) X) (hi := r + 1) (Nat.succ_pos r) hr]
  iintro ⟨⟨HB, ⟨Ht, Hts⟩, Hks, ⟨Hb, Hbs⟩⟩, HT⟩ Hk
  iapply (wp_smemLoadElt 𝒱 (c : Thread nD τ) bd Set.univ (m := tokM) (r := Rect.unit (s := S36864) ot S1.size hot)
    (S := Finset.univ) (q := fullShare.right) (f := T) (Finset.subset_univ _)) $$ HT
  iintro HT
  have ev : ∀ x, (tokM.access (Rect.unit (s := S36864) ot S1.size hot)).read (Elt F) T x
      = T (ix1 (⟨512 * b + r, by omega⟩ : Fin 36864)) := fun x => tok_read T _ _ ot hot et x
  rw [ev]
  have hv : (T (ix1 (⟨512 * b + r, by omega⟩ : Fin 36864))).toNat < 16384 := hT _
  iapply (wp_assume 𝒱 (c : Thread nD τ) bd Set.univ (hP _ hv))
  iapply (issue_row c s ⟨r, hr⟩ (tokB T hT b hb) X fd h h' rfl hcc) $$ [HB Ht Hb]
  · isplitl [Ht]; · iexact Ht
    isplitl [Hb]; · iexact Hb
    iexact HB
  iintro Hkept HB
  iapply Hk
  isplitr [HT]
  · isplitl [HB]; · iexact HB
    isplitl [Hts]; · iexact Hts
    isplitr [Hbs]
    · isplitl [Hkept]; · iexact Hkept
      iexact Hks
    iexact Hbs
  iexact HT

section Loops

variable (i : grid0.Coords) {arg3 : Memref sig .tc .smem S72 .i32} {harg3 : arg3.IsWhole} {arg4 : Memref sig .tc .smem S1 .i32}
  {harg4 : arg4.IsWhole} {harg2 : tokM.IsWhole} {harg5 : xh.IsWhole}
  {arg6 : Memref sig .tc .vmem S1x2048 .f32} {harg6 : arg6.IsWhole} {arg7 : Memref sig .tc .vmem S1x2048x1024 .bf16} {harg7 : arg7.IsWhole}
  {arg8 : Memref sig .tc .vmem S1x2048x1024 .bf16} {harg8 : arg8.IsWhole} {arg9 : Memref sig .tc .vmem S1x1024x2048 .bf16} {harg9 : arg9.IsWhole}
  {arg10 : Memref sig .tc .vmem S512x2048 .f32} {harg10 : arg10.IsWhole} {harg11 : xb.IsWhole}
  {arg12 : Memref sig .tc .vmem S512x2048 .bf16} {harg12 : arg12.IsWhole}

/-- A source below the token array's rows is a row of it. -/
theorem row_inb (v : BitVec 32) (h : v.toNat < 16384) : ∀ a, (![v.toNat, 0] : Fin 2 → ℕ) a + S1x2048.size a ≤ S16384x2048.size a := by
  intro a
  match a with
  | ⟨0, _⟩ => show v.toNat + 1 ≤ 16384; omega
  | ⟨1, _⟩ => show 0 + 2048 ≤ 2048; omega

theorem h072 : 0 < 72 := by decide

/-- The first point's issue loop: block 0's rows, into slot 0. -/
theorem loop1 (T : S36864.Idx → BitVec 32) (hT : ∀ x, (T x).toNat < 16384) (X : S16384x2048.Idx → Elt F .f32)
    (fd : S2x512x2048.Idx → Elt F .f32) (v0 : BitVec 32) (k0_h2 : k0_cond2 i v0 = 1#1)
    {kk : PUnit → Prog (TpuEff nD τ sig (Elt F) Λ₀ .tc) PUnit} {Q : PUnit → sProp 𝕄} :
    iprop(issuing c 0 (tokB T hT 0 h072) X fd 0 ∗ tokAt c T)
      ⊢ iprop((iprop(issuing c 0 (tokB T hT 0 h072) X fd 512 ∗ tokAt c T)
            -∗ wp frame (wpE defs₀ 𝒱 (c : Thread nD τ) bd) Set.univ (kk ⟨⟩) Q)
          -∗ wp frame (wpE defs₀ 𝒱 (c : Thread nD τ) bd) Set.univ
            (Scf.Loop.for k0_t1_loop k0_t1_ok ⟨⟩ (k0_t1_body (F := F) i tokM harg2 arg3 harg3 arg4 harg4 xh harg5 arg6 harg6 arg7 harg7
              arg8 harg8 arg9 harg9 arg10 harg10 xb harg11 arg12 harg12 cc0_scratch2 v0 k0_h2) >>= kk) Q) := by
  have hstep : ∀ (k : Fin (Scf.trips k0_t1_loop.lb k0_t1_loop.ub k0_t1_loop.st)) (acc : Unit),
      iprop(issuing c 0 (tokB T hT 0 h072) X fd (2 * k.val) ∗ tokAt c T)
        ⊢ wp frame (wpE defs₀ 𝒱 (c : Thread nD τ) bd) Set.univ (k0_t1_body (F := F) i tokM harg2 arg3 harg3 arg4 harg4 xh harg5 arg6 harg6
          arg7 harg7 arg8 harg8 arg9 harg9 arg10 harg10 xb harg11 arg12 harg12 cc0_scratch2 v0 k0_h2 k acc)
          (fun _ => iprop(issuing c 0 (tokB T hT 0 h072) X fd (2 * (k.val + 1)) ∗ tokAt c T) : Unit → sProp 𝕄) := by
    intro k acc
    have hk : k.val < 256 := trips1 ▸ k.isLt
    have hk1 : 2 * k.val < 512 := by omega
    have hk2 : 2 * k.val + 1 < 512 := by omega
    have e1 : k0_off2 k = ![512 * 0 + 2 * k.val] := by rw [off2_eq]; simp
    have e2 : k0_off5 k = ![512 * 0 + (2 * k.val + 1)] := by rw [off5_eq]; simp
    unfold k0_t1_body
    dsimp only
    iintro H
    iapply (row_part c 0 (2 * k.val) hk1 0 h072 T hT X fd (P := fun v => k0_chk1 i v0 v) (dec := fun v => k0_chk1.dec i v0 v)
      (hx := fun v hv => k0_off4_inb i v0 v hv k0_h2) e1 (fun v hv _ => row_inb v hv) rfl (off3_eq k) rfl) $$ H
    iintro H
    iapply (row_part c 0 (2 * k.val + 1) hk2 0 h072 T hT X fd (P := fun v => k0_chk2 i v0 v) (dec := fun v => k0_chk2.dec i v0 v)
      (hx := fun v hv => k0_off7_inb i v0 v hv k0_h2) e2 (fun v hv _ => row_inb v hv) rfl (off6_eq k) rfl) $$ H
    iintro H
    sl_step
    iexact H
  have ht : Scf.trips k0_t1_loop.lb k0_t1_loop.ub k0_t1_loop.st = 256 := trips1
  iintro H Hk
  iapply (Scf.wp_for_bind frame (wpE defs₀ 𝒱 (c : Thread nD τ) bd) Set.univ _ _ _ k0_t1_ok ⟨⟩ _
    (fun k _ => iprop(issuing c 0 (tokB T hT 0 h072) X fd (2 * k) ∗ tokAt c T)) hstep) $$ H
  iintro %acc H
  rw [ht]
  iapply Hk
  iexact H

/-- The look-ahead's issue loop: the next block's rows, into the other slot. -/
theorem loop3 (s : Fin 2) (hs : s.val = ((i 0).val + 1) % 2) (hb : (i 0).val + 1 < 72) (T : S36864.Idx → BitVec 32) (hT : ∀ x, (T x).toNat < 16384) (X : S16384x2048.Idx → Elt F .f32)
    (fd : S2x512x2048.Idx → Elt F .f32) (v27 : BitVec 32) (k0_h4 : k0_cond4 i v27 = 1#1)
    {kk : PUnit → Prog (TpuEff nD τ sig (Elt F) Λ₀ .tc) PUnit} {Q : PUnit → sProp 𝕄} :
    iprop(issuing c s (tokB T hT ((i 0).val + 1) hb) X fd 0 ∗ tokAt c T)
      ⊢ iprop((iprop(issuing c s (tokB T hT ((i 0).val + 1) hb) X fd 512 ∗ tokAt c T)
            -∗ wp frame (wpE defs₀ 𝒱 (c : Thread nD τ) bd) Set.univ (kk ⟨⟩) Q)
          -∗ wp frame (wpE defs₀ 𝒱 (c : Thread nD τ) bd) Set.univ
            (Scf.Loop.for k0_t3_loop k0_t3_ok ⟨⟩ (k0_t3_body (F := F) i tokM harg2 arg3 harg3 arg4 harg4 xh harg5 arg6 harg6 arg7 harg7
              arg8 harg8 arg9 harg9 arg10 harg10 xb harg11 arg12 harg12 cc0_scratch2 v27 k0_h4) >>= kk) Q) := by
  have hstep : ∀ (k : Fin (Scf.trips k0_t3_loop.lb k0_t3_loop.ub k0_t3_loop.st)) (acc : Unit),
      iprop(issuing c s (tokB T hT ((i 0).val + 1) hb) X fd (2 * k.val) ∗ tokAt c T)
        ⊢ wp frame (wpE defs₀ 𝒱 (c : Thread nD τ) bd) Set.univ (k0_t3_body (F := F) i tokM harg2 arg3 harg3 arg4 harg4 xh harg5 arg6 harg6
          arg7 harg7 arg8 harg8 arg9 harg9 arg10 harg10 xb harg11 arg12 harg12 cc0_scratch2 v27 k0_h4 k acc)
          (fun _ => iprop(issuing c s (tokB T hT ((i 0).val + 1) hb) X fd (2 * (k.val + 1)) ∗ tokAt c T) : Unit → sProp 𝕄) := by
    intro k acc
    have hk : k.val < 256 := trips3 ▸ k.isLt
    have hk1 : 2 * k.val < 512 := by omega
    have hk2 : 2 * k.val + 1 < 512 := by omega
    have e1 : k0_off12 i k = ![512 * ((i 0).val + 1) + 2 * k.val] := off12_eq i hb k
    have e2 : k0_off17 i k = ![512 * ((i 0).val + 1) + (2 * k.val + 1)] := off17_eq i hb k
    unfold k0_t3_body
    dsimp only
    iintro H
    iapply (row_part c s (2 * k.val) hk1 ((i 0).val + 1) hb T hT X fd (P := fun v => k0_chk3 i v27 v) (dec := fun v => k0_chk3.dec i v27 v)
      (hx := fun v hv => k0_off16_inb i v27 v hv k0_h4) e1 (fun v hv _ => row_inb v hv) ((off14_eq i).trans (by rw [hs])) (off15_eq k) ((off13_eq i).trans (by rw [hs]))) $$ H
    iintro H
    iapply (row_part c s (2 * k.val + 1) hk2 ((i 0).val + 1) hb T hT X fd (P := fun v => k0_chk4 i v27 v) (dec := fun v => k0_chk4.dec i v27 v)
      (hx := fun v hv => k0_off21_inb i v27 v hv k0_h4) e2 (fun v hv _ => row_inb v hv) ((off19_eq i).trans (by rw [hs])) (off20_eq k) ((off18_eq i).trans (by rw [hs]))) $$ H
    iintro H
    sl_step
    iexact H
  have ht : Scf.trips k0_t3_loop.lb k0_t3_loop.ub k0_t3_loop.st = 256 := trips3
  iintro H Hk
  iapply (Scf.wp_for_bind frame (wpE defs₀ 𝒱 (c : Thread nD τ) bd) Set.univ _ _ _ k0_t3_ok ⟨⟩ _
    (fun k _ => iprop(issuing c s (tokB T hT ((i 0).val + 1) hb) X fd (2 * k) ∗ tokAt c T)) hstep) $$ H
  iintro %acc H
  rw [ht]
  iapply Hk
  iexact H

omit [FloatOps F] in
/-- A return, then the rest, is the rest. -/
theorem ret_bind' {α β : Type} (a : α) (k : α → Prog (TpuEff nD τ sig (Elt F) Λ₀ .tc) β) : (Prog.ret a).bind k = k a := rfl

/-- Before the wait for row `k` of the block: `k` rows waited for; past the last, everything landed. -/
def draining (s : Fin 2) (tok : Fin 512 → Fin 16384) (X : S16384x2048.Idx → Elt F .f32) (k : ℕ) : sProp 𝕄 :=
  if k < 512 then iprop(flight c s tok X 512 (k * NN) ∗ ∃ W, owes (c : Thread nD τ) 0 W)
  else iprop(bigSep Finset.univ (deliv c s tok X) ∗ semVal ((c : Thread nD τ), .dma (cellN s)) 0 ∗ ∃ W, owes (c : Thread nD τ) 0 W)

/-- The wait loop: the block's rows, in its slot. -/
theorem loop2 (s : Fin 2) (hs : s.val = (i 0).val % 2) (tok : Fin 512 → Fin 16384) (X : S16384x2048.Idx → Elt F .f32)
    {kk : PUnit → Prog (TpuEff nD τ sig (Elt F) Λ₀ .tc) PUnit} {Q : PUnit → sProp 𝕄} :
    iprop(flight c s tok X 512 0 ∗ ∃ W, owes (c : Thread nD τ) 0 W)
      ⊢ iprop((iprop(bigSep Finset.univ (deliv c s tok X) ∗ semVal ((c : Thread nD τ), .dma (cellN s)) 0 ∗ ∃ W, owes (c : Thread nD τ) 0 W)
            -∗ wp frame (wpE defs₀ 𝒱 (c : Thread nD τ) bd) Set.univ (kk ⟨⟩) Q)
          -∗ wp frame (wpE defs₀ 𝒱 (c : Thread nD τ) bd) Set.univ
            (Scf.Loop.for k0_t2_loop k0_t2_ok ⟨⟩ (k0_t2_body (F := F) i tokM harg2 arg3 harg3 arg4 harg4 xh harg5 arg6 harg6 arg7 harg7
              arg8 harg8 arg9 harg9 arg10 harg10 xb harg11 arg12 harg12 cc0_scratch2) >>= kk) Q) := by
  have hstep : ∀ (k : Fin (Scf.trips k0_t2_loop.lb k0_t2_loop.ub k0_t2_loop.st)) (acc : Unit),
      draining c s tok X k.val
        ⊢ wp frame (wpE defs₀ 𝒱 (c : Thread nD τ) bd) Set.univ (k0_t2_body (F := F) i tokM harg2 arg3 harg3 arg4 harg4 xh harg5 arg6 harg6
          arg7 harg7 arg8 harg8 arg9 harg9 arg10 harg10 xb harg11 arg12 harg12 cc0_scratch2 k acc)
          (fun _ => draining c s tok X (k.val + 1) : Unit → sProp 𝕄) := by
    intro k acc
    have hk : k.val < 512 := trips2 ▸ k.isLt
    unfold k0_t2_body draining
    dsimp only
    rw [if_pos hk]
    have ec : k0_off8 i = ![s.val] := (off8_eq i).trans (by rw [hs])
    by_cases h : k.val + 1 < 512
    · rw [if_pos h]
      iintro ⟨HB, ⟨%W, HO⟩⟩
      iapply (wait_row c s k.val h tok X ec) $$ [HB HO]
      · isplitl [HB] <;> iassumption
      iintro H
      simp only [ret_bind']
      sl_step
      iexact H
    · rw [if_neg h]
      have hk' : k.val = 511 := by omega
      rw [hk']
      iintro ⟨HB, ⟨%W, HO⟩⟩
      iapply (wait_last c s tok X ec) $$ [HB HO]
      · isplitl [HB] <;> iassumption
      iintro H
      simp only [ret_bind']
      sl_step
      iexact H
  have ht : Scf.trips k0_t2_loop.lb k0_t2_loop.ub k0_t2_loop.st = 512 := trips2
  have e0 : (draining c s tok X 0 : sProp 𝕄) = iprop(flight c s tok X 512 0 ∗ ∃ W, owes (c : Thread nD τ) 0 W) := by
    unfold draining; rw [if_pos (by decide), Nat.zero_mul]
  have e1 : (draining c s tok X 512 : sProp 𝕄) = iprop(bigSep Finset.univ (deliv c s tok X) ∗ semVal ((c : Thread nD τ), .dma (cellN s)) 0 ∗ ∃ W, owes (c : Thread nD τ) 0 W) := by
    unfold draining; rw [if_neg (by decide)]
  rw [← e0, ← e1]
  iintro H Hk
  iapply (Scf.wp_for_bind frame (wpE defs₀ 𝒱 (c : Thread nD τ) bd) Set.univ _ _ _ k0_t2_ok ⟨⟩ _
    (fun k _ => draining c s tok X k) hstep) $$ H
  iintro %acc H
  rw [ht]
  iapply Hk
  iexact H

end Loops

end Cert.Experts

end
-- ==== Proof.Body.lean ====
/-
  The grid body at each kind of point: what it reads, what it leaves in the result's buffer and in the normalised rows, and
  which copies are in flight before and after.
-/
module

public import proofs.«01_k».proof.Proof.Loops
public import Idealize.ShloMosaic.Lib.VecWindow

@[expose] public section

noncomputable section

namespace Cert.Experts

open Cert.KernelIdeal Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (c : Dev nD) {𝒱 : Variants} {bd : Option 𝒱.V}

/-! ## Whole loads and stores of an owned buffer -/

section Rules

variable {cs : CoreSpace} {s : Shape} {e : EltTy} (m : Memref sig .tc cs s e)

/-- A load of a whole owned buffer reads its contents. -/
theorem load_full (q : PosShare TreeShare) (X : s.Idx → Elt F e) {off : Fin s.rank → ℕ} {inb : ∀ a, off a + s.size a ≤ s.size a}
    {hl : m.view.LoadsAt (Rect.unit off s.size inb).toLoadRect}
    {k : ((Rect.unit off s.size inb).toLoadRect.shape.Idx → Elt F e) → Prog (TpuEff nD τ sig (Elt F) Λ₀ .tc) PUnit} {Q : PUnit → sProp 𝕄} :
    (owns (c : Thread nD τ) m q X : sProp 𝕄)
      ⊢ iprop((owns (c : Thread nD τ) m q X -∗ wp frame (wpE defs₀ 𝒱 (c : Thread nD τ) bd) Set.univ (k X) Q)
        -∗ wp frame (wpE defs₀ 𝒱 (c : Thread nD τ) bd) Set.univ (Prog.lift (.load m (Rect.unit off s.size inb).toLoadRect hl) >>= k) Q) := by
  have e0 : (Prog.lift (.load m (Rect.unit off s.size inb).toLoadRect hl) >>= k : Prog (TpuEff nD τ sig (Elt F) Λ₀ .tc) PUnit)
      = .op (.load m (Rect.unit off s.size inb).toLoadRect hl) k := rfl
  rw [e0]
  unfold owns
  iintro ⟨%f, %hf, H⟩ Hk
  iapply (wp_load 𝒱 (c : Thread nD τ) bd Set.univ (View.setOn_subset_set _ _)) $$ H
  iintro H
  rw [View.readAt_full, hf]
  iapply Hk
  iexists f
  isplitr
  · ipureintro; exact hf
  iexact H

/-- A store over a whole owned buffer leaves what is stored. -/
theorem store_full (X w : s.Idx → Elt F e) {off : Fin s.rank → ℕ} {inb : ∀ a, off a + s.size a ≤ s.size a}
    {hx : (m.access (Rect.unit off s.size inb)).Stores Finset.univ}
    {hm : Finset.univ = Finset.univ ∨ ∀ a, (Rect.unit off s.size inb).stride a = 1}
    {k : PUnit → Prog (TpuEff nD τ sig (Elt F) Λ₀ .tc) PUnit} {Q : PUnit → sProp 𝕄} :
    (owns (c : Thread nD τ) m fullShare X : sProp 𝕄)
      ⊢ iprop((owns (c : Thread nD τ) m fullShare w -∗ wp frame (wpE defs₀ 𝒱 (c : Thread nD τ) bd) Set.univ (k ⟨⟩) Q)
        -∗ wp frame (wpE defs₀ 𝒱 (c : Thread nD τ) bd) Set.univ (Prog.lift (.store m (Rect.unit off s.size inb) w Finset.univ hx hm) >>= k) Q) := by
  have hS : (m.access (Rect.unit off s.size inb)).setOn Finset.univ ⊆ m.view.set := by
    rw [View.setOn_univ]
    intro z hz
    obtain ⟨y, -, hy⟩ := Finset.mem_map.1 hz
    rw [← hy]
    exact m.view.emb_mem_set ((Rect.unit off s.size inb).emb y)
  have e0 : (Prog.lift (.store m (Rect.unit off s.size inb) w Finset.univ hx hm) >>= k : Prog (TpuEff nD τ sig (Elt F) Λ₀ .tc) PUnit)
      = .op (.store m (Rect.unit off s.size inb) w Finset.univ hx hm) k := rfl
  rw [e0]
  unfold owns
  iintro ⟨%f, -, H⟩ Hk
  iapply (wp_store 𝒱 (c : Thread nD τ) bd Set.univ hS) $$ H
  iintro H
  iapply Hk
  iexists _
  isplitr
  swap
  · iexact H
  ipureintro
  funext y
  have h := View.write_emb_of_mem (v := m.access (Rect.unit off s.size inb)) (Val := Elt F) f w (M := Finset.univ) (x := y) (Finset.mem_univ _)
  have he : (m.access (Rect.unit off s.size inb)).emb y = m.view.emb y :=
    congrArg m.view.emb (Rect.emb_unit_full inb y)
  rw [he] at h
  rw [View.read_apply, h, cast_cast, cast_eq]

end Rules

/-- The number of blocks in use, read from its one-word table. -/
theorem num_part (N : S1.Idx → BitVec 32)
    {k : Elt F .i32 → Prog (TpuEff nD τ sig (Elt F) Λ₀ .tc) PUnit} {Q : PUnit → sProp 𝕄} :
    (numAt c N : sProp 𝕄)
      ⊢ iprop((numAt c N -∗ wp frame (wpE defs₀ 𝒱 (c : Thread nD τ) bd) Set.univ (k (N (ix1 0))) Q)
        -∗ wp frame (wpE defs₀ 𝒱 (c : Thread nD τ) bd) Set.univ (smemLoad numM (Rect.unit (s := S1) ![0] S1.size inb_S1_S1_0) numel1_S1 rfl >>= k) Q) := by
  have e0 : (smemLoad numM (Rect.unit (s := S1) ![0] S1.size inb_S1_S1_0) numel1_S1 rfl >>= k : Prog (TpuEff nD τ sig (Elt F) Λ₀ .tc) PUnit)
      = smemLoadElt numM (Rect.unit (s := S1) ![0] S1.size inb_S1_S1_0) (View.loads_smem_one rfl numel1_S1)
          (Shape.Idx.first (numel1_S1.symm ▸ Nat.one_pos)) k := rfl
  rw [e0]
  iintro H Hk
  iapply (wp_smemLoadElt 𝒱 (c : Thread nD τ) bd Set.univ (m := numM) (r := Rect.unit (s := S1) ![0] S1.size inb_S1_S1_0) (S := Finset.univ) (q := fullShare.right) (f := N) (Finset.subset_univ _)) $$ H
  iintro H
  have e : ∀ x, (numM.access (Rect.unit (s := S1) ![0] S1.size inb_S1_S1_0)).read (Elt F) N x = N (ix1 0) := by
    intro x
    show N _ = N _
    congr 1
    funext a
    apply Fin.ext
    have ha : ∀ z : S1.Idx, (z a).val = 0 := fun z => by
      have := (z a).isLt
      match a with
      | ⟨0, _⟩ => exact Nat.lt_one_iff.1 this
    rw [ha, ha]
  rw [e]
  iapply Hk
  iexact H

/-- The gathered rows as the body loads them from their slot. -/
def rows (X : S16384x2048.Idx → Elt F .f32) (tok : Fin 512 → Fin 16384) : S1x512x2048.Idx → Elt F .f32 :=
  fun y => X (ix2 (tok ⟨(y 1).val, (y 1).isLt⟩) (⟨(y 2).val, (y 2).isLt⟩ : Fin 2048))

/-- The load of the slot that holds a block's gathered rows. -/
theorem load_slot (s : ℕ) (tok : Fin 512 → Fin 16384) (X : S16384x2048.Idx → Elt F .f32) {o : Fin 3 → ℕ}
    {ho : ∀ a, o a + S1x512x2048.size a ≤ S2x512x2048.size a} (h : o = ![s, 0, 0])
    {hl : xb.view.LoadsAt (Rect.unit (s := S2x512x2048) o S1x512x2048.size ho).toLoadRect}
    {k : (S1x512x2048.Idx → Elt F .f32) → Prog (TpuEff nD τ sig (Elt F) Λ₀ .tc) PUnit} {Q : PUnit → sProp 𝕄} :
    (bAt c (slotSet s) (gath X tok) : sProp 𝕄)
      ⊢ iprop((bAt c (slotSet s) (gath X tok) -∗ wp frame (wpE defs₀ 𝒱 (c : Thread nD τ) bd) Set.univ (k (rows X tok)) Q)
        -∗ wp frame (wpE defs₀ 𝒱 (c : Thread nD τ) bd) Set.univ
          (Prog.lift (.load xb (Rect.unit (s := S2x512x2048) o S1x512x2048.size ho).toLoadRect hl) >>= k) Q) := by
  have hS : xb.view.setOn (Rect.unit (s := S2x512x2048) o S1x512x2048.size ho).toLoadRect.set ⊆ slotSet s := by
    intro z hz
    have hz' : z ∈ (xb.access (Rect.unit (s := S2x512x2048) o S1x512x2048.size ho)).set := by rw [View.set_slice]; exact hz
    obtain ⟨x, -, hx⟩ := Finset.mem_map.1 hz'
    rw [mem_slotSet, ← hx]
    have hx0 : (x 0).val < 1 := (x 0).isLt
    show o 0 + 1 * (x 0).val = s
    have h0 : o 0 = s := by rw [h]; rfl
    rw [h0]
    omega
  have e : xb.view.readAt (Elt F) (Rect.unit (s := S2x512x2048) o S1x512x2048.size ho).toLoadRect (gath X tok) = rows X tok := by
    subst h
    funext y
    apply congrArg X
    have e1 : (⟨0 + 1 * (y 1).val, by have := (y 1).isLt; change (y 1).val < 512 at this; omega⟩ : Fin 512) = ⟨(y 1).val, (y 1).isLt⟩ :=
      Fin.ext (by show 0 + 1 * (y 1).val = (y 1).val; omega)
    have e2 : (⟨0 + 1 * (y 2).val, by have := (y 2).isLt; change (y 2).val < 2048 at this; omega⟩ : Fin 2048) = ⟨(y 2).val, (y 2).isLt⟩ :=
      Fin.ext (by show 0 + 1 * (y 2).val = (y 2).val; omega)
    exact congrArg₂ (fun (a : Fin 512) (b : Fin 2048) => (ix2 (tok a) b : S16384x2048.Idx)) e1 e2
  have e0 : (Prog.lift (.load xb (Rect.unit (s := S2x512x2048) o S1x512x2048.size ho).toLoadRect hl) >>= k : Prog (TpuEff nD τ sig (Elt F) Λ₀ .tc) PUnit)
      = .op (.load xb (Rect.unit (s := S2x512x2048) o S1x512x2048.size ho).toLoadRect hl) k := rfl
  rw [e0]
  iintro H Hk
  iapply (wp_load 𝒱 (c : Thread nD τ) bd Set.univ hS) $$ H
  iintro H
  rw [e]
  iapply Hk
  iexact H

/-! ## The body, point by point -/

section Points

variable (i : grid0.Coords)
  (m6 : Memref sig .tc .vmem S1x2048 .f32) (h6 : m6.IsWhole) (m7 : Memref sig .tc .vmem S1x2048x1024 .bf16) (h7 : m7.IsWhole)
  (m8 : Memref sig .tc .vmem S1x2048x1024 .bf16) (h8 : m8.IsWhole) (m9 : Memref sig .tc .vmem S1x1024x2048 .bf16) (h9 : m9.IsWhole)
  (m10 : Memref sig .tc .vmem S512x2048 .f32) (h10 : m10.IsWhole)

abbrev xnM : Memref sig .tc .vmem S512x2048 .bf16 := Memref.whole cc0_scratch1

/-- The body at grid point `i` on its buffers. -/
abbrev body : Prog (TpuEff nD τ sig (Elt F) Λ₀ .tc) PUnit :=
  cc0_experts i tokM (Memref.isWhole_whole _) expM (Memref.isWhole_whole _) numM (Memref.isWhole_whole _) xh (Memref.isWhole_whole _)
    m6 h6 m7 h7 m8 h8 m9 h9 m10 h10 xb (Memref.isWhole_whole _) xnM (Memref.isWhole_whole _) cc0_scratch2

set_option maxRecDepth 65536 in
/-- The body is its skeleton. -/
theorem body_eq : body (F := F) i m6 h6 m7 h7 m8 h8 m9 h9 m10 h10
    = k0_part1_skel i tokM (Memref.isWhole_whole _) expM (Memref.isWhole_whole _) numM (Memref.isWhole_whole _) xh (Memref.isWhole_whole _)
    m6 h6 m7 h7 m8 h8 m9 h9 m10 h10 xb (Memref.isWhole_whole _) xnM (Memref.isWhole_whole _) cc0_scratch2 := by
  unfold body
  rw [cc0_experts_eq_skeleton]; unfold cc0_experts_skel
  rw [k0_part1_eq_skeleton]
  exact Prog.bind_pure _

/-- The five block buffers: the gain, the three weight blocks, the result's. -/
abbrev bufs (G : Vec F S1x2048 .f32) (WG WU : Vec F S1x2048x1024 .bf16) (WD : Vec F S1x1024x2048 .bf16) (O : Vec F S512x2048 .f32) : sProp 𝕄 :=
  iprop(owns (c : Thread nD τ) m6 fullShare G ∗ owns (c : Thread nD τ) m7 fullShare WG ∗ owns (c : Thread nD τ) m8 fullShare WU
    ∗ owns (c : Thread nD τ) m9 fullShare WD ∗ owns (c : Thread nD τ) m10 fullShare O)

variable (N : S1.Idx → BitVec 32) (hN : (N (ix1 0)).toNat ≤ 72)
  (G : Vec F S1x2048 .f32) (WG WU : Vec F S1x2048x1024 .bf16) (WD : Vec F S1x1024x2048 .bf16) (O : Vec F S512x2048 .f32)

/-! ### Which copies are in flight -/

/-- No copy is in flight: both slots held, both cells at zero, the token array whole. -/
def idle (X : S16384x2048.Idx → Elt F .f32) : sProp 𝕄 :=
  iprop((∃ fd, bAt c Finset.univ fd) ∗ semVal ((c : Thread nD τ), .dma (cellN 0)) 0 ∗ semVal ((c : Thread nD τ), .dma (cellN 1)) 0
    ∗ xAt c fullShare Finset.univ X)

/-- A block's rows are in flight into slot `s`; the other slot is held and its cell is at zero. -/
def flying (s : Fin 2) (tok : Fin 512 → Fin 16384) (X : S16384x2048.Idx → Elt F .f32) : sProp 𝕄 :=
  iprop(inflight c s tok X ∗ (∃ fd, bAt c (Finset.univ \ slotSet s.val) fd) ∗ semVal ((c : Thread nD τ), .dma (cellN (1 - s))) 0)

/-- With nothing in flight, a slot with its cell beside the other slot with its own. -/
theorem idle_open (s : Fin 2) (X : S16384x2048.Idx → Elt F .f32) :
    (idle c X : sProp 𝕄) ⊢ iprop(∃ fd, bAt c (slotSet s.val) fd ∗ bAt c (Finset.univ \ slotSet s.val) fd
      ∗ semVal ((c : Thread nD τ), .dma (cellN s)) 0 ∗ semVal ((c : Thread nD τ), .dma (cellN (1 - s))) 0 ∗ xAt c fullShare Finset.univ X) := by
  have hs : (iprop(semVal ((c : Thread nD τ), .dma (cellN 0)) 0 ∗ semVal ((c : Thread nD τ), .dma (cellN 1)) 0) : sProp 𝕄)
      ⊢ iprop(semVal ((c : Thread nD τ), .dma (cellN s)) 0 ∗ semVal ((c : Thread nD τ), .dma (cellN (1 - s))) 0) := by
    match s with
    | ⟨0, _⟩ => exact .rfl
    | ⟨1, _⟩ => exact Idealize.SL.BI.Laws.sep_comm.1
  unfold idle
  iintro ⟨⟨%fd, Hb⟩, H0, H1, Hx⟩
  ihave Hs := hs $$ [H0 H1]
  · isplitl [H0] <;> iassumption
  icases Hs with ⟨H0, H1⟩
  ihave Hb := (pointsTo_split_subset (ℓ := xb.view.loc (c : Thread nD τ)) (q := fullShare) (f := fd)
    (Finset.subset_univ (slotSet s.val))).1 $$ Hb
  icases Hb with ⟨Hb, Hb'⟩
  iexists fd
  isplitl [Hb]; · iexact Hb
  isplitl [Hb']; · iexact Hb'
  isplitl [H0]; · iexact H0
  isplitl [H1]; · iexact H1
  iexact Hx

/-- The slots and cells together again. -/
theorem idle_close (s : Fin 2) (X : S16384x2048.Idx → Elt F .f32) (f g : S2x512x2048.Idx → Elt F .f32) :
    iprop(bAt c (slotSet s.val) g ∗ bAt c (Finset.univ \ slotSet s.val) f
      ∗ semVal ((c : Thread nD τ), .dma (cellN s)) 0 ∗ semVal ((c : Thread nD τ), .dma (cellN (1 - s))) 0 ∗ xAt c fullShare Finset.univ X)
      ⊢ (idle c X : sProp 𝕄) := by
  have hs : (iprop(semVal ((c : Thread nD τ), .dma (cellN s)) 0 ∗ semVal ((c : Thread nD τ), .dma (cellN (1 - s))) 0) : sProp 𝕄)
      ⊢ iprop(semVal ((c : Thread nD τ), .dma (cellN 0)) 0 ∗ semVal ((c : Thread nD τ), .dma (cellN 1)) 0) := by
    match s with
    | ⟨0, _⟩ => exact .rfl
    | ⟨1, _⟩ => exact Idealize.SL.BI.Laws.sep_comm.1
  unfold idle
  iintro ⟨Hb, Hb', H0, H1, Hx⟩
  ihave Hs := hs $$ [H0 H1]
  · isplitl [H0] <;> iassumption
  icases Hs with ⟨H0, H1⟩
  ihave Hb := (pointsTo_join_subset (ℓ := xb.view.loc (c : Thread nD τ)) (q := fullShare) (f := f) (g := g)
    (Finset.subset_univ (slotSet s.val))) $$ [Hb Hb']
  · isplitl [Hb] <;> iassumption
  isplitl [Hb]; · iexists _; iexact Hb
  isplitl [H0]; · iexact H0
  isplitl [H1]; · iexact H1
  iexact Hx

/-! ### The parts of the body -/

/-- The normalised rows of a block, as the body keeps them. -/
def normed (X : S16384x2048.Idx → Elt F .f32) (tok : Fin 512 → Fin 16384) (G : Vec F S1x2048 .f32) : Vec F S512x2048 .bf16 :=
  k0_pay2 (rows X tok) G

/-- Waiting for a block and normalising its rows: the slot holds the gathered rows, nothing is in flight any more. -/
theorem drain_part (s : Fin 2) (hs : s.val = (i 0).val % 2) (tok : Fin 512 → Fin 16384) (X : S16384x2048.Idx → Elt F .f32)
    {XN : Vec F S512x2048 .bf16} {arg3 : Memref sig .tc .smem S72 .i32} {harg3 : arg3.IsWhole} {arg4 : Memref sig .tc .smem S1 .i32}
    {harg4 : arg4.IsWhole} {harg2 : tokM.IsWhole} {harg5 : xh.IsWhole} {harg11 : xb.IsWhole} {harg12 : xnM.IsWhole}
    {e1 e2 e3 e4 e5}
    {kk : PUnit → Prog (TpuEff nD τ sig (Elt F) Λ₀ .tc) PUnit} {Q : PUnit → sProp 𝕄} :
    iprop(flying c s tok X ∗ owns (c : Thread nD τ) m6 fullShare G ∗ owns (c : Thread nD τ) xnM fullShare XN ∗ ∃ W, owes (c : Thread nD τ) 0 W)
      ⊢ iprop((iprop(idle c X ∗ owns (c : Thread nD τ) m6 fullShare G ∗ owns (c : Thread nD τ) xnM fullShare (normed X tok G)
              ∗ ∃ W, owes (c : Thread nD τ) 0 W)
            -∗ wp frame (wpE defs₀ 𝒱 (c : Thread nD τ) bd) Set.univ (kk ⟨⟩) Q)
          -∗ wp frame (wpE defs₀ 𝒱 (c : Thread nD τ) bd) Set.univ
            (Scf.Loop.for k0_t2_loop k0_t2_ok ⟨⟩ (k0_t2_body (F := F) i tokM harg2 arg3 harg3 arg4 harg4 xh harg5 m6 h6 m7 h7
              m8 h8 m9 h9 m10 h10 xb harg11 xnM harg12 cc0_scratch2) >>= fun _ =>
              Prog.lift (.load xb (Rect.unit (s := S2x512x2048) (k0_off11 i) S1x512x2048.size (k0_off11_inb i)).toLoadRect e1) >>= fun v36 =>
              Prog.lift (.load m6 (Rect.unit (s := S1x2048) ![0, 0] S1x2048.size inb_S1x2048_S1x2048_0_0).toLoadRect e2) >>= fun v38 =>
              Prog.lift (.load xnM (Rect.unit (s := S512x2048) ![0, 0] S512x2048.size inb_S512x2048_S512x2048_0_0).toLoadRect e3) >>= fun _ =>
              Prog.lift (.store xnM (Rect.unit (s := S512x2048) ![0, 0] S512x2048.size inb_S512x2048_S512x2048_0_0) (k0_pay2 v36 v38) Finset.univ e4 e5)
                >>= kk) Q) := by
  unfold flying inflight
  iintro ⟨⟨⟨HB, Hks, Hr⟩, ⟨%fd, Hb'⟩, Hv'⟩, H6, Hxn, HW⟩ Hk
  iapply (loop2 c i s hs tok X) $$ [HB HW]
  · isplitl [HB] <;> iassumption
  iintro ⟨HD, Hv, HW⟩
  ihave HD := (drained c s tok X) $$ [HD Hks Hr]
  · isplitl [HD]; · iexact HD
    isplitl [Hks] <;> iassumption
  icases HD with ⟨Hb, Hx⟩
  iapply (load_slot c s.val tok X ((off11_eq i).trans (by rw [hs]))) $$ Hb
  iintro Hb
  iapply (load_full c m6 fullShare G) $$ H6
  iintro H6
  iapply (load_full c xnM fullShare XN) $$ Hxn
  iintro Hxn
  iapply (store_full c xnM XN (k0_pay2 (rows X tok) G)) $$ Hxn
  iintro Hxn
  iapply Hk
  isplitl [Hb Hb' Hv Hv' Hx]
  · iapply (idle_close c s X fd (gath X tok))
    isplitl [Hb]; · iexact Hb
    isplitl [Hb']; · iexact Hb'
    isplitl [Hv]; · iexact Hv
    isplitl [Hv']; · iexact Hv'
    iexact Hx
  isplitl [H6]; · iexact H6
  isplitl [Hxn]; · iexact Hxn
  iexact HW

/-- One hidden block: the result's buffer gains the block's product. -/
theorem comp_part (XN : Vec F S512x2048 .bf16) {e1 e2 e3 e4 e5 e6 e7 e8}
    {kk : PUnit → Prog (TpuEff nD τ sig (Elt F) Λ₀ .tc) PUnit} {Q : PUnit → sProp 𝕄} :
    iprop(owns (c : Thread nD τ) xnM fullShare XN ∗ bufs c m6 m7 m8 m9 m10 G WG WU WD O)
      ⊢ iprop((iprop(owns (c : Thread nD τ) xnM fullShare XN ∗ bufs c m6 m7 m8 m9 m10 G WG WU WD (k0_pay3 XN WG WU O WD))
            -∗ wp frame (wpE defs₀ 𝒱 (c : Thread nD τ) bd) Set.univ (kk ⟨⟩) Q)
          -∗ wp frame (wpE defs₀ 𝒱 (c : Thread nD τ) bd) Set.univ
            (Prog.lift (.load xnM (Rect.unit (s := S512x2048) ![0, 0] S512x2048.size inb_S512x2048_S512x2048_0_0).toLoadRect e1) >>= fun v34 =>
              Prog.lift (.load m7 (Rect.unit (s := S1x2048x1024) ![0, 0, 0] S1x2048x1024.size inb_S1x2048x1024_S1x2048x1024_0_0_0).toLoadRect e2) >>= fun v35 =>
              Prog.lift (.load m8 (Rect.unit (s := S1x2048x1024) ![0, 0, 0] S1x2048x1024.size inb_S1x2048x1024_S1x2048x1024_0_0_0).toLoadRect e3) >>= fun v46 =>
              Prog.lift (.load m10 (Rect.unit (s := S512x2048) ![0, 0] S512x2048.size inb_S512x2048_S512x2048_0_0).toLoadRect e4) >>= fun v51 =>
              Prog.lift (.load m9 (Rect.unit (s := S1x1024x2048) ![0, 0, 0] S1x1024x2048.size inb_S1x1024x2048_S1x1024x2048_0_0_0).toLoadRect e5) >>= fun v53 =>
              Prog.lift (.load m10 (Rect.unit (s := S512x2048) ![0, 0] S512x2048.size inb_S512x2048_S512x2048_0_0).toLoadRect e6) >>= fun _ =>
              Prog.lift (.store m10 (Rect.unit (s := S512x2048) ![0, 0] S512x2048.size inb_S512x2048_S512x2048_0_0) (k0_pay3 v34 v35 v46 v51 v53) Finset.univ e7 e8)
                >>= kk) Q) := by
  iintro ⟨Hxn, H6, H7, H8, H9, H10⟩ Hk
  iapply (load_full c xnM fullShare XN) $$ Hxn
  iintro Hxn
  iapply (load_full c m7 fullShare WG) $$ H7
  iintro H7
  iapply (load_full c m8 fullShare WU) $$ H8
  iintro H8
  iapply (load_full c m10 fullShare O) $$ H10
  iintro H10
  iapply (load_full c m9 fullShare WD) $$ H9
  iintro H9
  iapply (load_full c m10 fullShare O) $$ H10
  iintro H10
  iapply (store_full c m10 O (k0_pay3 XN WG WU O WD)) $$ H10
  iintro H10
  iapply Hk
  isplitl [Hxn]; · iexact Hxn
  isplitl [H6]; · iexact H6
  isplitl [H7]; · iexact H7
  isplitl [H8]; · iexact H8
  isplitl [H9]; · iexact H9
  iexact H10

/-! ### The six kinds of point -/

variable (T : S36864.Idx → BitVec 32) (hT : ∀ x, (T x).toNat < 16384) (X : S16384x2048.Idx → Elt F .f32)

include hN

/-- Past the first hidden block of a block that is not in use, nothing happens. -/
theorem body_rest (hf : (i 1).val ≠ 0) (ha : ¬ (i 0).val < (N (ix1 0)).toNat) :
    iprop(numAt c N)
      ⊢ wp frame (wpE (defs₀ (F := F)) 𝒱 (c : Thread nD τ) bd) Set.univ (body i m6 h6 m7 h7 m8 h8 m9 h9 m10 h10)
        (fun _ => iprop(numAt c N) : PUnit → sProp 𝕄) := by
  have n1 : ¬ k0_cond1 i = 1#1 := fun h => hf ((cond1_iff i).1 h)
  have n2 : ¬ k0_cond2 i (N (ix1 0)) = 1#1 := fun h => ha ((cond2_iff i _ hN).1 h).2.2
  have n3 : ¬ condW i (N (ix1 0)) = 1#1 := fun h => ha ((condW_iff i _ hN).1 h).2
  have n4 : ¬ k0_cond4 i (N (ix1 0)) = 1#1 := fun h => ha (by have := ((cond4_iff i _ hN).1 h).2; omega)
  have n5 : ¬ k0_cond5 i (N (ix1 0)) = 1#1 := fun h => ha ((cond5_iff i _ hN).1 h)
  unfold condW at n3
  rw [body_eq]
  unfold k0_part1_skel
  dsimp only
  iintro H
  iapply (num_part c N) $$ H
  iintro H
  rw [dif_neg n1, dif_neg n2, if_neg n3]
  iapply (num_part c N) $$ H
  iintro H
  rw [dif_neg n4, dif_neg n5]
  sl_step
  iexact H

/-- The first hidden block of a block that is not in use: the result's buffer is zeroed. -/
theorem body_zero (hf : (i 1).val = 0) (ha : ¬ (i 0).val < (N (ix1 0)).toNat) :
    iprop(numAt c N ∗ owns (c : Thread nD τ) m10 fullShare O)
      ⊢ wp frame (wpE (defs₀ (F := F)) 𝒱 (c : Thread nD τ) bd) Set.univ (body i m6 h6 m7 h7 m8 h8 m9 h9 m10 h10)
        (fun _ => iprop(numAt c N ∗ owns (c : Thread nD τ) m10 fullShare (k0_pay1 (F := F))) : PUnit → sProp 𝕄) := by
  have n1 : k0_cond1 i = 1#1 := (cond1_iff i).2 hf
  have n2 : ¬ k0_cond2 i (N (ix1 0)) = 1#1 := fun h => ha ((cond2_iff i _ hN).1 h).2.2
  have n3 : ¬ condW i (N (ix1 0)) = 1#1 := fun h => ha ((condW_iff i _ hN).1 h).2
  have n4 : ¬ k0_cond4 i (N (ix1 0)) = 1#1 := fun h => ha (by have := ((cond4_iff i _ hN).1 h).2; omega)
  have n5 : ¬ k0_cond5 i (N (ix1 0)) = 1#1 := fun h => ha ((cond5_iff i _ hN).1 h)
  unfold condW at n3
  rw [body_eq]
  unfold k0_part1_skel
  dsimp only
  iintro ⟨H, H10⟩
  iapply (num_part c N) $$ H
  iintro H
  rw [dif_pos n1]
  iapply (load_full c m10 fullShare O) $$ H10
  iintro H10
  iapply (store_full c m10 O (k0_pay1 (F := F))) $$ H10
  iintro H10
  rw [dif_neg n2, if_neg n3]
  iapply (num_part c N) $$ H
  iintro H
  rw [dif_neg n4, dif_neg n5]
  sl_step
  isplitl [H] <;> iassumption

/-- The first point: block 0's copies are issued and waited for, its rows normalised, its first hidden block computed. -/
theorem body_first (hf : (i 1).val = 0) (hi : (i 0).val = 0) (ha : (i 0).val < (N (ix1 0)).toNat) :
    iprop(idle c X ∗ tokAt c T ∗ numAt c N ∗ (∃ XN, owns (c : Thread nD τ) xnM fullShare XN) ∗ bufs c m6 m7 m8 m9 m10 G WG WU WD O
        ∗ ∃ W, owes (c : Thread nD τ) 0 W)
      ⊢ wp frame (wpE (defs₀ (F := F)) 𝒱 (c : Thread nD τ) bd) Set.univ (body i m6 h6 m7 h7 m8 h8 m9 h9 m10 h10)
        (fun _ => iprop(idle c X ∗ tokAt c T ∗ numAt c N ∗ owns (c : Thread nD τ) xnM fullShare (normed X (tokB T hT 0 h072) G)
          ∗ bufs c m6 m7 m8 m9 m10 G WG WU WD (k0_pay3 (normed X (tokB T hT 0 h072) G) WG WU (k0_pay1 (F := F)) WD)
          ∗ ∃ W, owes (c : Thread nD τ) 0 W) : PUnit → sProp 𝕄) := by
  have n1 : k0_cond1 i = 1#1 := (cond1_iff i).2 hf
  have n2 : k0_cond2 i (N (ix1 0)) = 1#1 := (cond2_iff i _ hN).2 ⟨hi, hf, ha⟩
  have n3 : condW i (N (ix1 0)) = 1#1 := (condW_iff i _ hN).2 ⟨hf, ha⟩
  have n4 : ¬ k0_cond4 i (N (ix1 0)) = 1#1 := fun h => by have := ((cond4_iff i _ hN).1 h).1; omega
  have n5 : k0_cond5 i (N (ix1 0)) = 1#1 := (cond5_iff i _ hN).2 ha
  have hs : (0 : Fin 2).val = (i 0).val % 2 := by rw [hi]; rfl
  unfold condW at n3
  rw [body_eq]
  unfold k0_part1_skel
  dsimp only
  iintro ⟨Hid, HT, H, ⟨%XN, Hxn⟩, ⟨H6, H7, H8, H9, H10⟩, HW⟩
  iapply (num_part c N) $$ H
  iintro H
  rw [dif_pos n1]
  iapply (load_full c m10 fullShare O) $$ H10
  iintro H10
  iapply (store_full c m10 O (k0_pay1 (F := F))) $$ H10
  iintro H10
  rw [dif_pos n2]
  ihave Hid := (idle_open c 0 X) $$ Hid
  icases Hid with ⟨%fd, Hb, Hb', Hv, Hv', Hx⟩
  imod (issue_start c 0 (tokB T hT 0 h072) X fd) $$ [Hv Hx Hb] with HI
  · isplitl [Hv]; · iexact Hv
    isplitl [Hx] <;> iassumption
  icases HI with ⟨HI, Hr⟩
  iapply (loop1 c i T hT X fd (N (ix1 0)) n2) $$ [HI HT]
  · isplitl [HI] <;> iassumption
  iintro ⟨HI, HT⟩
  ihave HF := (issue_end c 0 (tokB T hT 0 h072) X fd) $$ [HI Hr]
  · isplitl [HI] <;> iassumption
  rw [if_pos n3]
  iapply (drain_part c i m6 h6 m7 h7 m8 h8 m9 h9 m10 h10 G 0 hs (tokB T hT 0 h072) X) $$ [HF Hb' Hv' H6 Hxn HW]
  · isplitl [HF Hb' Hv']
    · unfold flying
      isplitl [HF]; · iexact HF
      isplitl [Hb']; · iexists fd; iexact Hb'
      iexact Hv'
    isplitl [H6]; · iexact H6
    isplitl [Hxn] <;> iassumption
  iintro ⟨Hid, H6, Hxn, HW⟩
  iapply (num_part c N) $$ H
  iintro H
  rw [dif_neg n4, dif_pos n5]
  iapply (comp_part c m6 m7 m8 m9 m10 G WG WU WD (k0_pay1 (F := F)) (normed X (tokB T hT 0 h072) G)) $$ [Hxn H6 H7 H8 H9 H10]
  · isplitl [Hxn]; · iexact Hxn
    isplitl [H6]; · iexact H6
    isplitl [H7]; · iexact H7
    isplitl [H8]; · iexact H8
    isplitl [H9] <;> iassumption
  iintro ⟨Hxn, Hbufs⟩
  sl_step
  isplitl [Hid]; · iexact Hid
  isplitl [HT]; · iexact HT
  isplitl [H]; · iexact H
  isplitl [Hxn]; · iexact Hxn
  isplitl [Hbufs]; · iexact Hbufs
  iexact HW

/-- A later block's first point: its copies, already in flight, are waited for, its rows normalised, its first hidden block
    computed. -/
theorem body_next (hf : (i 1).val = 0) (hi : (i 0).val ≠ 0) (ha : (i 0).val < (N (ix1 0)).toNat) (s : Fin 2) (hs : s.val = (i 0).val % 2)
    (tok : Fin 512 → Fin 16384) :
    iprop(flying c s tok X ∗ numAt c N ∗ (∃ XN, owns (c : Thread nD τ) xnM fullShare XN) ∗ bufs c m6 m7 m8 m9 m10 G WG WU WD O
        ∗ ∃ W, owes (c : Thread nD τ) 0 W)
      ⊢ wp frame (wpE (defs₀ (F := F)) 𝒱 (c : Thread nD τ) bd) Set.univ (body i m6 h6 m7 h7 m8 h8 m9 h9 m10 h10)
        (fun _ => iprop(idle c X ∗ numAt c N ∗ owns (c : Thread nD τ) xnM fullShare (normed X tok G)
          ∗ bufs c m6 m7 m8 m9 m10 G WG WU WD (k0_pay3 (normed X tok G) WG WU (k0_pay1 (F := F)) WD)
          ∗ ∃ W, owes (c : Thread nD τ) 0 W) : PUnit → sProp 𝕄) := by
  have n1 : k0_cond1 i = 1#1 := (cond1_iff i).2 hf
  have n2 : ¬ k0_cond2 i (N (ix1 0)) = 1#1 := fun h => hi ((cond2_iff i _ hN).1 h).1
  have n3 : condW i (N (ix1 0)) = 1#1 := (condW_iff i _ hN).2 ⟨hf, ha⟩
  have n4 : ¬ k0_cond4 i (N (ix1 0)) = 1#1 := fun h => by have := ((cond4_iff i _ hN).1 h).1; omega
  have n5 : k0_cond5 i (N (ix1 0)) = 1#1 := (cond5_iff i _ hN).2 ha
  unfold condW at n3
  rw [body_eq]
  unfold k0_part1_skel
  dsimp only
  iintro ⟨Hfl, H, ⟨%XN, Hxn⟩, ⟨H6, H7, H8, H9, H10⟩, HW⟩
  iapply (num_part c N) $$ H
  iintro H
  rw [dif_pos n1]
  iapply (load_full c m10 fullShare O) $$ H10
  iintro H10
  iapply (store_full c m10 O (k0_pay1 (F := F))) $$ H10
  iintro H10
  rw [dif_neg n2, if_pos n3]
  iapply (drain_part c i m6 h6 m7 h7 m8 h8 m9 h9 m10 h10 G s hs tok X) $$ [Hfl H6 Hxn HW]
  · isplitl [Hfl]; · iexact Hfl
    isplitl [H6]; · iexact H6
    isplitl [Hxn] <;> iassumption
  iintro ⟨Hid, H6, Hxn, HW⟩
  iapply (num_part c N) $$ H
  iintro H
  rw [dif_neg n4, dif_pos n5]
  iapply (comp_part c m6 m7 m8 m9 m10 G WG WU WD (k0_pay1 (F := F)) (normed X tok G)) $$ [Hxn H6 H7 H8 H9 H10]
  · isplitl [Hxn]; · iexact Hxn
    isplitl [H6]; · iexact H6
    isplitl [H7]; · iexact H7
    isplitl [H8]; · iexact H8
    isplitl [H9] <;> iassumption
  iintro ⟨Hxn, Hbufs⟩
  sl_step
  isplitl [Hid]; · iexact Hid
  isplitl [H]; · iexact H
  isplitl [Hxn]; · iexact Hxn
  isplitl [Hbufs]; · iexact Hbufs
  iexact HW

/-- The second hidden block, with a further block in use: that block's copies are issued; the hidden block is computed. -/
theorem body_ahead (hf : (i 1).val = 1) (ha : (i 0).val + 1 < (N (ix1 0)).toNat) (hb : (i 0).val + 1 < 72) (s : Fin 2)
    (hs : s.val = ((i 0).val + 1) % 2) (XN : Vec F S512x2048 .bf16) :
    iprop(idle c X ∗ tokAt c T ∗ numAt c N ∗ owns (c : Thread nD τ) xnM fullShare XN ∗ bufs c m6 m7 m8 m9 m10 G WG WU WD O)
      ⊢ wp frame (wpE (defs₀ (F := F)) 𝒱 (c : Thread nD τ) bd) Set.univ (body i m6 h6 m7 h7 m8 h8 m9 h9 m10 h10)
        (fun _ => iprop(flying c s (tokB T hT ((i 0).val + 1) hb) X ∗ tokAt c T ∗ numAt c N ∗ owns (c : Thread nD τ) xnM fullShare XN
          ∗ bufs c m6 m7 m8 m9 m10 G WG WU WD (k0_pay3 XN WG WU O WD)) : PUnit → sProp 𝕄) := by
  have n1 : ¬ k0_cond1 i = 1#1 := fun h => by have := (cond1_iff i).1 h; omega
  have n2 : ¬ k0_cond2 i (N (ix1 0)) = 1#1 := fun h => by have := ((cond2_iff i _ hN).1 h).2.1; omega
  have n3 : ¬ condW i (N (ix1 0)) = 1#1 := fun h => by have := ((condW_iff i _ hN).1 h).1; omega
  have n4 : k0_cond4 i (N (ix1 0)) = 1#1 := (cond4_iff i _ hN).2 ⟨hf, ha⟩
  have n5 : k0_cond5 i (N (ix1 0)) = 1#1 := (cond5_iff i _ hN).2 (by omega)
  unfold condW at n3
  rw [body_eq]
  unfold k0_part1_skel
  dsimp only
  iintro ⟨Hid, HT, H, Hxn, Hbufs⟩
  iapply (num_part c N) $$ H
  iintro H
  rw [dif_neg n1, dif_neg n2, if_neg n3]
  iapply (num_part c N) $$ H
  iintro H
  rw [dif_pos n4]
  ihave Hid := (idle_open c s X) $$ Hid
  icases Hid with ⟨%fd, Hb, Hb', Hv, Hv', Hx⟩
  imod (issue_start c s (tokB T hT ((i 0).val + 1) hb) X fd) $$ [Hv Hx Hb] with HI
  · isplitl [Hv]; · iexact Hv
    isplitl [Hx] <;> iassumption
  icases HI with ⟨HI, Hr⟩
  iapply (loop3 c i s hs hb T hT X fd (N (ix1 0)) n4) $$ [HI HT]
  · isplitl [HI] <;> iassumption
  iintro ⟨HI, HT⟩
  ihave HF := (issue_end c s (tokB T hT ((i 0).val + 1) hb) X fd) $$ [HI Hr]
  · isplitl [HI] <;> iassumption
  rw [dif_pos n5]
  iapply (comp_part c m6 m7 m8 m9 m10 G WG WU WD O XN) $$ [Hxn Hbufs]
  · isplitl [Hxn] <;> iassumption
  iintro ⟨Hxn, Hbufs⟩
  sl_step
  isplitl [HF Hb' Hv']
  · unfold flying
    isplitl [HF]; · iexact HF
    isplitl [Hb']; · iexists fd; iexact Hb'
    iexact Hv'
  isplitl [HT]; · iexact HT
  isplitl [H]; · iexact H
  isplitl [Hxn]; · iexact Hxn
  iexact Hbufs

/-- Any other hidden block of a block in use is computed. -/
theorem body_comp (hf : (i 1).val ≠ 0) (ha : (i 0).val < (N (ix1 0)).toNat) (hn : ¬ ((i 1).val = 1 ∧ (i 0).val + 1 < (N (ix1 0)).toNat))
    (XN : Vec F S512x2048 .bf16) :
    iprop(numAt c N ∗ owns (c : Thread nD τ) xnM fullShare XN ∗ bufs c m6 m7 m8 m9 m10 G WG WU WD O)
      ⊢ wp frame (wpE (defs₀ (F := F)) 𝒱 (c : Thread nD τ) bd) Set.univ (body i m6 h6 m7 h7 m8 h8 m9 h9 m10 h10)
        (fun _ => iprop(numAt c N ∗ owns (c : Thread nD τ) xnM fullShare XN
          ∗ bufs c m6 m7 m8 m9 m10 G WG WU WD (k0_pay3 XN WG WU O WD)) : PUnit → sProp 𝕄) := by
  have n1 : ¬ k0_cond1 i = 1#1 := fun h => hf ((cond1_iff i).1 h)
  have n2 : ¬ k0_cond2 i (N (ix1 0)) = 1#1 := fun h => hf ((cond2_iff i _ hN).1 h).2.1
  have n3 : ¬ condW i (N (ix1 0)) = 1#1 := fun h => hf ((condW_iff i _ hN).1 h).1
  have n4 : ¬ k0_cond4 i (N (ix1 0)) = 1#1 := fun h => hn ((cond4_iff i _ hN).1 h)
  have n5 : k0_cond5 i (N (ix1 0)) = 1#1 := (cond5_iff i _ hN).2 ha
  unfold condW at n3
  rw [body_eq]
  unfold k0_part1_skel
  dsimp only
  iintro ⟨H, Hxn, Hbufs⟩
  iapply (num_part c N) $$ H
  iintro H
  rw [dif_neg n1, dif_neg n2, if_neg n3]
  iapply (num_part c N) $$ H
  iintro H
  rw [dif_neg n4, dif_pos n5]
  iapply (comp_part c m6 m7 m8 m9 m10 G WG WU WD O XN) $$ [Hxn Hbufs]
  · isplitl [Hxn] <;> iassumption
  iintro ⟨Hxn, Hbufs⟩
  sl_step
  isplitl [H]; · iexact H
  isplitl [Hxn]; · iexact Hxn
  iexact Hbufs

end Points

end Cert.Experts
-- ==== Proof.Tables.lean ====
/-
  The scalar tables the call prefetches, the weight blocks its windows read through them, and that tables in range keep every
  block inside its array.
-/
module

public import proofs.«01_k».proof.Proof.Body
public import Idealize.ShloMosaic.Lib.PairWhole

@[expose] public section

noncomputable section

namespace Cert.Experts

open Cert.KernelIdeal Cert.KernelIdeal.Gen Cert.KernelIdeal.Facts
open Idealize.ShloMosaic Idealize.ShloMosaic.TcCoe Idealize.ShloMosaic.Tactic
open Idealize.ShloMosaic.ValueIdx

variable {F : FTy → Type} [FloatOps F]

/-- The tables' contents: the rows' sources, the blocks' experts, the number of blocks in use. -/
def tbls (T : S36864.Idx → BitVec 32) (E : S72.Idx → BitVec 32) (N : S1.Idx → BitVec 32) : pre0.Contents (Elt F) :=
  fun | ⟨0, _⟩ => T | ⟨1, _⟩ => E | ⟨2, _⟩ => N | ⟨_ + 3, h⟩ => absurd h (Nat.not_lt.2 (Nat.le_add_left _ _))

variable (T : S36864.Idx → BitVec 32) (E : S72.Idx → BitVec 32) (N : S1.Idx → BitVec 32)

/-- The row block a grid point is in. -/
abbrev rb (i : grid0.Coords) : Fin 72 := ⟨(i 0).val, (i 0).isLt⟩

/-- The hidden block a grid point's weights come from: its own in a block in use, the first elsewhere. -/
def hid (i : grid0.Coords) : ℕ := if (i 0).val < (N (ix1 0)).toNat then (i 1).val else 0

theorem hid_lt (i : grid0.Coords) : hid N i < 7 := by
  have h : (i 1).val < 7 := (i 1).isLt
  unfold hid; split <;> omega

theorem at_exp (i : grid0.Coords) {o : ℕ} (ho : o = (i 0).val) (h : ∀ a, (![o] : Fin 1 → ℕ) a + S1.size a ≤ S72.size a) (h1 : S1.numel = 1) :
    (tbls (F := F) T E N).at 1 (Rect.unit (s := S72) ![o] S1.size h) h1 = E (ix1 (rb i)) := by
  subst ho
  show E _ = E _
  congr 1
  funext a
  apply Fin.ext
  match a with
  | ⟨0, _⟩ =>
    have hz : (Shape.Idx.first (s := S1) (h1.symm ▸ Nat.one_pos) 0).val = 0 := Nat.lt_one_iff.1 (Fin.isLt _)
    show (i 0).val + 1 * (Shape.Idx.first (s := S1) (h1.symm ▸ Nat.one_pos) 0).val = (i 0).val
    rw [hz]; omega

theorem at_num (h : ∀ a, (![0] : Fin 1 → ℕ) a + S1.size a ≤ S1.size a) (h1 : S1.numel = 1) :
    (tbls (F := F) T E N).at 2 (Rect.unit (s := S1) ![0] S1.size h) h1 = N (ix1 0) := by
  show N _ = N _
  congr 1
  funext a
  apply Fin.ext
  have ha : ∀ z : S1.Idx, (z a).val = 0 := fun z => by
    have := (z a).isLt
    match a with
    | ⟨0, _⟩ => exact Nat.lt_one_iff.1 this
  exact (ha _).trans (ha (ix1 0)).symm

theorem atD_num : (tbls (F := F) T E N).atD 2 ![0] = N (ix1 0) := by
  have h : ∀ a, (![0] : Fin 1 → ℕ) a + 1 ≤ S1.size a := by decide
  show (if h : ∀ a, (![0] : Fin 1 → ℕ) a + 1 ≤ S1.size a then N (fun a => ⟨(![0] : Fin 1 → ℕ) a, h a⟩) else default) = _
  rw [dif_pos h]
  congr 1
  funext a
  match a with
  | ⟨0, _⟩ => rfl

theorem word_lt {n k : ℕ} (h : n < k) (hk : k ≤ 72) : (BitVec.ofNat 32 n).toNat = n := by
  rw [BitVec.toNat_ofNat, Nat.mod_eq_of_lt (by omega)]

/-- The hidden block as the index maps compute it. -/
theorem hid_word (hN : (N (ix1 0)).toNat ≤ 72) (i : grid0.Coords) :
    (Scalar.select (Scalar.cmpi .slt (BitVec.ofNat 32 (i 0).val) (N (ix1 0))) (BitVec.ofNat 32 (i 1).val) 0#32 : BitVec 32).toNat
      = hid N i := by
  have h0 : (i 0).val < 72 := (i 0).isLt
  have h1 : (i 1).val < 7 := (i 1).isLt
  have hs := slt_word (i 0).val (by omega) (N (ix1 0)) hN
  have hs' : Scalar.cmpi .slt (BitVec.ofNat 32 (i 0).val) (N (ix1 0)) = (1 : BitVec 1) ↔ (i 0).val < (N (ix1 0)).toNat := hs
  unfold hid Scalar.select
  by_cases h : (i 0).val < (N (ix1 0)).toNat
  · rw [if_pos h, if_pos (hs'.2 h), word_lt h1 (by omega)]
  · rw [if_neg h, if_neg (fun e => h (hs'.1 e))]; rfl

/-- A gate or up block at an expert and a hidden block is inside the stack, its rows whole. -/
theorem col_ok {f : Fin 3 → ℕ} (e k : ℕ) (he : e < 8) (hk : k < 7) (hf : f = ![e, 0, k]) :
    ∃ h : (∀ a, (f a + 1) * S1x2048x1024.size a ≤ S8x2048x7168.size a), EltTy.bits .bf16 = 32
      ∨ (Rect.block (s := S8x2048x7168) S1x2048x1024.size f h).WholeWords (EltTy.packing .bf16) := by
  subst hf
  refine ⟨fun a => ?_, .inr (.inr ⟨by decide, rfl, rfl, rfl⟩)⟩
  match a with
  | ⟨0, _⟩ => show (e + 1) * 1 ≤ 8; omega
  | ⟨1, _⟩ => show (0 + 1) * 2048 ≤ 2048; omega
  | ⟨2, _⟩ => show (k + 1) * 1024 ≤ 7168; omega

/-- A down block likewise, its rows a multiple of a word's two. -/
theorem row_ok {f : Fin 3 → ℕ} (e k : ℕ) (he : e < 8) (hk : k < 7) (hf : f = ![e, k, 0]) :
    ∃ h : (∀ a, (f a + 1) * S1x1024x2048.size a ≤ S8x7168x2048.size a), EltTy.bits .bf16 = 32
      ∨ (Rect.block (s := S8x7168x2048) S1x1024x2048.size f h).WholeWords (EltTy.packing .bf16) := by
  subst hf
  refine ⟨fun a => ?_, .inr (.inl (.inr ⟨by decide, rfl, .inl ⟨?_, ?_⟩⟩))⟩
  · match a with
    | ⟨0, _⟩ => show (e + 1) * 1 ≤ 8; omega
    | ⟨1, _⟩ => show (k + 1) * 1024 ≤ 7168; omega
    | ⟨2, _⟩ => show (0 + 1) * 2048 ≤ 2048; omega
  · show 2 ∣ k * 1024
    omega
  · show 2 ∣ 1024
    omega

variable (hN : (N (ix1 0)).toNat ≤ 72)
include hN

theorem hid_ix (i : grid0.Coords) :
    (Scalar.select (Scalar.cmpi .slt (BitVec.ofNat 32 (i 0).val)
      ((tbls (F := F) T E N).at 2 (Rect.unit (s := S1) ![0] S1.size inb_S1_S1_0) numel1_S1)) (BitVec.ofNat 32 (i 1).val) 0#32 : BitVec 32).toNat
      = hid N i :=
  (congrArg (fun v : BitVec 32 => (Scalar.select (Scalar.cmpi .slt (BitVec.ofNat 32 (i 0).val) v) (BitVec.ofNat 32 (i 1).val) 0#32 : BitVec 32).toNat)
    (at_num (F := F) T E N inb_S1_S1_0 numel1_S1)).trans (hid_word N hN i)

theorem ix_gate (i : grid0.Coords) :
    cc0_transform_2 k0_off1_inb numel1_S1 inb_S1_S1_0 (tbls (F := F) T E N) i = ![(E (ix1 (rb i))).toNat, 0, hid N i] := by
  unfold cc0_transform_2
  dsimp only
  exact congrArg₂ (fun a b : ℕ => ![a, 0, b])
    (congrArg BitVec.toNat (at_exp (F := F) T E N i (word_lt (i 0).isLt (le_refl 72)) (k0_off1_inb i) numel1_S1)) (hid_ix (F := F) T E N hN i)

theorem ix_up (i : grid0.Coords) :
    cc0_transform_3 k0_off1_inb numel1_S1 inb_S1_S1_0 (tbls (F := F) T E N) i = ![(E (ix1 (rb i))).toNat, 0, hid N i] := by
  unfold cc0_transform_3
  dsimp only
  exact congrArg₂ (fun a b : ℕ => ![a, 0, b])
    (congrArg BitVec.toNat (at_exp (F := F) T E N i (word_lt (i 0).isLt (le_refl 72)) (k0_off1_inb i) numel1_S1)) (hid_ix (F := F) T E N hN i)

theorem ix_down (i : grid0.Coords) :
    cc0_transform_4 k0_off1_inb numel1_S1 inb_S1_S1_0 (tbls (F := F) T E N) i = ![(E (ix1 (rb i))).toNat, hid N i, 0] := by
  unfold cc0_transform_4
  dsimp only
  exact congrArg₂ (fun a b : ℕ => ![a, b, 0])
    (congrArg BitVec.toNat (at_exp (F := F) T E N i (word_lt (i 0).isLt (le_refl 72)) (k0_off1_inb i) numel1_S1)) (hid_ix (F := F) T E N hN i)

variable (hE : ∀ x, (E x).toNat < 8)
include hE

/-- Tables in range admit every block. -/
theorem ok_tbls : ok0 (tbls (F := F) T E N) :=
  ⟨fun i => col_ok _ _ (hE _) (hid_lt N i) (ix_gate T E N hN i), fun i => col_ok _ _ (hE _) (hid_lt N i) (ix_up T E N hN i),
    fun i => row_ok _ _ (hE _) (hid_lt N i) (ix_down T E N hN i)⟩

end Cert.Experts

end
-- ==== Proof.Data.lean ====
/-
  The call's proof data: what every buffer holds around each grid point.
-/
module

public import proofs.«01_k».proof.Proof.Tables
public import proofs.«01_k».proof.Proof.Gen.KernelIdeal.Launch
public import Idealize.ShloMosaic.Lib.Pipeline.FrameBody
public import Idealize.ShloMosaic.Lib.Pipeline.TableIdle

@[expose] public section

noncomputable section

namespace Cert.Experts

open Cert.KernelIdeal Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-! ## The arguments, and the tables' contents -/

/-- The contents of the buffers when the call starts: the host operations' results beside the arguments. -/
abbrev V (c : Dev nD) (b : Ref sig .tc) : Buf (Elt F) ((c : Thread nD τ).loc b) := StableHlo.after hostOps0 (fun b => m (c, b)) b

/-- A buffer no host operation writes is as launched. -/
theorem V_kept (c : Dev nD) (b : Ref sig .tc) (hb : b ∉ [main_v0, main_v1, main_v2, main_v3]) : V m c b = m ((c : Thread nD τ).loc b) :=
  StableHlo.after_of_writes_sub (W := [main_v0, main_v1, main_v2, main_v3]) hostOps0 _ (StableHlo.forall_writes_sub_of_map rfl) hb

/-- The one device. -/
abbrev d0 : Dev nD := 0

theorem dev_eq (c : Dev nD) : c = d0 := by revert c; decide

/-- The launch contents of the three tables. -/
abbrev tokT : S36864.Idx → BitVec 32 := m ((d0 : Thread nD τ).loc main_arg2)
abbrev expT : S72.Idx → BitVec 32 := m ((d0 : Thread nD τ).loc main_arg3)
abbrev numT : S1.Idx → BitVec 32 := m ((d0 : Thread nD τ).loc main_arg4)

/-- The tables in range: every source a row of the token array, every expert one of the eight, at most 72 blocks in use. -/
structure InRange : Prop where
  tok : ∀ x, (tokT m x).toNat < 16384
  exp : ∀ x, (expT m x).toNat < 8
  num : (numT m (ix1 0)).toNat ≤ 72

variable (R : InRange m)

/-- The tables' contents, admissible. -/
abbrev adm : (p : Fin 1) → (pcfgs (F := F) p).Adm := fun _ => ⟨tbls (tokT m) (expT m) (numT m), ok_tbls _ _ _ R.num R.exp⟩

/-- The pipeline at these tables. -/
abbrev cfgT : Cfg sig Λ₀ := Pipeline.pin (pcfgs (F := F)) (adm m R) 0

theorem V_tables (c : Dev nD) (k : Fin pre0.K) : V m c (pre0.ref k) = (adm m R 0).1 k := by
  rw [dev_eq c]
  match k with
  | ⟨0, _⟩ => exact V_kept m d0 main_arg2 (by decide)
  | ⟨1, _⟩ => exact V_kept m d0 main_arg3 (by decide)
  | ⟨2, _⟩ => exact V_kept m d0 main_arg4 (by decide)

/-! ## The grid -/

theorem coord0 : ∀ t : Fin grid0.N, (grid0.coords t 0).val = t.val / 7 := by decide +kernel
theorem coord1 : ∀ t : Fin grid0.N, (grid0.coords t 1).val = t.val % 7 := by decide +kernel

theorem lt504 (t : Fin (cfgT m R).N) : t.val < 504 := lt_of_lt_of_eq t.isLt N_0

/-- The number of blocks in use. -/
abbrev used : ℕ := (numT m (ix1 0)).toNat

/-! ## Blocks of the arrays -/

variable (c : Dev nD)

/-- What the fetch at a point reads of a window's array. -/
def blk (w : Fin (cfgT m R).W) (t : Fin (cfgT m R).N) : (((cfgT m R).win w).xblock ((cfgT m R).grid.coords t)).Idx → Elt F ((cfgT m R).win w).elt :=
  (((cfgT m R).win w).blk t).view.read (Elt F) (V m c (Pipeline.arrRef spec0 w))

/-- The tokens as launched. -/
abbrev xT : S16384x2048.Idx → Elt F .f32 := V m c main_arg0
/-- The gain. -/
def gain : Vec F S1x2048 .f32 := V m c main_v3
/-- The gate, up and down blocks of a point. -/
def gateB (t : Fin (cfgT m R).N) : Vec F S1x2048x1024 .bf16 := blk m R c 1 t
def upB (t : Fin (cfgT m R).N) : Vec F S1x2048x1024 .bf16 := blk m R c 2 t
def downB (t : Fin (cfgT m R).N) : Vec F S1x1024x2048 .bf16 := blk m R c 3 t

theorem gain_blk (t : Fin (cfgT m R).N) : (blk m R c 0 t : Vec F S1x2048 .f32) = gain m c := by
  funext (y : S1x2048.Idx)
  show V m c main_v3 _ = V m c main_v3 y
  congr 1
  funext a
  apply Fin.ext
  match a with
  | ⟨0, _⟩ => show 0 * 1 + 1 * (y 0).val = (y 0).val; omega
  | ⟨1, _⟩ => show 0 * 2048 + 1 * (y 1).val = (y 1).val; omega

/-- The sources of block `b`'s rows (of no block past the last). -/
def tokN (b : ℕ) : Fin 512 → Fin 16384 := if h : b < 72 then tokB (tokT m) R.tok b h else fun _ => 0

theorem tokN_eq (b : ℕ) (h : b < 72) : tokN m R b = tokB (tokT m) R.tok b h := dif_pos h

/-- Block `b`'s rows, gathered and normalised. -/
def xnB (b : ℕ) : Vec F S512x2048 .bf16 := normed (xT m c) (tokN m R b) (gain m c)

/-- One point's effect on the result's buffer. -/
def stepO (t : Fin (cfgT m R).N) (O : Vec F S512x2048 .f32) : Vec F S512x2048 .f32 :=
  if t.val / 7 < used m then k0_pay3 (xnB m R c (t.val / 7)) (gateB m R c t) (upB m R c t) O (downB m R c t) else O

/-- The result's buffer after each point. -/
def outN : (n : ℕ) → n < (cfgT m R).N → Vec F S512x2048 .f32
  | 0, h => stepO m R c ⟨0, h⟩ (k0_pay1 (F := F))
  | n + 1, h => stepO m R c ⟨n + 1, h⟩ (if (n + 1) % 7 = 0 then k0_pay1 (F := F) else outN n (Nat.lt_of_succ_lt h))

theorem outN_first (n : ℕ) (h : n < (cfgT m R).N) (hn : n % 7 = 0) : outN m R c n h = stepO m R c ⟨n, h⟩ (k0_pay1 (F := F)) := by
  cases n with
  | zero => rfl
  | succ n => unfold outN; rw [if_pos hn]

theorem outN_later (n : ℕ) (h : n < (cfgT m R).N) (hn : n % 7 ≠ 0) :
    outN m R c n h = stepO m R c ⟨n, h⟩ (outN m R c (n - 1) (Nat.lt_of_le_of_lt (Nat.sub_le _ _) h)) := by
  cases n with
  | zero => exact absurd rfl hn
  | succ n =>
    show stepO m R c ⟨n + 1, h⟩ (if (n + 1) % 7 = 0 then k0_pay1 (F := F) else outN m R c n (Nat.lt_of_succ_lt h)) = _
    rw [if_neg hn]; rfl

/-! ## What is in flight, and the normalised rows -/

/-- The block whose copies may be in flight before point `n`. -/
def nextB (n : ℕ) : ℕ := (n + 5) / 7

/-- Whether they are. -/
abbrev isFlying (n : ℕ) : Prop := n % 7 ≠ 1 ∧ 0 < nextB n ∧ nextB n < used m

/-- The two slots and their cells before point `n`. -/
def copies (n : ℕ) : sProp 𝕄 :=
  if isFlying m n then flying c ⟨nextB n % 2, Nat.mod_lt _ (by decide)⟩ (tokN m R (nextB n)) (xT m c) else idle c (xT m c)

/-- The normalised rows before point `n`: the block's own, past its first hidden block. -/
def rowsAt (n : ℕ) : sProp 𝕄 :=
  if n % 7 ≠ 0 ∧ n / 7 < used m then owns (c : Thread nD τ) xnM fullShare (xnB m R c (n / 7))
  else iprop(∃ XN, owns (c : Thread nD τ) xnM fullShare XN)

theorem rowsAt_any (n : ℕ) : rowsAt m R c n ⊢ (iprop(∃ XN, owns (c : Thread nD τ) xnM fullShare XN) : sProp 𝕄) := by
  unfold rowsAt
  split
  · iintro H; iexists _; iexact H
  · exact .rfl

/-- The state carried from point to point. -/
def inv (n : ℕ) : sProp 𝕄 :=
  iprop(copies m R c n ∗ rowsAt m R c n ∗ tokAt c (tokT m) ∗ expAt c (expT m) ∗ numAt c (numT m) ∗ (∃ r, prngReg c r))

/-- The proof data. -/
def dats (_ : Fin 1) (c : Dev nD) : Dat τ (Elt F) Unit ℕ (Pipeline.UD sig nD τ) ℕ (cfgT m R) c where
  A w := V m c (Pipeline.arrRef spec0 w)
  after w t := match w with
    | ⟨0, _⟩ => blk m R c 0 t
    | ⟨1, _⟩ => blk m R c 1 t
    | ⟨2, _⟩ => blk m R c 2 t
    | ⟨3, _⟩ => blk m R c 3 t
    | ⟨4, _⟩ => outN m R c t.val t.isLt
  Φ t := inv m R c t.val
  q _ := fullShare
  owed _ := 0

theorem A_eq (c : Dev nD) (w : Fin (cfgT m R).W) : (dats m R 0 c).A w = V m c (Pipeline.arrRef spec0 w) := by
  dsimp only [dats]
theorem after0 (t : Fin (cfgT m R).N) : (dats m R 0 c).after 0 t = blk m R c 0 t := rfl
theorem after1 (t : Fin (cfgT m R).N) : (dats m R 0 c).after 1 t = blk m R c 1 t := rfl
theorem after2 (t : Fin (cfgT m R).N) : (dats m R 0 c).after 2 t = blk m R c 2 t := rfl
theorem after3 (t : Fin (cfgT m R).N) : (dats m R 0 c).after 3 t = blk m R c 3 t := rfl
theorem after4 (t : Fin (cfgT m R).N) : (dats m R 0 c).after 4 t = outN m R c t.val t.isLt := rfl

/-- An input's buffer holds its block whenever the body runs. -/
theorem before_in (w : Fin (cfgT m R).W) (hw : ((cfgT m R).win w).isOut = false) (hi : ∀ i, (cfgT m R).idle w i = false)
    (hc : ∀ i a, ((cfgT m R).win w).clip i a = none)
    (X : (t : Fin (cfgT m R).N) → ((cfgT m R).win w).block.Idx → Elt F ((cfgT m R).win w).elt)
    (hX : ∀ t, (dats m R 0 c).after w t = X t) (hb : ∀ t, ((cfgT m R).win w).cut ((cfgT m R).grid.coords t) (X t) = blk m R c w t)
    (t : Fin (cfgT m R).N) (d) : (dats m R 0 c).before w t d = X t := by
  have e : ∀ t, (dats m R 0 c).blockOf w t = blk m R c w t := fun t => by unfold Dat.blockOf blk; rw [A_eq]
  rw [(dats m R 0 c).before_in_eq_fetched w hw hi (fun t t' _ => funext fun a => (hc _ a).trans (hc _ a).symm) (fun t => by rw [hX, hb, e]) t d]
  unfold Dat.fetched
  rw [e, ← hb t, Pipeline.fill_of_clip_none w _ (hc _) d (X t), Window.fill_cut]

theorem before0 (t : Fin (cfgT m R).N) (d) : (dats m R 0 c).before 0 t d = blk m R c 0 t :=
  before_in m R c 0 rfl (fun _ => rfl) (fun _ _ => rfl) (fun t => blk m R c 0 t) (after0 m R c) (fun _ => rfl) t d
theorem before1 (t : Fin (cfgT m R).N) (d) : (dats m R 0 c).before 1 t d = blk m R c 1 t :=
  before_in m R c 1 rfl (fun _ => rfl) (fun _ _ => rfl) (fun t => blk m R c 1 t) (after1 m R c) (fun _ => rfl) t d
theorem before2 (t : Fin (cfgT m R).N) (d) : (dats m R 0 c).before 2 t d = blk m R c 2 t :=
  before_in m R c 2 rfl (fun _ => rfl) (fun _ _ => rfl) (fun t => blk m R c 2 t) (after2 m R c) (fun _ => rfl) t d
theorem before3 (t : Fin (cfgT m R).N) (d) : (dats m R 0 c).before 3 t d = blk m R c 3 t :=
  before_in m R c 3 rfl (fun _ => rfl) (fun _ _ => rfl) (fun t => blk m R c 3 t) (after3 m R c) (fun _ => rfl) t d

/-! ## The result's window -/

theorem index4 (t : Fin (cfgT m R).N) : ((cfgT m R).win 4).index t = ![t.val / 7, 0] := by
  show ![(BitVec.ofNat 32 (grid0.coords t 0).val).toNat, 0] = _
  rw [coord0, word_lt (n := t.val / 7) (k := 72) (by have := lt504 m R t; omega) (by decide)]

theorem flush4 (t : Fin (cfgT m R).N) : ((cfgT m R).win 4).flush t = decide (t.val % 7 = 6) := by
  have ht := lt504 m R t
  unfold Window.flush
  have e1 : ((cfgT m R).win 4).isOut = true := rfl
  have hN : (cfgT m R).grid.N = 504 := N_0
  have hN' : ((pcfgs (F := F) 0).gridAt (tbls (tokT m) (expT m) (numT m))).N = 504 := N_0
  rw [e1, Bool.true_and, Bool.eq_iff_iff]
  simp only [Bool.or_eq_true, decide_eq_true_eq]
  constructor
  · rintro (h | ⟨h, hne⟩)
    · omega
    · by_contra h6
      apply hne
      rw [index4, index4]
      have : (t.val + 1) / 7 = t.val / 7 := by omega
      dsimp only
      rw [this]
  · intro h6
    by_cases h : t.val + 1 = 504
    · left; omega
    · right
      refine ⟨by omega, fun e => ?_⟩
      rw [index4, index4] at e
      have := congrFun e 0
      change (t.val + 1) / 7 = t.val / 7 at this
      omega

theorem idle4 (t : Fin (cfgT m R).N) : (cfgT m R).idle 4 ((cfgT m R).grid.coords t) = decide (t.val % 7 ≠ 0 ∧ ¬ t.val / 7 < used m) := by
  show (!(k0_cond1 (grid0.coords t) == 1#1) && !(k0_cond5 (grid0.coords t) ((tbls (F := F) (tokT m) (expT m) (numT m)).atD 2 ![0]) == 1#1)) = _
  rw [atD_num, Bool.eq_iff_iff]
  simp only [Bool.and_eq_true, Bool.not_eq_true', beq_eq_false_iff_ne, ne_eq, decide_eq_true_eq]
  rw [cond1_iff, cond5_iff _ _ R.num, coord0, coord1]

theorem fresh4 (n : ℕ) (hn : n ≤ (cfgT m R).N) : (cfgT m R).fresh 4 n = decide (n % 7 = 0) := by
  refine (cfgT m R).fresh_tab 4 (fun n => decide (n % 7 = 0)) rfl (fun t => ?_) n hn
  rw [flush4, idle4, Bool.eq_iff_iff]
  simp only [Bool.or_eq_true, Bool.and_eq_true, decide_eq_true_eq]
  omega

theorem before4 (t : Fin (cfgT m R).N) (h : t.val % 7 ≠ 0) (d) :
    (dats m R 0 c).before 4 t d = outN m R c (t.val - 1) (Nat.lt_of_le_of_lt (Nat.sub_le _ _) t.isLt) := by
  rw [(dats m R 0 c).before_out_traj 4 rfl (fun _ _ => rfl) (fun t h0 hi hf => ?_) t.val t rfl d, fresh4 m R t.val (Nat.le_of_lt t.isLt), if_neg (by simpa using h),
    after4]
  rw [idle4, decide_eq_true_eq] at hi
  rw [after4, after4, outN_later m R c _ _ hi.1]
  unfold stepO
  rw [if_neg hi.2]

end Cert.Experts

end
-- ==== Proof.Step.lean ====
/-
  The grid body at every point keeps the call's proof data.
-/
module

public import proofs.«01_k».proof.Proof.Data
public import proofs.«01_k».proof.Proof.Gen.KernelIdeal.Launch
public import Idealize.ShloMosaic.Lib.Pipeline.FrameBody
public import Idealize.ShloMosaic.Lib.Pipeline.TableIdle

@[expose] public section

noncomputable section

namespace Cert.Experts

open Cert.KernelIdeal Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (R : InRange m) (c : Dev nD)

/-! ## The staging buffers of a point -/

abbrev ms0 (t : Fin (cfgT m R).N) := spec0_0.stage ((cfgT m R).slots t 0)
abbrev ms1 (t : Fin (cfgT m R).N) := spec0_1.stage ((cfgT m R).slots t 1)
abbrev ms2 (t : Fin (cfgT m R).N) := spec0_2.stage ((cfgT m R).slots t 2)
abbrev ms3 (t : Fin (cfgT m R).N) := spec0_3.stage ((cfgT m R).slots t 3)
abbrev ms4 (t : Fin (cfgT m R).N) := spec0_4.stage ((cfgT m R).slots t 4)

/-- The body at a point. -/
abbrev bodyAt (t : Fin (cfgT m R).N) : Prog (TpuEff nD τ sig (Elt F) Λ₀ .tc) PUnit :=
  body (grid0.coords t) (ms0 m R t) (hstage0_0 (((cfgT m R).slots t 0).cast nbuf0_0)) (ms1 m R t) (hstage0_1 (((cfgT m R).slots t 1).cast nbuf0_1))
    (ms2 m R t) (hstage0_2 (((cfgT m R).slots t 2).cast nbuf0_2)) (ms3 m R t) (hstage0_3 (((cfgT m R).slots t 3).cast nbuf0_3))
    (ms4 m R t) (hstage0_4 (((cfgT m R).slots t 4).cast nbuf0_4))

theorem body_row (t : Fin (cfgT m R).N) : defs₀ (F := F) .tc (cfgT m R).body ((cfgT m R).bodyArgs t ((cfgT m R).slots t)) = bodyAt m R t := by
  unfold defs₀; rw [Defs.onTc_tc]

/-- The inputs' blocks in their buffers. -/
abbrev ins (t : Fin (cfgT m R).N) : sProp 𝕄 :=
  iprop(owns (c : Thread nD τ) (ms0 m R t) fullShare (gain m c) ∗ owns (c : Thread nD τ) (ms1 m R t) fullShare (gateB m R c t)
    ∗ owns (c : Thread nD τ) (ms2 m R t) fullShare (upB m R c t) ∗ owns (c : Thread nD τ) (ms3 m R t) fullShare (downB m R c t))

/-- The result's buffer as the body finds it and as it leaves it. -/
abbrev found (t : Fin (cfgT m R).N) : sProp 𝕄 := iprop(∃ d, owns (c : Thread nD τ) (ms4 m R t) fullShare ((dats m R 0 c).before 4 t d))
abbrev left (t : Fin (cfgT m R).N) : sProp 𝕄 := (dats m R 0 c).leavesExact 4 t

theorem left_live (t : Fin (cfgT m R).N) (h : t.val % 7 = 0 ∨ t.val / 7 < used m) :
    left m R c t = owns (c : Thread nD τ) (ms4 m R t) fullShare (outN m R c t.val t.isLt) := by
  have hi : (cfgT m R).idle 4 ((cfgT m R).grid.coords t) = false := by
    rw [idle4, decide_eq_false_iff_not]
    rintro ⟨h1, h2⟩
    rcases h with h | h
    · exact h1 h
    · exact h2 h
  unfold left Dat.leavesExact
  rw [hi, after4]
  rfl

theorem left_rest (t : Fin (cfgT m R).N) (hf : t.val % 7 ≠ 0) (ha : ¬ t.val / 7 < used m) :
    owns (c : Thread nD τ) (ms4 m R t) fullShare (outN m R c (t.val - 1) (Nat.lt_of_le_of_lt (Nat.sub_le _ _) t.isLt)) ⊢ left m R c t := by
  have hi : (cfgT m R).idle 4 ((cfgT m R).grid.coords t) = true := by
    rw [idle4, decide_eq_true_eq]; exact ⟨hf, ha⟩
  by_cases h6 : t.val % 7 = 6
  · have hfl : ((cfgT m R).win 4).flush t = true := by rw [flush4, decide_eq_true_eq]; exact h6
    unfold left Dat.leavesExact
    rw [hi, hfl, after4, outN_later m R c _ _ hf]
    unfold stepO
    rw [if_neg ha]
    exact .rfl
  · have hfl : ((cfgT m R).win 4).flush t = false := by rw [flush4, decide_eq_false_iff_not]; exact h6
    unfold left
    rw [(dats m R 0 c).leavesExact_idle 4 t hi hfl]
    have key (d : ((cfgT m R).win 4).block.Idx → Elt F ((cfgT m R).win 4).elt) :
        owns (c : Thread nD τ) (ms4 m R t) fullShare (outN m R c (t.val - 1) (Nat.lt_of_le_of_lt (Nat.sub_le _ _) t.isLt)) ⊢ found m R c t := by
      iintro H
      iexists d
      rw [before4 m R c t hf]
      iexact H
    exact key (k0_pay1 (F := F))

/-! ## The state between points -/

theorem copies_idle (n : ℕ) (h : ¬ isFlying m n) : copies m R c n = idle c (xT m c) := if_neg h
theorem copies_flying (n b : ℕ) (h : isFlying m n) (hb : nextB n = b) (s : Fin 2) (hs : s.val = b % 2) :
    copies m R c n = flying c s (tokN m R b) (xT m c) := by
  subst hb
  have e : s = ⟨nextB n % 2, Nat.mod_lt _ (by decide)⟩ := Fin.ext hs
  rw [e]
  exact if_pos h
theorem rowsAt_own (n b : ℕ) (h : n % 7 ≠ 0 ∧ n / 7 < used m) (hb : n / 7 = b) :
    rowsAt m R c n = owns (c : Thread nD τ) xnM fullShare (xnB m R c b) := by subst hb; exact if_pos h
theorem rowsAt_free (n : ℕ) (h : ¬ (n % 7 ≠ 0 ∧ n / 7 < used m)) :
    rowsAt m R c n = iprop(∃ XN, owns (c : Thread nD τ) xnM fullShare XN) := if_neg h

/-- The normalised rows of the block at hand serve for whatever the next point expects. -/
theorem rowsAt_next (n b : ℕ) (hb : n / 7 = b) (ha : b < used m) :
    (owns (c : Thread nD τ) xnM fullShare (xnB m R c b) : sProp 𝕄) ⊢ rowsAt m R c (n + 1) := by
  by_cases h : (n + 1) % 7 = 0
  · rw [rowsAt_free m R c _ (by omega)]
    iintro H; iexists _; iexact H
  · rw [rowsAt_own m R c (n + 1) b (by omega) (by omega)]

/-- A run that needs only part of what is held keeps the rest. -/
theorem within {p : Prog (TpuEff nD τ sig (Elt F) Λ₀ .tc) PUnit} {P P' K Q Q' : sProp 𝕄}
    (h : P ⊢ wp frame (wpE (defs₀ (F := F)) Variants.none (c : Thread nD τ) none) Set.univ p (fun _ => Q))
    (hp : P' ⊢ iprop(P ∗ K)) (hq : iprop(Q ∗ K) ⊢ Q') :
    P' ⊢ wp frame (wpE (defs₀ (F := F)) Variants.none (c : Thread nD τ) none) Set.univ p (fun _ => Q') :=
  hp.trans ((sep_mono h .rfl).trans ((wp_frame_r _ _ _).trans (wp_mono _ _ _ fun _ => hq)))

/-- The body's obligation at a point, spelled. -/
theorem point (t : Fin (cfgT m R).N) (O : Vec F S512x2048 .f32)
    (hO : t.val % 7 ≠ 0 → O = outN m R c (t.val - 1) (Nat.lt_of_le_of_lt (Nat.sub_le _ _) t.isLt)) :
    iprop(inv m R c t.val ∗ (∃ W, owes (c : Thread nD τ) 0 W) ∗ ins m R c t ∗ owns (c : Thread nD τ) (ms4 m R t) fullShare O)
      ⊢ wp frame (wpE (defs₀ (F := F)) Variants.none (c : Thread nD τ) none) Set.univ (bodyAt m R t)
        (fun _ => iprop(inv m R c (t.val + 1) ∗ (∃ W, owes (c : Thread nD τ) 0 W) ∗ ins m R c t ∗ left m R c t) : PUnit → sProp 𝕄) := by
  have h0 : (grid0.coords t 0).val = t.val / 7 := coord0 t
  have h1 : (grid0.coords t 1).val = t.val % 7 := coord1 t
  have hu := R.num
  have hua : used m ≤ 72 := R.num
  have ht := lt504 m R t
  by_cases hf : t.val % 7 = 0
  · have c1 : (grid0.coords t 1).val = 0 := h1.trans hf
    have hidle : ¬ isFlying m (t.val + 1) := fun h => h.1 (by omega)
    have hrows : ¬ (t.val % 7 ≠ 0 ∧ t.val / 7 < used m) := fun h => h.1 hf
    rw [left_live m R c t (.inl hf), outN_first m R c t.val t.isLt hf]
    unfold inv
    rw [copies_idle m R c _ hidle, rowsAt_free m R c _ hrows]
    by_cases ha : t.val / 7 < used m
    · have ca : (grid0.coords t 0).val < (numT m (ix1 0)).toNat := by rw [h0]; exact ha
      have hs : stepO m R c ⟨t.val, t.isLt⟩ (k0_pay1 (F := F))
          = k0_pay3 (xnB m R c (t.val / 7)) (gateB m R c t) (upB m R c t) (k0_pay1 (F := F)) (downB m R c t) := if_pos ha
      have hrows' : (t.val + 1) % 7 ≠ 0 ∧ (t.val + 1) / 7 < used m := by omega
      have hb' : (t.val + 1) / 7 = t.val / 7 := by omega
      rw [hs, rowsAt_own m R c (t.val + 1) (t.val / 7) hrows' hb']
      by_cases hb : t.val / 7 = 0
      · have hidle' : ¬ isFlying m t.val := fun h => by have := h.2.1; unfold nextB at this; omega
        have e : xnB m R c (t.val / 7) = normed (xT m c) (tokB (tokT m) R.tok 0 h072) (gain m c) := by
          unfold xnB; rw [hb, tokN_eq m R 0 h072]
        have c0 : (grid0.coords t 0).val = 0 := h0.trans hb
        rw [copies_idle m R c _ hidle', e]
        refine within c (K := iprop(expAt c (expT m) ∗ (∃ r, prngReg c r)))
          (body_first c (grid0.coords t) _ _ _ _ _ _ _ _ _ _ (numT m) hu (gain m c) (gateB m R c t) (upB m R c t) (downB m R c t) O (tokT m) R.tok (xT m c) c1 c0 ca) ?_ ?_
        · iintro ⟨⟨Hi, Hx, Ht, He, Hn, Hp⟩, HW, ⟨G0, G1, G2, G3⟩, G4⟩
          isplitl [Hi Ht Hn Hx G0 G1 G2 G3 G4 HW]
          · isplitl [Hi]; · iexact Hi
            isplitl [Ht]; · iexact Ht
            isplitl [Hn]; · iexact Hn
            isplitl [Hx]; · iexact Hx
            isplitl [G0 G1 G2 G3 G4]
            · isplitl [G0]; · iexact G0
              isplitl [G1]; · iexact G1
              isplitl [G2]; · iexact G2
              isplitl [G3]; · iexact G3
              iexact G4
            iexact HW
          isplitl [He]; · iexact He
          iexact Hp
        · iintro ⟨⟨Hi, Ht, Hn, Hx, ⟨G0, G1, G2, G3, G4⟩, HW⟩, He, Hp⟩
          isplitl [Hi Hx Ht He Hn Hp]
          · isplitl [Hi]; · iexact Hi
            isplitl [Hx]; · iexact Hx
            isplitl [Ht]; · iexact Ht
            isplitl [He]; · iexact He
            isplitl [Hn]; · iexact Hn
            iexact Hp
          isplitl [HW]; · iexact HW
          isplitl [G0 G1 G2 G3]
          · isplitl [G0]; · iexact G0
            isplitl [G1]; · iexact G1
            isplitl [G2]; · iexact G2
            iexact G3
          iexact G4
      · have hfly : isFlying m t.val := ⟨by omega, by unfold nextB; omega, by unfold nextB; omega⟩
        have hnb : nextB t.val = t.val / 7 := by unfold nextB; omega
        have c0 : (grid0.coords t 0).val ≠ 0 := by rw [h0]; exact hb
        have hslot : (⟨(t.val / 7) % 2, Nat.mod_lt _ (by decide)⟩ : Fin 2).val = (grid0.coords t 0).val % 2 := by rw [h0]
        rw [copies_flying m R c t.val (t.val / 7) hfly hnb ⟨(t.val / 7) % 2, Nat.mod_lt _ (by decide)⟩ rfl]
        refine within c (K := iprop(tokAt c (tokT m) ∗ expAt c (expT m) ∗ (∃ r, prngReg c r)))
          (body_next c (grid0.coords t) _ _ _ _ _ _ _ _ _ _ (numT m) hu (gain m c) (gateB m R c t) (upB m R c t) (downB m R c t) O (xT m c) c1 c0 ca _ hslot (tokN m R (t.val / 7))) ?_ ?_
        · iintro ⟨⟨Hi, Hx, Ht, He, Hn, Hp⟩, HW, ⟨G0, G1, G2, G3⟩, G4⟩
          isplitl [Hi Hn Hx G0 G1 G2 G3 G4 HW]
          · isplitl [Hi]; · iexact Hi
            isplitl [Hn]; · iexact Hn
            isplitl [Hx]; · iexact Hx
            isplitl [G0 G1 G2 G3 G4]
            · isplitl [G0]; · iexact G0
              isplitl [G1]; · iexact G1
              isplitl [G2]; · iexact G2
              isplitl [G3]; · iexact G3
              iexact G4
            iexact HW
          isplitl [Ht]; · iexact Ht
          isplitl [He]; · iexact He
          iexact Hp
        · iintro ⟨⟨Hi, Hn, Hx, ⟨G0, G1, G2, G3, G4⟩, HW⟩, Ht, He, Hp⟩
          isplitl [Hi Hx Ht He Hn Hp]
          · isplitl [Hi]; · iexact Hi
            isplitl [Hx]; · iexact Hx
            isplitl [Ht]; · iexact Ht
            isplitl [He]; · iexact He
            isplitl [Hn]; · iexact Hn
            iexact Hp
          isplitl [HW]; · iexact HW
          isplitl [G0 G1 G2 G3]
          · isplitl [G0]; · iexact G0
            isplitl [G1]; · iexact G1
            isplitl [G2]; · iexact G2
            iexact G3
          iexact G4
    · have ca : ¬ (grid0.coords t 0).val < (numT m (ix1 0)).toNat := by rw [h0]; exact ha
      have hs : stepO m R c ⟨t.val, t.isLt⟩ (k0_pay1 (F := F)) = k0_pay1 (F := F) := if_neg ha
      have hidle' : ¬ isFlying m t.val := fun h => by have := h.2.2; unfold nextB at this; omega
      have hrows' : ¬ ((t.val + 1) % 7 ≠ 0 ∧ (t.val + 1) / 7 < used m) := by omega
      rw [hs, copies_idle m R c _ hidle', rowsAt_free m R c _ hrows']
      refine within c (K := iprop(idle c (xT m c) ∗ (∃ XN, owns (c : Thread nD τ) xnM fullShare XN) ∗ tokAt c (tokT m) ∗ expAt c (expT m) ∗ (∃ r, prngReg c r) ∗ (∃ W, owes (c : Thread nD τ) 0 W) ∗ ins m R c t))
          (body_zero c (grid0.coords t) _ _ _ _ _ _ _ _ _ _ (numT m) hu O c1 ca) ?_ ?_
      · iintro ⟨⟨Hi, Hx, Ht, He, Hn, Hp⟩, HW, ⟨G0, G1, G2, G3⟩, G4⟩
        isplitl [Hn G4]
        · isplitl [Hn]; · iexact Hn
          iexact G4
        isplitl [Hi]; · iexact Hi
        isplitl [Hx]; · iexact Hx
        isplitl [Ht]; · iexact Ht
        isplitl [He]; · iexact He
        isplitl [Hp]; · iexact Hp
        isplitl [HW]; · iexact HW
        isplitl [G0]; · iexact G0
        isplitl [G1]; · iexact G1
        isplitl [G2]; · iexact G2
        iexact G3
      · iintro ⟨⟨Hn, G4⟩, Hi, Hx, Ht, He, Hp, HW, G0, G1, G2, G3⟩
        isplitl [Hi Hx Ht He Hn Hp]
        · isplitl [Hi]; · iexact Hi
          isplitl [Hx]; · iexact Hx
          isplitl [Ht]; · iexact Ht
          isplitl [He]; · iexact He
          isplitl [Hn]; · iexact Hn
          iexact Hp
        isplitl [HW]; · iexact HW
        isplitl [G0 G1 G2 G3]
        · isplitl [G0]; · iexact G0
          isplitl [G1]; · iexact G1
          isplitl [G2]; · iexact G2
          iexact G3
        iexact G4
  · have c1 : (grid0.coords t 1).val ≠ 0 := by rw [h1]; exact hf
    unfold inv
    rw [hO hf]
    by_cases ha : t.val / 7 < used m
    · have ca : (grid0.coords t 0).val < (numT m (ix1 0)).toNat := by rw [h0]; exact ha
      have hs (O) : stepO m R c ⟨t.val, t.isLt⟩ O
          = k0_pay3 (xnB m R c (t.val / 7)) (gateB m R c t) (upB m R c t) O (downB m R c t) := if_pos ha
      rw [left_live m R c t (.inr ha), outN_later m R c t.val t.isLt hf, hs, rowsAt_own m R c t.val (t.val / 7) ⟨hf, ha⟩ rfl]
      by_cases hn : t.val % 7 = 1 ∧ t.val / 7 + 1 < used m
      · have hidle : ¬ isFlying m t.val := fun h => h.1 hn.1
        have hnb : nextB (t.val + 1) = t.val / 7 + 1 := by unfold nextB; omega
        have hfly : isFlying m (t.val + 1) := ⟨by omega, by omega, by omega⟩
        have hlt : (grid0.coords t 0).val + 1 < 72 := by rw [h0]; omega
        have cn : (grid0.coords t 0).val + 1 < (numT m (ix1 0)).toNat := by rw [h0]; exact hn.2
        have hslot : (⟨(t.val / 7 + 1) % 2, Nat.mod_lt _ (by decide)⟩ : Fin 2).val = ((grid0.coords t 0).val + 1) % 2 := by rw [h0]
        have htok : tokN m R (t.val / 7 + 1) = tokB (tokT m) R.tok ((grid0.coords t 0).val + 1) hlt := by
          rw [← h0]; exact tokN_eq m R _ hlt
        rw [copies_idle m R c _ hidle, copies_flying m R c (t.val + 1) (t.val / 7 + 1) hfly hnb ⟨(t.val / 7 + 1) % 2, Nat.mod_lt _ (by decide)⟩ rfl,
          htok]
        refine within c (K := iprop(expAt c (expT m) ∗ (∃ r, prngReg c r) ∗ (∃ W, owes (c : Thread nD τ) 0 W)))
          (body_ahead c (grid0.coords t) _ _ _ _ _ _ _ _ _ _ (numT m) hu (gain m c) (gateB m R c t) (upB m R c t) (downB m R c t) (outN m R c (t.val - 1) (Nat.lt_of_le_of_lt (Nat.sub_le _ _) t.isLt)) (tokT m) R.tok (xT m c) (h1.trans hn.1) cn hlt _ hslot (xnB m R c (t.val / 7))) ?_ ?_
        · iintro ⟨⟨Hi, Hx, Ht, He, Hn, Hp⟩, HW, ⟨G0, G1, G2, G3⟩, G4⟩
          isplitl [Hi Ht Hn Hx G0 G1 G2 G3 G4]
          · isplitl [Hi]; · iexact Hi
            isplitl [Ht]; · iexact Ht
            isplitl [Hn]; · iexact Hn
            isplitl [Hx]; · iexact Hx
            isplitl [G0]; · iexact G0
            isplitl [G1]; · iexact G1
            isplitl [G2]; · iexact G2
            isplitl [G3]; · iexact G3
            iexact G4
          isplitl [He]; · iexact He
          isplitl [Hp]; · iexact Hp
          iexact HW
        · iintro ⟨⟨Hi, Ht, Hn, Hx, ⟨G0, G1, G2, G3, G4⟩⟩, He, Hp, HW⟩
          isplitl [Hi Hx Ht He Hn Hp]
          · isplitl [Hi]; · iexact Hi
            isplitl [Hx]
            · iapply (rowsAt_next m R c t.val (t.val / 7) rfl ha) $$ Hx
            isplitl [Ht]; · iexact Ht
            isplitl [He]; · iexact He
            isplitl [Hn]; · iexact Hn
            iexact Hp
          isplitl [HW]; · iexact HW
          isplitl [G0 G1 G2 G3]
          · isplitl [G0]; · iexact G0
            isplitl [G1]; · iexact G1
            isplitl [G2]; · iexact G2
            iexact G3
          iexact G4
      · have cn : ¬ ((grid0.coords t 1).val = 1 ∧ (grid0.coords t 0).val + 1 < (numT m (ix1 0)).toNat) := by rw [h0, h1]; exact hn
        have hc : copies m R c (t.val + 1) = copies m R c t.val := by
          by_cases h1' : t.val % 7 = 1
          · have i1 : ¬ isFlying m t.val := fun h => h.1 h1'
            have i2 : ¬ isFlying m (t.val + 1) := fun h => by have := h.2.2; unfold nextB at this; omega
            rw [copies_idle m R c _ i1, copies_idle m R c _ i2]
          · have hnb : nextB (t.val + 1) = nextB t.val := by unfold nextB; omega
            by_cases hfl : isFlying m t.val
            · have hfl' : isFlying m (t.val + 1) := ⟨by omega, hnb ▸ hfl.2.1, hnb ▸ hfl.2.2⟩
              rw [copies_flying m R c _ _ hfl rfl ⟨nextB t.val % 2, Nat.mod_lt _ (by decide)⟩ rfl,
                copies_flying m R c _ _ hfl' hnb ⟨nextB t.val % 2, Nat.mod_lt _ (by decide)⟩ rfl]
            · have hfl' : ¬ isFlying m (t.val + 1) := fun h => hfl ⟨h1', hnb ▸ h.2.1, hnb ▸ h.2.2⟩
              rw [copies_idle m R c _ hfl, copies_idle m R c _ hfl']
        rw [hc]
        refine within c (K := iprop(copies m R c t.val ∗ tokAt c (tokT m) ∗ expAt c (expT m) ∗ (∃ r, prngReg c r) ∗ (∃ W, owes (c : Thread nD τ) 0 W)))
          (body_comp c (grid0.coords t) _ _ _ _ _ _ _ _ _ _ (numT m) hu (gain m c) (gateB m R c t) (upB m R c t) (downB m R c t) (outN m R c (t.val - 1) (Nat.lt_of_le_of_lt (Nat.sub_le _ _) t.isLt)) c1 ca cn (xnB m R c (t.val / 7))) ?_ ?_
        · iintro ⟨⟨Hi, Hx, Ht, He, Hn, Hp⟩, HW, ⟨G0, G1, G2, G3⟩, G4⟩
          isplitl [Hn Hx G0 G1 G2 G3 G4]
          · isplitl [Hn]; · iexact Hn
            isplitl [Hx]; · iexact Hx
            isplitl [G0]; · iexact G0
            isplitl [G1]; · iexact G1
            isplitl [G2]; · iexact G2
            isplitl [G3]; · iexact G3
            iexact G4
          isplitl [Hi]; · iexact Hi
          isplitl [Ht]; · iexact Ht
          isplitl [He]; · iexact He
          isplitl [Hp]; · iexact Hp
          iexact HW
        · iintro ⟨⟨Hn, Hx, ⟨G0, G1, G2, G3, G4⟩⟩, Hi, Ht, He, Hp, HW⟩
          isplitl [Hi Hx Ht He Hn Hp]
          · isplitl [Hi]; · iexact Hi
            isplitl [Hx]
            · iapply (rowsAt_next m R c t.val (t.val / 7) rfl ha) $$ Hx
            isplitl [Ht]; · iexact Ht
            isplitl [He]; · iexact He
            isplitl [Hn]; · iexact Hn
            iexact Hp
          isplitl [HW]; · iexact HW
          isplitl [G0 G1 G2 G3]
          · isplitl [G0]; · iexact G0
            isplitl [G1]; · iexact G1
            isplitl [G2]; · iexact G2
            iexact G3
          iexact G4
    · have ca : ¬ (grid0.coords t 0).val < (numT m (ix1 0)).toNat := by rw [h0]; exact ha
      have i1 : ¬ isFlying m t.val := fun h => by have := h.2.2; have := h.1; unfold nextB at *; omega
      have i2 : ¬ isFlying m (t.val + 1) := fun h => by have := h.2.2; unfold nextB at this; omega
      have hrows : ¬ (t.val % 7 ≠ 0 ∧ t.val / 7 < used m) := by omega
      have hrows' : ¬ ((t.val + 1) % 7 ≠ 0 ∧ (t.val + 1) / 7 < used m) := by omega
      rw [copies_idle m R c _ i1, copies_idle m R c _ i2, rowsAt_free m R c _ hrows, rowsAt_free m R c _ hrows']
      refine within c (K := iprop(idle c (xT m c) ∗ (∃ XN, owns (c : Thread nD τ) xnM fullShare XN) ∗ tokAt c (tokT m) ∗ expAt c (expT m) ∗ (∃ r, prngReg c r) ∗ (∃ W, owes (c : Thread nD τ) 0 W) ∗ ins m R c t ∗ owns (c : Thread nD τ) (ms4 m R t) fullShare (outN m R c (t.val - 1) (Nat.lt_of_le_of_lt (Nat.sub_le _ _) t.isLt))))
          (body_rest c (grid0.coords t) _ _ _ _ _ _ _ _ _ _ (numT m) hu c1 ca) ?_ ?_
      · iintro ⟨⟨Hi, Hx, Ht, He, Hn, Hp⟩, HW, G, G4⟩
        isplitl [Hn]; · iexact Hn
        isplitl [Hi]; · iexact Hi
        isplitl [Hx]; · iexact Hx
        isplitl [Ht]; · iexact Ht
        isplitl [He]; · iexact He
        isplitl [Hp]; · iexact Hp
        isplitl [HW]; · iexact HW
        isplitl [G]; · iexact G
        iexact G4
      · iintro ⟨Hn, Hi, Hx, Ht, He, Hp, HW, G, G4⟩
        isplitl [Hi Hx Ht He Hn Hp]
        · isplitl [Hi]; · iexact Hi
          isplitl [Hx]; · iexact Hx
          isplitl [Ht]; · iexact Ht
          isplitl [He]; · iexact He
          isplitl [Hn]; · iexact Hn
          iexact Hp
        isplitl [HW]; · iexact HW
        isplitl [G]; · iexact G
        iapply (left_rest m R c t hf ha) $$ G4

/-- The inputs' buffers, each at its block. -/
theorem ins_of (t : Fin (cfgT m R).N) :
    iprop((∃ d, owns (c : Thread nD τ) (ms0 m R t) fullShare ((dats m R 0 c).before 0 t d))
      ∗ (∃ d, owns (c : Thread nD τ) (ms1 m R t) fullShare ((dats m R 0 c).before 1 t d))
      ∗ (∃ d, owns (c : Thread nD τ) (ms2 m R t) fullShare ((dats m R 0 c).before 2 t d))
      ∗ (∃ d, owns (c : Thread nD τ) (ms3 m R t) fullShare ((dats m R 0 c).before 3 t d)))
      ⊢ (ins m R c t : sProp 𝕄) := by
  have e0 (d) : owns (c : Thread nD τ) (ms0 m R t) fullShare ((dats m R 0 c).before 0 t d)
      = (owns (c : Thread nD τ) (ms0 m R t) fullShare (gain m c) : sProp 𝕄) :=
    congrArg (fun X : Vec F S1x2048 .f32 => owns (c : Thread nD τ) (ms0 m R t) fullShare X) ((before0 m R c t d).trans (gain_blk m R c t))
  have e1 (d) : owns (c : Thread nD τ) (ms1 m R t) fullShare ((dats m R 0 c).before 1 t d)
      = (owns (c : Thread nD τ) (ms1 m R t) fullShare (gateB m R c t) : sProp 𝕄) :=
    congrArg (fun X : Vec F S1x2048x1024 .bf16 => owns (c : Thread nD τ) (ms1 m R t) fullShare X) (before1 m R c t d)
  have e2 (d) : owns (c : Thread nD τ) (ms2 m R t) fullShare ((dats m R 0 c).before 2 t d)
      = (owns (c : Thread nD τ) (ms2 m R t) fullShare (upB m R c t) : sProp 𝕄) :=
    congrArg (fun X : Vec F S1x2048x1024 .bf16 => owns (c : Thread nD τ) (ms2 m R t) fullShare X) (before2 m R c t d)
  have e3 (d) : owns (c : Thread nD τ) (ms3 m R t) fullShare ((dats m R 0 c).before 3 t d)
      = (owns (c : Thread nD τ) (ms3 m R t) fullShare (downB m R c t) : sProp 𝕄) :=
    congrArg (fun X : Vec F S1x1024x2048 .bf16 => owns (c : Thread nD τ) (ms3 m R t) fullShare X) (before3 m R c t d)
  iintro ⟨⟨%d0, G0⟩, ⟨%d1, G1⟩, ⟨%d2, G2⟩, ⟨%d3, G3⟩⟩
  isplitl [G0]
  · rw [← e0 d0]; iexact G0
  isplitl [G1]
  · rw [← e1 d1]; iexact G1
  isplitl [G2]
  · rw [← e2 d2]; iexact G2
  rw [← e3 d3]; iexact G3

/-- The obligation at a point, in the launch theorem's conjuncts. -/
theorem obligation_at (t : Fin (cfgT m R).N) :
    iprop((dats m R 0 c).Φ t.castSucc ∗ (dats m R 0 c).owesAt () t.castSucc
      ∗ (∃ d, owns (c : Thread nD τ) (ms0 m R t) fullShare ((dats m R 0 c).before 0 t d))
      ∗ (∃ d, owns (c : Thread nD τ) (ms1 m R t) fullShare ((dats m R 0 c).before 1 t d))
      ∗ (∃ d, owns (c : Thread nD τ) (ms2 m R t) fullShare ((dats m R 0 c).before 2 t d))
      ∗ (∃ d, owns (c : Thread nD τ) (ms3 m R t) fullShare ((dats m R 0 c).before 3 t d))
      ∗ (∃ d, owns (c : Thread nD τ) (ms4 m R t) fullShare ((dats m R 0 c).before 4 t d)))
      ⊢ wp frame (wpE (defs₀ (F := F)) Variants.none (c : Thread nD τ) none) Set.univ (bodyAt m R t)
        (fun _ => iprop((dats m R 0 c).Φ t.succ ∗ (dats m R 0 c).owesAt () t.succ
          ∗ owns (c : Thread nD τ) (ms0 m R t) fullShare ((dats m R 0 c).after 0 t)
          ∗ owns (c : Thread nD τ) (ms1 m R t) fullShare ((dats m R 0 c).after 1 t)
          ∗ owns (c : Thread nD τ) (ms2 m R t) fullShare ((dats m R 0 c).after 2 t)
          ∗ owns (c : Thread nD τ) (ms3 m R t) fullShare ((dats m R 0 c).after 3 t)
          ∗ (dats m R 0 c).leavesExact 4 t) : PUnit → sProp 𝕄) := by
  have e0 : owns (c : Thread nD τ) (ms0 m R t) fullShare ((dats m R 0 c).after 0 t)
      = (owns (c : Thread nD τ) (ms0 m R t) fullShare (gain m c) : sProp 𝕄) :=
    congrArg (fun X : Vec F S1x2048 .f32 => owns (c : Thread nD τ) (ms0 m R t) fullShare X) (gain_blk m R c t)
  rw [show (dats m R 0 c).Φ t.castSucc = inv m R c t.val from rfl, show (dats m R 0 c).Φ t.succ = inv m R c (t.val + 1) from rfl, e0]
  unfold Dat.owesAt Pipeline.owesWithin
  rw [show (dats m R 0 c).owed t.castSucc = 0 from rfl, show (dats m R 0 c).owed t.succ = 0 from rfl]
  iintro ⟨HI, ⟨%W, -, HW⟩, G0, G1, G2, G3, ⟨%d, G4⟩⟩
  ihave G := (ins_of m R c t) $$ [G0 G1 G2 G3]
  · isplitl [G0]; · iexact G0
    isplitl [G1]; · iexact G1
    isplitl [G2]; · iexact G2
    iexact G3
  iapply (within c (K := iprop(emp)) (P' := iprop(inv m R c t.val ∗ (∃ W, owes (c : Thread nD τ) 0 W) ∗ ins m R c t
    ∗ owns (c : Thread nD τ) (ms4 m R t) fullShare ((dats m R 0 c).before 4 t d)))
    (point m R c t ((dats m R 0 c).before 4 t d) (fun h => before4 m R c t h d)) Idealize.SL.BI.Laws.sep_emp.2
    (Q' := iprop(inv m R c (t.val + 1) ∗ (∃ W, ⌜↑W ⊆ (dats m R 0 c).bound () t.succ⌝ ∗ owes (c : Thread nD τ) 0 W)
          ∗ owns (c : Thread nD τ) (ms0 m R t) fullShare (gain m c)
          ∗ owns (c : Thread nD τ) (ms1 m R t) fullShare ((dats m R 0 c).after 1 t)
          ∗ owns (c : Thread nD τ) (ms2 m R t) fullShare ((dats m R 0 c).after 2 t)
          ∗ owns (c : Thread nD τ) (ms3 m R t) fullShare ((dats m R 0 c).after 3 t)
          ∗ (dats m R 0 c).leavesExact 4 t)) ?_) $$ [HI HW G G4]
  · iintro ⟨⟨HI, ⟨%W, HW⟩, ⟨G0, G1, G2, G3⟩, G4⟩, -⟩
    isplitl [HI]; · iexact HI
    isplitl [HW]
    · iexists W; isplitr; · ipureintro; exact fun _ _ => Or.inl trivial
      iexact HW
    isplitl [G0]; · iexact G0
    isplitl [G1]; · iexact G1
    isplitl [G2]; · iexact G2
    isplitl [G3]; · iexact G3
    iexact G4
  isplitl [HI]; · iexact HI
  isplitl [HW]; · iexists W; iexact HW
  isplitl [G]; · iexact G
  iexact G4

theorem body_obligation : BodyObligation (dats (F := F) m R 0 c) (defs₀ (F := F)) Variants.none () Set.univ := fun t => by
  rw [bigSep_W0, bigSep_W0, body_row]
  exact triple_restated (obligation_at m R c t) rfl .rfl fun _ => .rfl

end Cert.Experts

end
-- ==== Proof.Run.lean ====
/-
  The run of the program: the call's launch around the grid's obligations, and what the program leaves.
-/
module

public import proofs.«01_k».proof.Proof.Step
public import proofs.«01_k».proof.Proof.Gen.KernelIdeal.Launch
public import Idealize.ShloMosaic.Lib.Pipeline.FrameBody
public import Idealize.ShloMosaic.Lib.Pipeline.TableIdle

@[expose] public section

noncomputable section

namespace Cert.Experts

open Cert.KernelIdeal Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The row copies' two semaphores. -/
def osem0 : Fin 2 → SemLoc sig := fun j => (![SemLoc.dma 9, SemLoc.dma 10] : Fin 2 → SemLoc sig) j
theorem ownSemFacts0 : Pipeline.OwnSemFacts spec0 osem0 := by decide

/-- The one array the kernel copies from by itself. -/
def H0 : Finset (Ref sig .tc) := {main_arg0}
theorem H0_sub : H0 ⊆ Pipeline.restRefsP sig pre0 spec0 := by decide

variable (m : (ℓ : Loc nD τ sig) → Buf (Elt F) ℓ) (R : InRange m) (c : Dev nD)

theorem ownSems_eq : (Pipeline.ownSems0 osem0 c : sProp 𝕄)
    = iprop(semVal ((c : Thread nD τ), .dma (cellN 0)) 0 ∗ semVal ((c : Thread nD τ), .dma (cellN 1)) 0) := by
  rw [Pipeline.ownSems0_eq_of_list c osem0 [0, 1] (by decide) (by decide)]; rfl

theorem held_eq : (bigSep H0 (fun b => (((c : Thread nD τ).loc b) ↦{fullShare} V m c b : sProp 𝕄)) : sProp 𝕄) = xAt c fullShare Finset.univ (xT m c) := by
  rw [BI.bigSep_eq_bigSepL_of_eq [main_arg0] (by decide) (by decide)]; rfl

theorem tables_eq : (Pipeline.ΦT pre0 (tbls (F := F) (tokT m) (expT m) (numT m)) c : sProp 𝕄)
    = iprop(tokAt c (tokT m) ∗ expAt c (expT m) ∗ numAt c (numT m)) := by
  unfold Pipeline.ΦT Pipeline.prefHeld
  rw [BI.bigSep_eq_bigSepL_of_eq [(0 : Fin 3), 1, 2] (by decide) (by decide)]; rfl

/-- The whole normalised-rows buffer, owned. -/
theorem xn_own (f : S512x2048.Idx → Elt F .bf16) :
    (((c : Thread nD τ).loc cc0_scratch1) ↦{fullShare} f : sProp 𝕄) ⊢ iprop(∃ XN, owns (c : Thread nD τ) xnM fullShare XN) := by
  iintro H
  iexists f
  rw [show owns (c : Thread nD τ) xnM fullShare f = ((c : Thread nD τ).loc cc0_scratch1 ↦{fullShare} f : sProp 𝕄)
    from owns_whole (c : Thread nD τ) cc0_scratch1 fullShare f]
  iexact H
theorem xn_free : (iprop(∃ XN, owns (c : Thread nD τ) xnM fullShare XN) : sProp 𝕄)
    ⊢ iprop(∃ f : Buf (Elt F) ((c : Thread nD τ).loc cc0_scratch1), ((c : Thread nD τ).loc cc0_scratch1) ↦{fullShare} f) := by
  have key (f : S512x2048.Idx → Elt F .bf16) : (owns (c : Thread nD τ) xnM fullShare f : sProp 𝕄)
      ⊢ iprop(∃ f : Buf (Elt F) ((c : Thread nD τ).loc cc0_scratch1), ((c : Thread nD τ).loc cc0_scratch1) ↦{fullShare} f) := by
    rw [show owns (c : Thread nD τ) xnM fullShare f = ((c : Thread nD τ).loc cc0_scratch1 ↦{fullShare} f : sProp 𝕄)
      from owns_whole (c : Thread nD τ) cc0_scratch1 fullShare f]
    iintro H
    iexists f
    iexact H
  iintro ⟨%XN, H⟩
  iapply (key XN) $$ H

/-- The launch hands the first point its state. -/
theorem enter : iprop(Pipeline.ΦD osem0 spec0 H0 (V m) c ∗ Pipeline.ΦT pre0 (adm m R 0).1 c) ⊢ (inv m R c 0 : sProp 𝕄) := by
  have i0 : ¬ isFlying m 0 := fun h => by have := h.2.1; unfold nextB at this; omega
  rw [Pipeline.ΦD_eq, ownSems_eq, held_eq, scopedRest0_eq, show Pipeline.ΦT pre0 (adm m R 0).1 c = _ from tables_eq m c]
  unfold inv
  rw [copies_idle m R c 0 i0, rowsAt_free m R c 0 (fun h => h.1 rfl)]
  unfold idle
  iintro ⟨⟨⟨⟨%f0, H0⟩, ⟨%f1, H1⟩⟩, Hp, ⟨Hs0, Hs1⟩, Hx⟩, ⟨Ht, He, Hn⟩⟩
  isplitl [H0 Hs0 Hs1 Hx]
  · isplitl [H0]; · iexists f0; iexact H0
    isplitl [Hs0]; · iexact Hs0
    isplitl [Hs1]; · iexact Hs1
    iexact Hx
  isplitl [H1]; · iapply (xn_own c f1) $$ H1
  isplitl [Ht]; · iexact Ht
  isplitl [He]; · iexact He
  isplitl [Hn]; · iexact Hn
  iexact Hp

/-- The last point hands the launch's holdings back. -/
theorem leave (n : ℕ) (hn : n = 504) : (inv m R c n : sProp 𝕄) ⊢ Pipeline.ΦD osem0 spec0 H0 (V m) c := by
  have hu := R.num
  have i1 : ¬ isFlying m n := fun h => by have := h.2.2; unfold nextB at this; subst hn; unfold used at this; omega
  rw [Pipeline.ΦD_eq, ownSems_eq, held_eq, scopedRest0_eq]
  unfold inv
  rw [copies_idle m R c n i1, rowsAt_free m R c n (fun h => h.1 (by omega))]
  unfold idle
  iintro ⟨⟨H0, Hs0, Hs1, Hx⟩, H1, Ht, He, Hn, Hp⟩
  isplitl [H0 H1]
  · isplitl [H0]; · iexact H0
    iapply (xn_free c) $$ H1
  isplitl [Hp]; · iexact Hp
  isplitl [Hs0 Hs1]
  · isplitl [Hs0]; · iexact Hs0
    iexact Hs1
  iexact Hx

set_option backward.isDefEq.respectTransparency.types false in
/-- Every run of the program ends with each array at what the library computes from the proof data, every other buffer
    as launched, and every semaphore at zero. -/
theorem run_main (g : Dev nD → PrngReg) : θ_run defs (onTc (τ := τ) (main (F := F))) (s₀ m g)
    (fun r => Pipeline.FramePost (Pipeline.pin (pcfgs (F := F)) (adm m R)) (dats m R) 0 (V m) r ∧ r.2.sem = fun _ => 0) :=
  Pipeline.θ_run_frameP_dma (Q' := _) (pcfgs (F := F)) (adm m R) (dats m R) (0 : Fin 1) launch0 osem0 defs₀ Variants.none ownSemFacts0 H0 H0_sub m g main
    (hbody := fun c => (body_obligation m R c).loose) (hshare := fun c => (dats m R 0 c).share_full fun _ => rfl)
    (howed := fun _ _ => rfl) (V := V m)
    (hmain := Pipeline.hmainP_prefix (pcfgs (F := F)) 0 defs₀ Variants.none m main hostOps0 hostOps0_sub (by exact ⟨rfl, rfl, rfl, rfl⟩) main_chain)
    (hA := A_eq m R) (hpf := V_tables m R)
    (hin := fun c => enter m R c) (hout := fun c => leave m R c _ N_0)

/-- An argument array ends as launched. -/
theorem arg_kept (b : Ref sig .tc) (hs : b.isScoped = false) (ha : ∀ w, (spec0 w).arr.view.ref ≠ b) (hb : b ∉ [main_v0, main_v1, main_v2, main_v3])
    {r : PUnit × MemSt nD τ sig (Elt F)} (h : Pipeline.FramePost (Pipeline.pin (pcfgs (F := F)) (adm m R)) (dats m R) 0 (V m) r) (c : Dev nD) :
    r.2.mem ((c.tc : Thread nD τ).loc b) = m ((c.tc : Thread nD τ).loc b) :=
  ((h c).2 b (Pipeline.mem_restRefs_of b hs ha)).trans (V_kept m c b hb)

/-- The program's run, whatever the float values: the result at what the proof data say, the arguments as launched, every semaphore at zero. -/
theorem run (g : Dev nD → PrngReg) : θ_run defs (onTc (τ := τ) (main (F := F))) ⟨m, fun _ => 0, g⟩ (fun r =>
    (∀ c : Dev nD, r.2.mem ((c.tc : Thread nD τ).loc main_v4) = (dats m R 0 c).arrAt 4 (cfgT m R).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) :=
  (θ_run defs _ _).mono (fun r h => ⟨fun c => ⟨(h.1 c).1 4,
    arg_kept m R main_arg0 (by decide) (by decide) (by decide) h.1 c, arg_kept m R main_arg1 (by decide) (by decide) (by decide) h.1 c,
    arg_kept m R main_arg2 (by decide) (by decide) (by decide) h.1 c, arg_kept m R main_arg3 (by decide) (by decide) (by decide) h.1 c,
    arg_kept m R main_arg4 (by decide) (by decide) (by decide) h.1 c, arg_kept m R main_arg5 (by decide) (by decide) (by decide) h.1 c,
    arg_kept m R main_arg6 (by decide) (by decide) (by decide) h.1 c, arg_kept m R main_arg7 (by decide) (by decide) (by decide) h.1 c⟩, h.2⟩)
    (run_main m R g)

end Cert.Experts

end
-- ==== Proof.Out.lean ====
/-
  The result array, read through the blocks written back: each block as the last point of its run leaves it. And the
  blocks of the expert arrays, read at an index.
-/
module

public import proofs.«01_k».proof.Proof.Data
public import Idealize.ShloMosaic.Lib.Pipeline.ValueKit.Geometry

@[expose] public section

noncomputable section

namespace Cert.Experts

open Cert.KernelIdeal Cert.KernelIdeal.Gen Cert.KernelIdeal.Facts
open Idealize.ShloMosaic Idealize.ShloMosaic.TcCoe
open Idealize.ShloMosaic.ValueIdx
open Idealize.ShloMosaic.Pipeline (Dat Cfg Window)

/-- A hidden coordinate of the whole array. -/
abbrev unchunk (q : ℕ) (hq : q < 7) (f : Fin 1024) : Fin 7168 := ⟨1024 * q + f.val, by omega⟩

variable {F : FTy → Type} [FloatOps F]
variable (m : (ℓ : Loc nD τ sig) → Buf (Elt F) ℓ) (R : InRange m) (c : Dev nD)

/-! ## The result -/

theorem point_lt (b f : ℕ) (hb : b < 72) (hf : f < 7) : 7 * b + f < (cfgT m R).N := by
  have : (cfgT m R).N = 504 := N_0
  omega

/-- Block `b` of the result. -/
def outB (b : ℕ) (hb : b < 72) : Vec F S512x2048 .f32 := outN m R c (7 * b + 6) (point_lt m R b 6 hb (by decide))

/-- The result array. -/
def resultA : S36864x2048.Idx → Elt F .f32 := fun i =>
  outB m R c ((i 0).val / 512) (by have : (i 0).val < 36864 := (i 0).isLt; omega)
    (ix2 (⟨(i 0).val % 512, Nat.mod_lt _ (by decide)⟩ : Fin 512) (⟨(i 1).val, (i 1).isLt⟩ : Fin 2048))

theorem emb4 (t : Fin (cfgT m R).N) (y : S512x2048.Idx) :
    (((cfgT m R).win 4).blk t).view.emb y
      = (ix2 (⟨512 * (t.val / 7) + (y 0).val, by have := lt504 m R t; have : (y 0).val < 512 := (y 0).isLt; omega⟩ : Fin 36864)
          (⟨(y 1).val, (y 1).isLt⟩ : Fin 2048) : S36864x2048.Idx) := by
  have e := index4 m R t
  funext a
  apply Fin.ext
  match a with
  | ⟨0, _⟩ =>
    show ((cfgT m R).win 4).index t (0 : Fin 2) * 512 + 1 * (y 0).val = 512 * (t.val / 7) + (y 0).val
    rw [e]
    show (t.val / 7) * 512 + 1 * (y 0).val = _
    omega
  | ⟨1, _⟩ =>
    show ((cfgT m R).win 4).index t (1 : Fin 2) * 2048 + 1 * (y 1).val = (y 1).val
    rw [e]
    show 0 * 2048 + 1 * (y 1).val = _
    omega

theorem mem4 (t : Fin (cfgT m R).N) (y : S512x2048.Idx) :
    (ix2 (⟨512 * (t.val / 7) + (y 0).val, by have := lt504 m R t; have : (y 0).val < 512 := (y 0).isLt; omega⟩ : Fin 36864)
      (⟨(y 1).val, (y 1).isLt⟩ : Fin 2048) : S36864x2048.Idx) ∈ (((cfgT m R).win 4).blk t).view.set :=
  emb4 m R t y ▸ View.emb_mem_set _ _

theorem mem4_of (t : Fin (cfgT m R).N) (y : S512x2048.Idx) (i : S36864x2048.Idx) (h0 : (i 0).val = 512 * (t.val / 7) + (y 0).val)
    (h1 : (i 1).val = (y 1).val) : i ∈ (((cfgT m R).win 4).blk t).view.set := by
  have hb : 512 * (t.val / 7) + (y 0).val < 36864 := h0 ▸ (i 0).isLt
  have hb' : (y 1).val < 2048 := (y 1).isLt
  obtain rfl : i = ix2 (⟨512 * (t.val / 7) + (y 0).val, hb⟩ : Fin 36864)
      (⟨(y 1).val, hb'⟩ : Fin 2048) := (eq_ix2 i).trans (congrArg₂ ix2 (Fin.ext h0) (Fin.ext h1))
  exact mem4 m R t y

theorem outB_at (t : Fin (cfgT m R).N) (ht : t.val % 7 = 6) (b : ℕ) (hb : b < 72) (h : b = t.val / 7) :
    outN m R c t.val t.isLt = outB m R c b hb := by
  subst h
  unfold outB
  congr 1
  omega

theorem arr_eq : (dats m R 0 c).arrAt 4 (cfgT m R).N = resultA m R c := by
  refine (dats m R 0 c).arrAt_eq_of_emb 4 (resultA m R c) (fun t hf (y : S512x2048.Idx) => ?_) (fun (i : S36864x2048.Idx) => ?_)
  · have hf' : t.val % 7 = 6 := by rw [flush4] at hf; exact of_decide_eq_true hf
    have h0 : (y 0).val < 512 := (y 0).isLt
    have h4 := lt504 m R t
    refine Eq.trans ?_ (congrArg (resultA m R c) (emb4 m R t y)).symm
    show outN m R c t.val t.isLt y = outB m R c ((512 * (t.val / 7) + (y 0).val) / 512) _ _
    rw [outB_at m R c t hf' ((512 * (t.val / 7) + (y 0).val) / 512) (by omega) (by omega)]
    refine congrArg _ ((eq_ix2 y).trans ?_)
    refine congrArg₂ ix2 (Fin.ext ?_) rfl
    show (y 0).val = (512 * (t.val / 7) + (y 0).val) % 512
    omega
  · have h0 : (i 0).val < 36864 := (i 0).isLt
    refine ⟨⟨7 * ((i 0).val / 512) + 6, point_lt m R _ 6 (by omega) (by decide)⟩, ?_, ?_⟩
    · rw [flush4]; exact decide_eq_true (by show (7 * ((i 0).val / 512) + 6) % 7 = 6; omega)
    · exact mem4_of m R _ (ix2 (⟨(i 0).val % 512, Nat.mod_lt _ (by decide)⟩ : Fin 512) (⟨(i 1).val, (i 1).isLt⟩ : Fin 2048)) i
        (by show (i 0).val = 512 * ((7 * ((i 0).val / 512) + 6) / 7) + (i 0).val % 512; omega) rfl

/-! ## The expert arrays' blocks -/

/-- Block `b`'s expert. -/
def expN (b : ℕ) : Fin 8 := if h : b < 72 then ⟨(expT m (ix1 ⟨b, h⟩)).toNat, R.exp _⟩ else 0

theorem expN_eq (b : ℕ) (h : b < 72) : expN m R b = ⟨(expT m (ix1 ⟨b, h⟩)).toNat, R.exp _⟩ := dif_pos h

variable (t : Fin (cfgT m R).N) (hu : t.val / 7 < used m)

theorem exp_at : (expT m (ix1 (rb (grid0.coords t)))).toNat = (expN m R (t.val / 7)).val := by
  have h : t.val / 7 < 72 := by have := lt504 m R t; omega
  rw [expN_eq m R _ h]
  have : rb (grid0.coords t) = ⟨t.val / 7, h⟩ := Fin.ext (coord0 t)
  rw [this]

include hu in
theorem hid_at : hid (numT m) (grid0.coords t) = t.val % 7 := by
  unfold hid
  rw [coord0, coord1, if_pos hu]

include hu in
theorem index1 : ((cfgT m R).win 1).index t = ![(expN m R (t.val / 7)).val, 0, t.val % 7] := by
  rw [← exp_at, ← hid_at m R t hu]
  exact ix_gate (F := F) (tokT m) (expT m) (numT m) R.num (grid0.coords t)

include hu in
theorem index2 : ((cfgT m R).win 2).index t = ![(expN m R (t.val / 7)).val, 0, t.val % 7] := by
  rw [← exp_at, ← hid_at m R t hu]
  exact ix_up (F := F) (tokT m) (expT m) (numT m) R.num (grid0.coords t)

include hu in
theorem index3 : ((cfgT m R).win 3).index t = ![(expN m R (t.val / 7)).val, t.val % 7, 0] := by
  rw [← exp_at, ← hid_at m R t hu]
  exact ix_down (F := F) (tokT m) (expT m) (numT m) R.num (grid0.coords t)

include hu in
theorem gateB_apply (k : Fin 2048) (f : Fin 1024) : gateB m R c t (ix3 0 k f)
    = V m c main_v0 (ix3 (expN m R (t.val / 7)) k (unchunk (t.val % 7) (Nat.mod_lt _ (by decide)) f)) := by
  have e := index1 m R t hu
  show V m c main_v0 _ = V m c main_v0 _
  congr 1
  funext a
  apply Fin.ext
  match a with
  | ⟨0, _⟩ => show ((cfgT m R).win 1).index t (0 : Fin 3) * 1 + 1 * 0 = _; rw [e]; exact Nat.mul_one _
  | ⟨1, _⟩ => show ((cfgT m R).win 1).index t (1 : Fin 3) * 2048 + 1 * k.val = k.val; rw [e]; show 0 * 2048 + 1 * k.val = k.val; omega
  | ⟨2, _⟩ =>
    show ((cfgT m R).win 1).index t (2 : Fin 3) * 1024 + 1 * f.val = 1024 * (t.val % 7) + f.val
    rw [e]
    show (t.val % 7) * 1024 + 1 * f.val = _
    omega

include hu in
theorem upB_apply (k : Fin 2048) (f : Fin 1024) : upB m R c t (ix3 0 k f)
    = V m c main_v1 (ix3 (expN m R (t.val / 7)) k (unchunk (t.val % 7) (Nat.mod_lt _ (by decide)) f)) := by
  have e := index2 m R t hu
  show V m c main_v1 _ = V m c main_v1 _
  congr 1
  funext a
  apply Fin.ext
  match a with
  | ⟨0, _⟩ => show ((cfgT m R).win 2).index t (0 : Fin 3) * 1 + 1 * 0 = _; rw [e]; exact Nat.mul_one _
  | ⟨1, _⟩ => show ((cfgT m R).win 2).index t (1 : Fin 3) * 2048 + 1 * k.val = k.val; rw [e]; show 0 * 2048 + 1 * k.val = k.val; omega
  | ⟨2, _⟩ =>
    show ((cfgT m R).win 2).index t (2 : Fin 3) * 1024 + 1 * f.val = 1024 * (t.val % 7) + f.val
    rw [e]
    show (t.val % 7) * 1024 + 1 * f.val = _
    omega

include hu in
theorem downB_apply (f : Fin 1024) (j : Fin 2048) : downB m R c t (ix3 0 f j)
    = V m c main_v2 (ix3 (expN m R (t.val / 7)) (unchunk (t.val % 7) (Nat.mod_lt _ (by decide)) f) j) := by
  have e := index3 m R t hu
  show V m c main_v2 _ = V m c main_v2 _
  congr 1
  funext a
  apply Fin.ext
  match a with
  | ⟨0, _⟩ => show ((cfgT m R).win 3).index t (0 : Fin 3) * 1 + 1 * 0 = _; rw [e]; exact Nat.mul_one _
  | ⟨1, _⟩ =>
    show ((cfgT m R).win 3).index t (1 : Fin 3) * 1024 + 1 * f.val = 1024 * (t.val % 7) + f.val
    rw [e]
    show (t.val % 7) * 1024 + 1 * f.val = _
    omega
  | ⟨2, _⟩ => show ((cfgT m R).win 3).index t (2 : Fin 3) * 2048 + 1 * j.val = j.val; rw [e]; show 0 * 2048 + 1 * j.val = j.val; omega

end Cert.Experts

end
-- ==== Proof.Spec.lean ====
/-
  One entry of an expert's output over the extended reals, as a formula of a source row, the gain and the expert's three
  matrices: what the kernel's blocks and the reference's products are both read at.
-/
module

public import Idealize.ShloMosaic.PureOps.Ideal
public import Idealize.ShloMosaic.PureOps.Ideal.Laws
public import Idealize.ShloMosaic.Lib.IdealHost
public import Idealize.ShloMosaic.Lib.ValueIdx

@[expose] public section

noncomputable section

namespace Cert.Experts

open Idealize.ShloMosaic

/-- An entry of the normalised row: `v` over the root of its mean square, times the gain. -/
def unit (v g : Fin 2048 → EReal) (k : Fin 2048) : EReal :=
  v k * Ideal.rsqrt (Ideal.div (∑ a, v a * v a) (Ideal.ofBits .f32 0x45000000#32) + Ideal.ofBits .f32 0x358637BD#32) * g k

/-- The gated activation. -/
def act (h u : EReal) : EReal := h * Ideal.logistic h * u

/-- A hidden entry of a row: the activation of its two products. -/
def hidden (x wg wu : Fin 2048 → EReal) : EReal := act (∑ k, x k * wg k) (∑ k, x k * wu k)

/-- An entry of the output: the hidden row times a column. -/
def entry (x : Fin 2048 → EReal) (wg wu : Fin 2048 → Fin 7168 → EReal) (wd : Fin 7168 → EReal) : EReal :=
  ∑ f : Fin 7168, hidden x (fun k => wg k f) (fun k => wu k f) * wd f

open ValueIdx in
/-- Column `j` of expert `e`'s output for the token in row `i`, from the six arrays. -/
def expertOut (X : (⟨2, ![16384, 2048]⟩ : Shape).Idx → EReal) (G : (⟨1, ![2048]⟩ : Shape).Idx → EReal)
    (A B : (⟨3, ![8, 2048, 7168]⟩ : Shape).Idx → EReal) (D : (⟨3, ![8, 7168, 2048]⟩ : Shape).Idx → EReal)
    (i : Fin 16384) (e : Fin 8) (j : Fin 2048) : EReal :=
  entry (unit (fun a => X (ix2 i a)) (fun a => G (ix1 a))) (fun k f => A (ix3 e k f)) (fun k f => B (ix3 e k f)) (fun f => D (ix3 e f j))

/-! ## The activation's two spellings -/

theorem ofBits_half : Ideal.ofBits .f32 0x3F000000#32 = ((1 / 2 : ℝ) : EReal) := by
  simp [Ideal.ofBits, Ideal.ieee, -EReal.coe_mul]; norm_num

/-- `½ tanh(x/2) + ½` is the logistic function, on the reals. -/
theorem half_tanh_real (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [h1]
  have ha := Real.exp_pos (1 / 2 * r)
  have hb := Real.exp_pos (-(1 / 2 * r))
  generalize Real.exp (1 / 2 * r) = a at *
  generalize Real.exp (-(1 / 2 * r)) = b at *
  have hn : (1 + b * b) ≠ 0 := by positivity
  have hs : (a + b) ≠ 0 := by positivity
  field_simp
  linear_combination (2 * b) * h2

/-- The same at the infinities too. -/
theorem half_tanh (x : EReal) :
    Ideal.ofBits .f32 0x3F000000#32 * Ideal.tanh (Ideal.ofBits .f32 0x3F000000#32 * x) + Ideal.ofBits .f32 0x3F000000#32 = Ideal.logistic x := by
  rw [ofBits_half]
  induction x with
  | bot =>
    rw [EReal.coe_mul_bot_of_pos (by norm_num), Ideal.tanh_bot, Ideal.logistic_bot, show (-1 : EReal) = ((-1 : ℝ) : EReal) by rw [EReal.coe_neg, EReal.coe_one],
      ← EReal.coe_mul, ← EReal.coe_add]
    norm_num
  | top =>
    rw [EReal.coe_mul_top_of_pos (by norm_num), Ideal.tanh_top, Ideal.logistic_top, show (1 : EReal) = ((1 : ℝ) : EReal) by norm_cast,
      ← EReal.coe_mul, ← EReal.coe_add]
    norm_num
  | coe r =>
    rw [← EReal.coe_mul, Ideal.tanh_coe, ← EReal.coe_mul, ← EReal.coe_add, Ideal.logistic_coe, half_tanh_real]

/-- A sum over the hidden dimension, chunk by chunk. -/
theorem sum_chunks (w : Fin 7168 → EReal) : ∑ f, w f = ∑ a : Fin 7, ∑ b : Fin 1024, w ⟨1024 * a.val + b.val, by omega⟩ := by
  rw [← Equiv.sum_comp (finProdFinEquiv : Fin 7 × Fin 1024 ≃ Fin 7168), Fintype.sum_prod_type]
  refine Finset.sum_congr rfl fun a _ => Finset.sum_congr rfl fun b _ => congrArg w (Fin.ext ?_)
  exact Nat.add_comm b.val (1024 * a.val)

end Cert.Experts

end
-- ==== Proof.Pay.lean ====
/-
  The body's three computed values read at an index over the extended reals: the zero block, the normalised rows, and one
  chunk's contribution to the output block.
-/
module

public import proofs.«01_k».proof.Proof.Body
public import proofs.«01_k».proof.Proof.Spec
public import Idealize.ShloMosaic.Lib.MatmulPlain
public import Idealize.ShloMosaic.Lib.Pipeline.Value

@[expose] public section

noncomputable section

namespace Cert.Experts

open Cert.KernelIdeal Cert.KernelIdeal.Gen Cert.KernelIdeal.Facts
open Idealize.ShloMosaic Idealize.ShloMosaic.TcCoe
open Idealize.ShloMosaic.ValueIdx

/-! ## Shapes -/

theorem drop_rows {α : Type} (v : S1x512x2048.Idx → α) (h) (r : Fin 512) (k : Fin 2048) :
    shapeCast S512x2048 v h (ix2 r k) = v (ix3 0 r k) := by
  refine shapeCast_apply v h _ _ ?_
  rw [Shape.rowMajor_val_three, Shape.rowMajor_val_two]
  show (0 * 512 + r.val) * 2048 + k.val = r.val * 2048 + k.val
  omega

theorem drop_up {α : Type} (v : S1x2048x1024.Idx → α) (h) (k : Fin 2048) (f : Fin 1024) :
    shapeCast S2048x1024 v h (ix2 k f) = v (ix3 0 k f) := by
  refine shapeCast_apply v h _ _ ?_
  rw [Shape.rowMajor_val_three, Shape.rowMajor_val_two]
  show (0 * 2048 + k.val) * 1024 + f.val = k.val * 1024 + f.val
  omega

theorem drop_down {α : Type} (v : S1x1024x2048.Idx → α) (h) (f : Fin 1024) (j : Fin 2048) :
    shapeCast S1024x2048 v h (ix2 f j) = v (ix3 0 f j) := by
  refine shapeCast_apply v h _ _ ?_
  rw [Shape.rowMajor_val_three, Shape.rowMajor_val_two]
  show (0 * 1024 + f.val) * 2048 + j.val = f.val * 2048 + j.val
  omega

theorem add_column {α : Type} (v : S512.Idx → α) (h) (r : Fin 512) : shapeCast S512x1 v h (ix2 r 0) = v (ix1 r) := by
  refine shapeCast_apply v h _ _ ?_
  rw [Shape.rowMajor_val_one, Shape.rowMajor_val_two]
  show r.val = r.val * 1 + 0
  omega

theorem spread_column {α : Type} (v : S512x1.Idx → α) (h) (r : Fin 512) (k : Fin 2048) :
    broadcastTo S512x2048 v h (ix2 r k) = v (ix2 r 0) := by
  refine broadcastTo_apply v h _ _ fun a => ?_
  match a with
  | ⟨0, _⟩ => rfl
  | ⟨1, _⟩ => rfl

theorem spread_row {α : Type} (v : S1x2048.Idx → α) (h) (r : Fin 512) (k : Fin 2048) :
    broadcastTo S512x2048 v h (ix2 r k) = v (ix2 0 k) := by
  refine broadcastTo_apply v h _ _ fun a => ?_
  match a with
  | ⟨0, _⟩ => rfl
  | ⟨1, _⟩ => rfl

theorem row_sum (v : FVec Ideal S512x2048 .f32) (acc : BitVec 32) (h : S512x2048.Reduces [1] S512) (hφ : FKind.Formats .f32)
    (hacc : acc = FKind.add.neutral .f32 hφ) (r : Fin 512) :
    multiReduction .add [1] S512 v acc h hφ hacc (ix1 r) = ∑ k : Fin 2048, v (ix2 r k) := by
  refine (Ideal.multiReduction_add_single v acc h hφ hacc (ix1 r)).trans ?_
  refine Finset.sum_congr rfl fun k _ => congrArg v (funext fun a => Fin.ext ?_)
  match a with
  | ⟨0, _⟩ => rfl
  | ⟨1, _⟩ => rfl

theorem square_row (X : FVec Ideal S1x512x2048 .f32) (h) (r : Fin 512) (k : Fin 2048) :
    mulf (F := Ideal) (φ := .f32) (shapeCast S512x2048 X h) (shapeCast S512x2048 X h) (ix2 r k) = (X (ix3 0 r k) * X (ix3 0 r k) : EReal) :=
  congrArg₂ (fun x y : EReal => x * y) (drop_rows X h r k) (drop_rows X h r k)

/-! ## The values -/

theorem pay1_apply (i : S512x2048.Idx) : k0_pay1 (F := Ideal) i = 0 := Ideal.ofBits_zero_f32

theorem pay2_apply (X : Vec Ideal S1x512x2048 .f32) (G : Vec Ideal S1x2048 .f32) (r : Fin 512) (k : Fin 2048) :
    k0_pay2 (F := Ideal) X G (ix2 r k) = unit (fun a => X (ix3 0 r a)) (fun a => G (ix2 0 a)) k := by
  unfold k0_pay2
  rw [shapeCast_self, shapeCast_self]
  show (shapeCast S512x2048 X _ (ix2 r k) * broadcastTo S512x2048 _ _ (ix2 r k)) * broadcastTo S512x2048 G _ (ix2 r k) = _
  rw [spread_column, spread_row, drop_rows]
  show X (ix3 0 r k) * Ideal.rsqrt (Ideal.div (shapeCast S512x1 _ _ (ix2 r 0)) (Ideal.ofBits .f32 0x45000000#32) + Ideal.ofBits .f32 0x358637BD#32) * G (ix2 0 k) = _
  rw [add_column]
  refine congrArg (fun q : EReal => X (ix3 0 r k) * Ideal.rsqrt (Ideal.div q (Ideal.ofBits .f32 0x45000000#32) + Ideal.ofBits .f32 0x358637BD#32)
    * G (ix2 0 k)) ?_
  exact (row_sum _ _ _ _ _ r).trans (Finset.sum_congr rfl fun a _ => square_row X shapeCasts_S1x512x2048_S512x2048 r a)

theorem product_up (x : FVec Ideal S512x2048 .bf16) (w : FVec Ideal S2048x1024 .bf16) (r : Fin 512) (f : Fin 1024) :
    matmul dot_S512x2048_S2048x1024_S512x1024_1_0_0_1_n_n none x w (constant S512x1024 .f32 0x00000000#32) (ix2 r f)
      = ∑ k : Fin 2048, x (ix2 r k) * w (ix2 k f) := by
  refine (Ideal.matmul_plain_apply (M := 512) (K := 2048) (N := 1024) none x w _ r f).trans ?_
  rw [show constant (F := Ideal) S512x1024 .f32 0x00000000#32 (ix2 r f) = 0 from Ideal.ofBits_zero_f32, zero_add]

theorem product_down (x : FVec Ideal S512x1024 .bf16) (w : FVec Ideal S1024x2048 .bf16) (r : Fin 512) (j : Fin 2048) :
    matmul dot_S512x1024_S1024x2048_S512x2048_1_0_0_1_n_n none x w (constant S512x2048 .f32 0x00000000#32) (ix2 r j)
      = ∑ f : Fin 1024, x (ix2 r f) * w (ix2 f j) := by
  refine (Ideal.matmul_plain_apply (M := 512) (K := 1024) (N := 2048) none x w _ r j).trans ?_
  rw [show constant (F := Ideal) S512x2048 .f32 0x00000000#32 (ix2 r j) = 0 from Ideal.ofBits_zero_f32, zero_add]

/-- One chunk added to the output block. -/
theorem pay3_apply (xn : Vec Ideal S512x2048 .bf16) (wg wu : Vec Ideal S1x2048x1024 .bf16) (O : Vec Ideal S512x2048 .f32)
    (wd : Vec Ideal S1x1024x2048 .bf16) (r : Fin 512) (j : Fin 2048) :
    k0_pay3 (F := Ideal) xn wg wu O wd (ix2 r j)
      = O (ix2 r j) + ∑ f : Fin 1024,
          hidden (fun k => xn (ix2 r k)) (fun k => wg (ix3 0 k f)) (fun k => wu (ix3 0 k f)) * wd (ix3 0 f j) := by
  unfold k0_pay3
  rw [shapeCast_self]
  refine congrArg (O (ix2 r j) + ·) ?_
  refine (product_down _ _ r j).trans (Finset.sum_congr rfl fun f _ => ?_)
  refine congrArg₂ (· * ·) ?_ (drop_down wd _ f j)
  have eg := (product_up xn (shapeCast S2048x1024 wg shapeCasts_S1x2048x1024_S2048x1024) r f).trans
    (Finset.sum_congr rfl fun k _ => congrArg (xn (ix2 r k) * ·) (drop_up wg _ k f))
  have eu := (product_up xn (shapeCast S2048x1024 wu shapeCasts_S1x2048x1024_S2048x1024) r f).trans
    (Finset.sum_congr rfl fun k _ => congrArg (xn (ix2 r k) * ·) (drop_up wu _ k f))
  unfold hidden act
  rw [← eg, ← eu, ← half_tanh]
  rfl

end Cert.Experts

end
-- ==== Proof.Value.lean ====
/-
  The kernel's result over the extended reals: every row of a block in use holds its expert's output for its token, every
  row of a later block zero.
-/
module

public import proofs.«01_k».proof.Proof.Out
public import proofs.«01_k».proof.Proof.Pay

@[expose] public section

noncomputable section

namespace Cert.Experts

open Cert.KernelIdeal Cert.KernelIdeal.Gen Cert.KernelIdeal.Facts
open Idealize.ShloMosaic Idealize.ShloMosaic.TcCoe
open Idealize.ShloMosaic.ValueIdx
open Idealize.ShloMosaic.Pipeline (Dat Cfg Window)

variable (m : (ℓ : Loc nD τ sig) → Buf (Elt Ideal) ℓ) (R : InRange m) (c : Dev nD)

/-! ## The arguments -/

abbrev xA : S16384x2048.Idx → EReal := m ((c : Thread nD τ).loc main_arg0)
abbrev gA : S2048.Idx → EReal := m ((c : Thread nD τ).loc main_arg1)
abbrev gateA : S8x2048x7168.Idx → EReal := m ((c : Thread nD τ).loc main_arg5)
abbrev upA : S8x2048x7168.Idx → EReal := m ((c : Thread nD τ).loc main_arg6)
abbrev downA : S8x7168x2048.Idx → EReal := m ((c : Thread nD τ).loc main_arg7)

/-! ## What the call reads, in the arguments -/

theorem V_gate (i : S8x2048x7168.Idx) : V m c main_v0 i = gateA m c i := rfl
theorem V_up (i : S8x2048x7168.Idx) : V m c main_v1 i = upA m c i := rfl
theorem V_down (i : S8x7168x2048.Idx) : V m c main_v2 i = downA m c i := rfl

theorem gain_apply (k : Fin 2048) : gain m c (ix2 0 k) = gA m c (ix1 k) := by
  show shapeCast S1x2048 (gA m c) shapeCasts_S2048_S1x2048 (ix2 0 k) = _
  refine shapeCast_apply _ _ _ _ ?_
  rw [Shape.rowMajor_val_one, Shape.rowMajor_val_two]
  show k.val = 0 * 2048 + k.val
  omega

theorem xT_eq : xT m c = xA m c := V_kept m c main_arg0 (by decide)

/-- A gathered row, normalised. -/
theorem xnB_apply (b : ℕ) (r : Fin 512) (k : Fin 2048) :
    xnB m R c b (ix2 r k) = unit (fun a => xA m c (ix2 (tokN m R b r) a)) (fun a => gA m c (ix1 a)) k := by
  unfold xnB normed
  rw [pay2_apply, xT_eq]
  refine congrArg (fun g => unit _ g k) (funext fun a => gain_apply m c a)

/-! ## A block, chunk by chunk -/

/-- One hidden coordinate's part of entry `(r, j)` of block `b`. -/
def part (b : ℕ) (r : Fin 512) (j : Fin 2048) (f : Fin 7168) : EReal :=
  hidden (unit (fun a => xA m c (ix2 (tokN m R b r) a)) (fun a => gA m c (ix1 a)))
    (fun k => gateA m c (ix3 (expN m R b) k f)) (fun k => upA m c (ix3 (expN m R b) k f)) * downA m c (ix3 (expN m R b) f j)

/-- A chunk's part. -/
def chunk (b : ℕ) (r : Fin 512) (j : Fin 2048) (q : ℕ) : EReal :=
  if h : q < 7 then ∑ f : Fin 1024, part m R c b r j (unchunk q h f) else 0

theorem step_apply (t : Fin (cfgT m R).N) (hu : t.val / 7 < used m) (O : Vec Ideal S512x2048 .f32) (r : Fin 512) (j : Fin 2048) :
    stepO m R c t O (ix2 r j) = O (ix2 r j) + chunk m R c (t.val / 7) r j (t.val % 7) := by
  unfold stepO
  rw [if_pos hu, pay3_apply]
  unfold chunk
  rw [dif_pos (Nat.mod_lt _ (by decide))]
  refine congrArg (O (ix2 r j) + ·) (Finset.sum_congr rfl fun f _ => ?_)
  unfold part
  rw [downB_apply m R c t hu f j, V_down]
  refine congrArg (· * _) ?_
  have e1 : (fun k => xnB m R c (t.val / 7) (ix2 r k)) = _ := funext fun k => xnB_apply m R c (t.val / 7) r k
  have e2 : (fun k => gateB m R c t (ix3 0 k f)) = _ := funext fun k => (gateB_apply m R c t hu k f).trans (V_gate m c _)
  have e3 : (fun k => upB m R c t (ix3 0 k f)) = _ := funext fun k => (upB_apply m R c t hu k f).trans (V_up m c _)
  rw [e1, e2, e3]

/-- A block in use after chunk `q`. -/
theorem out_chunks (b : ℕ) (hb : b < 72) (hu : b < used m) (r : Fin 512) (j : Fin 2048) : ∀ (q : ℕ) (hq : q < 7),
    outN m R c (7 * b + q) (point_lt m R b q hb hq) (ix2 r j) = ∑ a ∈ Finset.range (q + 1), chunk m R c b r j a
  | 0, hq => by
    have e0 : (7 * b + 0) / 7 = b := by omega
    have e1 : (7 * b + 0) % 7 = 0 := by omega
    rw [outN_first m R c _ _ e1, step_apply m R c _ (by show (7 * b + 0) / 7 < used m; omega), pay1_apply, zero_add, Finset.sum_range_one]
    show chunk m R c ((7 * b + 0) / 7) r j ((7 * b + 0) % 7) = _
    rw [e0, e1]
  | q + 1, hq => by
    have e0 : (7 * b + (q + 1)) / 7 = b := by omega
    have e1 : (7 * b + (q + 1)) % 7 = q + 1 := by omega
    rw [outN_later m R c _ _ (by omega), step_apply m R c _ (by show (7 * b + (q + 1)) / 7 < used m; omega), Finset.sum_range_succ]
    show _ + chunk m R c ((7 * b + (q + 1)) / 7) r j ((7 * b + (q + 1)) % 7) = _
    rw [e0, e1]
    exact congrArg (· + _) (out_chunks b hb hu r j q (Nat.lt_of_succ_lt hq))

/-- A block past the last in use, after chunk `q`. -/
theorem out_unused (b : ℕ) (hb : b < 72) (hu : ¬ b < used m) : ∀ (q : ℕ) (hq : q < 7),
    outN m R c (7 * b + q) (point_lt m R b q hb hq) = k0_pay1 (F := Ideal)
  | 0, hq => by
    rw [outN_first m R c _ _ (by omega)]
    unfold stepO
    rw [if_neg (by show ¬ (7 * b + 0) / 7 < used m; omega)]
  | q + 1, hq => by
    rw [outN_later m R c _ _ (by omega)]
    unfold stepO
    rw [if_neg (by show ¬ (7 * b + (q + 1)) / 7 < used m; omega)]
    exact out_unused b hb hu q (Nat.lt_of_succ_lt hq)

/-- A block of the result. -/
theorem outB_apply (b : ℕ) (hb : b < 72) (r : Fin 512) (j : Fin 2048) : outB m R c b hb (ix2 r j)
    = if b < used m then expertOut (xA m c) (gA m c) (gateA m c) (upA m c) (downA m c) (tokN m R b r) (expN m R b) j else 0 := by
  unfold outB
  split
  · rename_i hu
    rw [out_chunks m R c b hb hu r j 6 (by decide), Finset.sum_range]
    unfold expertOut entry
    rw [sum_chunks]
    exact Finset.sum_congr rfl fun a _ => by unfold chunk; rw [dif_pos a.isLt]; rfl
  · rename_i hu
    rw [out_unused m R c b hb hu 6 (by decide)]
    exact pay1_apply _

/-- The result array at row `512 b + r`, in the tables' own words. -/
theorem result_apply (i : Fin 36864) (j : Fin 2048) : resultA m R c (ix2 i j)
    = if i.val / 512 < used m then expertOut (xA m c) (gA m c) (gateA m c) (upA m c) (downA m c)
        ⟨(tokT m (ix1 i)).toNat, R.tok _⟩ ⟨(expT m (ix1 ⟨i.val / 512, by omega⟩)).toNat, R.exp _⟩ j else 0 := by
  have hb : i.val / 512 < 72 := by omega
  refine (outB_apply m R c (i.val / 512) hb ⟨i.val % 512, Nat.mod_lt _ (by decide)⟩ j).trans ?_
  rw [tokN_eq m R _ hb, expN_eq m R _ hb]
  have e : tokB (tokT m) R.tok (i.val / 512) hb ⟨i.val % 512, Nat.mod_lt _ (by decide)⟩ = ⟨(tokT m (ix1 i)).toNat, R.tok _⟩ := by
    unfold tokB
    have : (⟨512 * (i.val / 512) + i.val % 512, by omega⟩ : Fin 36864) = i := Fin.ext (by show 512 * (i.val / 512) + i.val % 512 = i.val; omega)
    exact Fin.ext (congrArg (fun x => (tokT m (ix1 x)).toNat) this)
  rw [e]

end Cert.Experts

end
-- ==== Proof.Ref.lean ====
/-
  The reference's result over the extended reals, read at an index: every row of a block in use holds its expert's output
  for its token, every row of a later block zero.
-/
module

public import proofs.«01_k».proof.Proof.Spec
public import proofs.«01_k».proof.Proof.Gen.ReferenceIdeal.Run
public import Idealize.ShloMosaic.Lib.StackMember
public import Idealize.ShloMosaic.Lib.WordCmp
public import Idealize.ShloMosaic.Lib.Pipeline.Value

@[expose] public section

noncomputable section

namespace Cert.Experts.Ref

open Cert.ReferenceIdeal Cert.ReferenceIdeal.Gen Cert.ReferenceIdeal.Value
open Idealize.ShloMosaic Idealize.ShloMosaic.TcCoe
open Idealize.ShloMosaic.ValueIdx

/-! ## Rows and members taken at a word -/

section Take
variable {α : Type}

/-- The dimension numbers of rows of a matrix taken at a `[B, C, 1]` array of words. -/
abbrev rowDims (N K B C : ℕ) (wf : GatherDims.WF ⟨2, ![N, K]⟩ ⟨3, ![B, C, 1]⟩ ⟨3, ![B, C, K]⟩ [2] [0] [] [0] [] 2 ![1, K]) :
    GatherDims ⟨2, ![N, K]⟩ ⟨3, ![B, C, 1]⟩ ⟨3, ![B, C, K]⟩ :=
  ⟨[2], [0], [], [], [0], 2, ![1, K], wf⟩

/-- A word in range takes its row. -/
theorem take_row {N K B C : ℕ}
    (wf : GatherDims.WF ⟨2, ![N, K]⟩ ⟨3, ![B, C, 1]⟩ ⟨3, ![B, C, K]⟩ [2] [0] [] [0] [] 2 ![1, K])
    (x : (⟨2, ![N, K]⟩ : Shape).Idx → α) (idx : IVec ⟨3, ![B, C, 1]⟩ 32) (b : Fin B) (r : Fin C) (k : Fin K) (n : Fin N)
    (hn : (idx (ix3 b r 0)).toInt = n.val) :
    Host.gather (rowDims N K B C wf) x idx (ix3 b r k) = x (ix2 n k) := by
  unfold Host.gather
  congr 1
  funext a
  refine Fin.ext ?_
  match a with
  | ⟨0, _⟩ =>
    show (rowDims N K B C wf).start (ix3 b r k) idx (0 : Fin 2) + (rowDims N K B C wf).batchCoord (ix3 b r k) (0 : Fin 2) + (rowDims N K B C wf).offCoord (ix3 b r k) (0 : Fin 2) = n.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowDims N K B C wf).startIndexMap from List.mem_singleton.mpr rfl)]
    have hs : ∀ q, (rowDims N K B C wf).siIdx (ix3 b r k) q = ix3 b r 0 := by
      intro q
      funext z
      refine Fin.ext ?_
      match z with
      | ⟨0, _⟩ => rfl
      | ⟨1, _⟩ => rfl
      | ⟨2, _⟩ => exact Nat.lt_one_iff.mp (Fin.isLt _)
    rw [hs, hn]
    show min n.val (N - 1) + 0 + 0 = n.val
    omega
  | ⟨1, _⟩ =>
    show (rowDims N K B C wf).start (ix3 b r k) idx (1 : Fin 2) + (rowDims N K B C wf).batchCoord (ix3 b r k) (1 : Fin 2) + (rowDims N K B C wf).offCoord (ix3 b r k) (1 : Fin 2) = k.val
    rw [GatherDims.batchCoord_eq_zero _ _ _ List.not_mem_nil]
    unfold GatherDims.start
    rw [dif_neg (show ¬ (1 : Fin 2) ∈ (rowDims N K B C wf).startIndexMap from fun h => absurd (List.mem_singleton.mp h) (show ¬ (1 : Fin 2) = 0 by decide))]
    show 0 + 0 + k.val = k.val
    omega

/-- The dimension numbers of members of a stack of matrices taken at a `[B, 1]` array of words. -/
abbrev memberDims (N K M B : ℕ) (wf : GatherDims.WF ⟨3, ![N, K, M]⟩ ⟨2, ![B, 1]⟩ ⟨3, ![B, K, M]⟩ [1, 2] [0] [] [0] [] 1 ![1, K, M]) :
    GatherDims ⟨3, ![N, K, M]⟩ ⟨2, ![B, 1]⟩ ⟨3, ![B, K, M]⟩ :=
  ⟨[1, 2], [0], [], [], [0], 1, ![1, K, M], wf⟩

/-- A word in range takes its member. -/
theorem take_member {N K M B : ℕ}
    (wf : GatherDims.WF ⟨3, ![N, K, M]⟩ ⟨2, ![B, 1]⟩ ⟨3, ![B, K, M]⟩ [1, 2] [0] [] [0] [] 1 ![1, K, M])
    (x : (⟨3, ![N, K, M]⟩ : Shape).Idx → α) (idx : IVec ⟨2, ![B, 1]⟩ 32) (b : Fin B) (k : Fin K) (f : Fin M) (n : Fin N)
    (hn : (idx (ix2 b 0)).toInt = n.val) :
    Host.gather (memberDims N K M B wf) x idx (ix3 b k f) = x (ix3 n k f) := by
  unfold Host.gather
  congr 1
  funext a
  refine Fin.ext ?_
  match a with
  | ⟨0, _⟩ =>
    show (memberDims N K M B wf).start (ix3 b k f) idx (0 : Fin 3) + (memberDims N K M B wf).batchCoord (ix3 b k f) (0 : Fin 3) + (memberDims N K M B wf).offCoord (ix3 b k f) (0 : Fin 3) = n.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ (memberDims N K M B wf).startIndexMap from List.mem_singleton.mpr rfl)]
    have hs : ∀ q, (memberDims N K M B wf).siIdx (ix3 b k f) q = ix2 b 0 := by
      intro q
      funext z
      refine Fin.ext ?_
      match z with
      | ⟨0, _⟩ => rfl
      | ⟨1, _⟩ => exact Nat.lt_one_iff.mp (Fin.isLt _)
    rw [hs, hn]
    show min n.val (N - 1) + 0 + 0 = n.val
    omega
  | ⟨1, _⟩ =>
    show (memberDims N K M B wf).start (ix3 b k f) idx (1 : Fin 3) + (memberDims N K M B wf).batchCoord (ix3 b k f) (1 : Fin 3) + (memberDims N K M B wf).offCoord (ix3 b k f) (1 : Fin 3) = k.val
    rw [GatherDims.batchCoord_eq_zero _ _ _ List.not_mem_nil]
    unfold GatherDims.start
    rw [dif_neg (show ¬ (1 : Fin 3) ∈ (memberDims N K M B wf).startIndexMap from fun h => absurd (List.mem_singleton.mp h) (show ¬ (1 : Fin 3) = 0 by decide))]
    show 0 + 0 + k.val = k.val
    omega
  | ⟨2, _⟩ =>
    show (memberDims N K M B wf).start (ix3 b k f) idx (2 : Fin 3) + (memberDims N K M B wf).batchCoord (ix3 b k f) (2 : Fin 3) + (memberDims N K M B wf).offCoord (ix3 b k f) (2 : Fin 3) = f.val
    rw [GatherDims.batchCoord_eq_zero _ _ _ List.not_mem_nil]
    unfold GatherDims.start
    rw [dif_neg (show ¬ (2 : Fin 3) ∈ (memberDims N K M B wf).startIndexMap from fun h => absurd (List.mem_singleton.mp h) (show ¬ (2 : Fin 3) = 0 by decide))]
    show 0 + 0 + f.val = f.val
    omega

end Take

/-! ## Words in range -/

/-- A word below the sign bit is not wrapped. -/
theorem plain_word (v w : BitVec 32) (h : v.toNat < 2 ^ 31) : Scalar.select (IntOp.cmpi .slt v 0#32) w v = v := by
  rw [WordCmp.cmpi_slt_zero, decide_eq_false (by simpa using h)]
  rfl

theorem word_int (v : BitVec 32) (h : v.toNat < 2 ^ 31) : v.toInt = (v.toNat : ℤ) := BitVec.toInt_eq_toNat_of_lt (by omega)

/-! ## The pieces of the reference -/

/-- The normalised tokens. -/
def xn (X : FVec Ideal S16384x2048 .f32) (G : FVec Ideal S2048 .f32) : FVec Ideal S16384x2048 .f32 :=
  mulf (mulf X (broadcastInDim S16384x2048 ![0, 1] bcast_S16384x1_S16384x2048_0_1 (Host.rsqrt (addf (Host.divf (broadcastInDim S16384x1 ![0] bcast_S16384_S16384x1_0
    (Host.reduceAdd (mulf X X) (constant S_ .f32 0x00000000#32) reducesTo_S16384x2048_S16384_d1 h_S_))
    (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 G))

/-- The rows to take. -/
def tokW (T : IVec S36864 32) : IVec S72x512x1 32 :=
  broadcastInDim S72x512x1 ![0, 1] bcast_S72x512_S72x512x1_0_1 (select (cmpi .slt (shapeCast _ T shapeCasts_S36864_S72x512)
    (broadcastInDim S72x512 ![] bcast_S_S72x512 (constantI S_ 32 0#32)))
    (addi (shapeCast _ T shapeCasts_S36864_S72x512) (broadcastInDim S72x512 ![] bcast_S_S72x512 (constantI S_ 32 16384#32)))
    (shapeCast _ T shapeCasts_S36864_S72x512))

/-- The experts to take. -/
def expW (E : IVec S72 32) : IVec S72x1 32 :=
  broadcastInDim S72x1 ![0] bcast_S72_S72x1_0 (select (cmpi .slt E (broadcastInDim S72 ![] bcast_S_S72 (constantI S_ 32 0#32)))
    (addi E (broadcastInDim S72 ![] bcast_S_S72 (constantI S_ 32 8#32))) E)

/-- A product of the gathered rows with the blocks' experts. -/
def upR (X : FVec Ideal S16384x2048 .f32) (G : FVec Ideal S2048 .f32) (T : IVec S36864 32) (E : IVec S72 32)
    (W : FVec Ideal S8x2048x7168 .f32) : FVec Ideal S72x512x7168 .f32 :=
  Host.dotGeneral dot_S72x512x2048_S72x2048x7168_S72x512x7168_2_1_1_2_0_0 none
    (Host.gather gather_S16384x2048_S72x512x1_S72x512x2048_2_0_n_n_0_2_12048 (xn X G) (tokW T))
    (Host.gather gather_S8x2048x7168_S72x1_S72x2048x7168_12_0_n_n_0_1_120487168 W (expW E))

/-- The activation. -/
def actR (H U : FVec Ideal S72x512x7168 .f32) : FVec Ideal S72x512x7168 .f32 :=
  mulf (mulf H (Host.divf (broadcastInDim S72x512x7168 ![] bcast_S_S72x512x7168 (constant S_ .f32 0x3F800000#32))
    (addf (broadcastInDim S72x512x7168 ![] bcast_S_S72x512x7168 (constant S_ .f32 0x3F800000#32)) (Host.exp (Host.negf H))))) U

/-- The blocks in use. -/
def mask (N : IVec S1 32) : IVec S72x512x2048 1 :=
  broadcastInDim S72x512x2048 ![0, 1, 2] bcast_S72x1x1_S72x512x2048_0_1_2 (broadcastInDim S72x1x1 ![0] bcast_S72_S72x1x1_0
    (cmpi .slt (iotaInDim S72 32 0) (broadcastInDim S72 ![0] bcast_S1_S72_0 N)))

/-- The reference's result, in those pieces. -/
def out (X : FVec Ideal S16384x2048 .f32) (G : FVec Ideal S2048 .f32) (T : IVec S36864 32) (E : IVec S72 32) (N : IVec S1 32)
    (A B : FVec Ideal S8x2048x7168 .f32) (D : FVec Ideal S8x7168x2048 .f32) : FVec Ideal S36864x2048 .f32 :=
  shapeCast _ (select (mask N) (Host.dotGeneral dot_S72x512x7168_S72x7168x2048_S72x512x2048_2_1_1_2_0_0 none
    (actR (upR X G T E A) (upR X G T E B))
    (Host.gather gather_S8x7168x2048_S72x1_S72x7168x2048_12_0_n_n_0_1_171682048 D (expW E)))
    (broadcastInDim S72x512x2048 ![] bcast_S_S72x512x2048 (constant S_ .f32 0x00000000#32))) shapeCasts_S72x512x2048_S36864x2048

theorem res_eq (m : (ℓ : Loc nD τ sig) → Buf (Elt Ideal) ℓ) (c : Dev nD) : res_out0 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

/-! ## Each read at an index -/

theorem sum_row (v : FVec Ideal S16384x2048 .f32) (i : Fin 16384) :
    Host.reduceAdd v (constant S_ .f32 0x00000000#32) reducesTo_S16384x2048_S16384_d1 h_S_ (ix1 i) = ∑ k : Fin 2048, v (ix2 i k) := by
  have h' : S16384x2048.Reduces [1] S16384 := by decide
  refine (Ideal.hostReduceAdd_single reducesTo_S16384x2048_S16384_d1 h' v _ (ix1 i)).trans ?_
  rw [show constant (F := Ideal) S_ .f32 0x00000000#32 (Shape.Idx.first h_S_) = 0 from Ideal.ofBits_zero_f32, zero_add]
  refine Finset.sum_congr rfl fun k _ => congrArg v (funext fun a => Fin.ext ?_)
  match a with
  | ⟨0, _⟩ => rfl
  | ⟨1, _⟩ => rfl

theorem column {α : Type} (v : S16384.Idx → α) (i : Fin 16384) (k : Fin 1) : broadcastInDim S16384x1 ![0] bcast_S16384_S16384x1_0 v (ix2 i k) = v (ix1 i) := by
  refine broadcastInDim_apply _ _ v _ _ fun a => ?_
  match a with
  | ⟨0, _⟩ => rfl

theorem across {α : Type} (v : S16384x1.Idx → α) (i : Fin 16384) (k : Fin 2048) :
    broadcastInDim S16384x2048 ![0, 1] bcast_S16384x1_S16384x2048_0_1 v (ix2 i k) = v (ix2 i 0) := by
  refine broadcastInDim_apply _ _ v _ _ fun a => ?_
  match a with
  | ⟨0, _⟩ => rfl
  | ⟨1, _⟩ => rfl

theorem down {α : Type} (v : S2048.Idx → α) (i : Fin 16384) (k : Fin 2048) :
    broadcastInDim S16384x2048 ![0, 1] bcast_S1x2048_S16384x2048_0_1 (broadcastInDim S1x2048 ![1] bcast_S2048_S1x2048_1 v) (ix2 i k) = v (ix1 k) := by
  refine (broadcastInDim_apply _ _ _ _ (ix2 (0 : Fin 1) k) fun a => ?_).trans (broadcastInDim_apply _ _ v _ _ fun a => ?_)
  · match a with
    | ⟨0, _⟩ => rfl
    | ⟨1, _⟩ => rfl
  · match a with
    | ⟨0, _⟩ => rfl

theorem xn_apply (X : FVec Ideal S16384x2048 .f32) (G : FVec Ideal S2048 .f32) (i : Fin 16384) (k : Fin 2048) :
    xn X G (ix2 i k) = unit (fun a => X (ix2 i a)) (fun a => G (ix1 a)) k := by
  unfold xn unit
  refine congrArg₂ (fun x y : EReal => x * y) (congrArg (fun y : EReal => X (ix2 i k) * y) ((across _ i k).trans ?_)) (down G i k)
  exact congrArg (fun q : EReal => Ideal.rsqrt (Ideal.div q (Ideal.ofBits .f32 0x45000000#32) + Ideal.ofBits .f32 0x358637BD#32))
    ((column _ i 0).trans (sum_row _ i))

theorem tokW_apply (T : IVec S36864 32) (hT : ∀ x, (T x).toNat < 16384) (b : Fin 72) (r : Fin 512) :
    tokW T (ix3 b r 0) = T (ix1 (⟨512 * b.val + r.val, by omega⟩ : Fin 36864)) := by
  unfold tokW
  refine (broadcastInDim_apply _ _ _ _ (ix2 b r) fun a => ?_).trans ?_
  · match a with
    | ⟨0, _⟩ => rfl
    | ⟨1, _⟩ => rfl
  have e : shapeCast S72x512 T shapeCasts_S36864_S72x512 (ix2 b r) = T (ix1 (⟨512 * b.val + r.val, by omega⟩ : Fin 36864)) := by
    refine shapeCast_apply T _ _ _ ?_
    rw [Shape.rowMajor_val_one, Shape.rowMajor_val_two]
    show 512 * b.val + r.val = b.val * 512 + r.val
    omega
  refine (plain_word (shapeCast S72x512 T shapeCasts_S36864_S72x512 (ix2 b r)) _ ?_).trans e
  rw [e]
  exact lt_trans (hT _) (by decide)

theorem expW_apply (E : IVec S72 32) (hE : ∀ x, (E x).toNat < 8) (b : Fin 72) : expW E (ix2 b 0) = E (ix1 b) := by
  unfold expW
  refine (broadcastInDim_apply _ _ _ _ (ix1 b) fun a => ?_).trans (plain_word _ _ (lt_trans (hE _) (by decide)))
  match a with
  | ⟨0, _⟩ => rfl

theorem upR_apply (X : FVec Ideal S16384x2048 .f32) (G : FVec Ideal S2048 .f32) (T : IVec S36864 32) (E : IVec S72 32)
    (hT : ∀ x, (T x).toNat < 16384) (hE : ∀ x, (E x).toNat < 8) (W : FVec Ideal S8x2048x7168 .f32) (b : Fin 72) (r : Fin 512) (f : Fin 7168) :
    upR X G T E W (ix3 b r f) = ∑ k : Fin 2048,
      unit (fun a => X (ix2 ⟨(T (ix1 (⟨512 * b.val + r.val, by omega⟩ : Fin 36864))).toNat, hT _⟩ a)) (fun a => G (ix1 a)) k
        * W (ix3 ⟨(E (ix1 b)).toNat, hE _⟩ k f) := by
  unfold upR
  refine (StackMember.dotGeneral_stack_apply _ none _ _ b r f).trans (Finset.sum_congr rfl fun k _ => congrArg₂ (fun x y : EReal => x * y) ?_ ?_)
  · refine (take_row _ (xn X G) (tokW T) b r k ⟨(T (ix1 (⟨512 * b.val + r.val, by omega⟩ : Fin 36864))).toNat, hT _⟩ ?_).trans (xn_apply X G _ k)
    rw [tokW_apply T hT]
    exact word_int _ (lt_trans (hT _) (by decide))
  · refine take_member _ W (expW E) b k f ⟨(E (ix1 b)).toNat, hE _⟩ ?_
    rw [expW_apply E hE]
    exact word_int _ (lt_trans (hE _) (by decide))

theorem actR_apply (H U : FVec Ideal S72x512x7168 .f32) (i : S72x512x7168.Idx) : actR H U i = act (H i) (U i) := by
  unfold actR act
  refine congrArg (fun q : EReal => (H i * q) * U i) ?_
  show Ideal.div (Ideal.ofBits .f32 0x3F800000#32) (Ideal.ofBits .f32 0x3F800000#32 + Ideal.exp (-(H i))) = _
  rw [Ideal.ofBits_one_f32]
  rfl

theorem mask_apply (N : IVec S1 32) (hN : (N (ix1 0)).toNat ≤ 72) (b : Fin 72) (r : Fin 512) (j : Fin 2048) :
    mask N (ix3 b r j) = BitVec.ofBool (decide (b.val < (N (ix1 0)).toNat)) := by
  unfold mask
  refine (broadcastInDim_apply _ _ _ _ (ix3 b (0 : Fin 1) (0 : Fin 1)) fun a => ?_).trans ((broadcastInDim_apply _ _ _ _ (ix1 b) fun a => ?_).trans ?_)
  · match a with
    | ⟨0, _⟩ => rfl
    | ⟨1, _⟩ => rfl
    | ⟨2, _⟩ => rfl
  · match a with
    | ⟨0, _⟩ => rfl
  have e : broadcastInDim S72 ![0] bcast_S1_S72_0 N (ix1 b) = N (ix1 0) := by
    refine broadcastInDim_apply _ _ N _ _ fun a => ?_
    match a with
    | ⟨0, _⟩ => rfl
  show IntOp.cmpi .slt (BitVec.ofNat 32 b.val) (broadcastInDim S72 ![0] bcast_S1_S72_0 N (ix1 b)) = _
  have hb : (BitVec.ofNat 32 b.val).toNat = b.val := by rw [BitVec.toNat_ofNat]; exact Nat.mod_eq_of_lt (by omega)
  rw [e, WordCmp.cmpi_slt_of_lt (by rw [hb]; show b.val < 2 ^ 31; omega) (by show (N (ix1 0)).toNat < 2 ^ 31; omega), hb]

/-- The reference's result at row `i`. -/
theorem out_apply (X : FVec Ideal S16384x2048 .f32) (G : FVec Ideal S2048 .f32) (T : IVec S36864 32) (E : IVec S72 32) (N : IVec S1 32)
    (A B : FVec Ideal S8x2048x7168 .f32) (D : FVec Ideal S8x7168x2048 .f32)
    (hT : ∀ x, (T x).toNat < 16384) (hE : ∀ x, (E x).toNat < 8) (hN : (N (ix1 0)).toNat ≤ 72) (i : Fin 36864) (j : Fin 2048) :
    out X G T E N A B D (ix2 i j) = if i.val / 512 < (N (ix1 0)).toNat then
      expertOut X G A B D ⟨(T (ix1 i)).toNat, hT _⟩ ⟨(E (ix1 ⟨i.val / 512, by omega⟩)).toNat, hE _⟩ j else 0 := by
  have hi : (⟨512 * (i.val / 512) + i.val % 512, by omega⟩ : Fin 36864) = i := Fin.ext (by show 512 * (i.val / 512) + i.val % 512 = i.val; omega)
  unfold out
  refine (shapeCast_apply _ _ _ (ix3 (⟨i.val / 512, by omega⟩ : Fin 72) (⟨i.val % 512, by omega⟩ : Fin 512) j) ?_).trans ?_
  · rw [Shape.rowMajor_val_three, Shape.rowMajor_val_two]
    show ((i.val / 512) * 512 + i.val % 512) * 2048 + j.val = i.val * 2048 + j.val
    omega
  show Scalar.select (mask N (ix3 _ _ j)) _ _ = _
  rw [mask_apply N hN]
  by_cases hu : i.val / 512 < (N (ix1 0)).toNat
  · rw [if_pos hu, decide_eq_true hu]
    refine (StackMember.dotGeneral_stack_apply _ none _ _ _ _ j).trans ?_
    unfold expertOut entry
    refine Finset.sum_congr rfl fun f _ => congrArg₂ (fun x y : EReal => x * y) ?_ ?_
    · rw [actR_apply, upR_apply X G T E hT hE, upR_apply X G T E hT hE]
      unfold hidden
      dsimp only
      rw [hi]
    · refine take_member _ D (expW E) _ f j ⟨(E (ix1 ⟨i.val / 512, by omega⟩)).toNat, hE _⟩ ?_
      rw [expW_apply E hE]
      exact word_int _ (lt_trans (hE _) (by decide))
  · rw [if_neg hu, decide_eq_false hu]
    exact Ideal.ofBits_zero_f32

end Cert.Experts.Ref

end
-- ==== Proof.Pre.lean ====
/-
  The precondition, read: every source names a row, every expert exists, and no more blocks are in use than there are.
-/
module

public import proofs.«01_k».proof.Proof.Gen.Pre_tables_in_range
public import Idealize.ShloMosaic.Lib.StableHlo.Predicate
public import Idealize.ShloMosaic.Lib.ValueIdx

@[expose] public section

namespace Cert.Experts

open Idealize.ShloMosaic Idealize.ShloMosaic.ValueIdx
open Cert.Pre_tables_in_range

theorem one_and (a b : BitVec 1) : IntOp.andi a b = 1#1 ↔ a = 1#1 ∧ b = 1#1 := by revert a b; decide

/-- A word between zero and a small bound, signed, is below the bound. -/
theorem lt_of_range (w : BitVec 32) (k : BitVec 32) (hk : k.toNat < 2 ^ 31) (h0 : IntOp.cmpi .sge w 0#32 = 1#1) (h1 : IntOp.cmpi .slt w k = 1#1) :
    w.toNat < k.toNat := by
  have h31 : w.toNat < 2 ^ 31 := by
    by_contra hc
    have : w.toInt < 0 := by rw [BitVec.toInt_eq_toNat_cond, if_neg (by omega)]; have := w.isLt; omega
    simp only [IntOp.cmpi, StableHlo.Predicate.ofBool_eq_one_iff] at h0
    have h0' := BitVec.sle_iff_toInt_le.1 h0
    simp at h0'
    omega
  exact (StableHlo.Predicate.slt_iff_toNat h31 hk).1 h1

theorem le_of_range (w : BitVec 32) (k : BitVec 32) (hk : k.toNat < 2 ^ 31) (h0 : IntOp.cmpi .sge w 0#32 = 1#1) (h1 : IntOp.cmpi .sle w k = 1#1) :
    w.toNat ≤ k.toNat := by
  have h31 : w.toNat < 2 ^ 31 := by
    by_contra hc
    have : w.toInt < 0 := by rw [BitVec.toInt_eq_toNat_cond, if_neg (by omega)]; have := w.isLt; omega
    simp only [IntOp.cmpi, StableHlo.Predicate.ofBool_eq_one_iff] at h0
    have h0' := BitVec.sle_iff_toInt_le.1 h0
    simp at h0'
    omega
  exact (StableHlo.Predicate.sle_iff_toNat h31 hk).1 h1

variable {F : FTy → Type} [FloatOps F] (x : FVec F S16384x2048 .f32) (g : FVec F S2048 .f32) (T : IVec S36864 32) (E : IVec S72 32) (N : IVec S1 32)
  (wg wu : FVec F S8x2048x7168 .f32) (wd : FVec F S8x7168x2048 .f32)

/-- What the precondition says of the words behind one of its elements. -/
theorem pre_at (j : S72x512.Idx) (h : Pre_tables_in_range.fn x g T E N wg wu wd j = 1#1) :
    (shapeCast S72x512 T Facts.shapeCasts_S36864_S72x512 j).toNat < 16384 ∧ (E (ix1 (j 0))).toNat < 8 ∧ (N (ix1 0)).toNat ≤ 72 := by
  have h' : IntOp.andi (IntOp.andi (IntOp.andi
        (IntOp.cmpi .sge (shapeCast S72x512 T Facts.shapeCasts_S36864_S72x512 j) 0#32) (IntOp.cmpi .slt (shapeCast S72x512 T Facts.shapeCasts_S36864_S72x512 j) 16384#32))
      (IntOp.andi (IntOp.cmpi .sge (E (ix1 (j 0))) 0#32) (IntOp.cmpi .slt (E (ix1 (j 0))) 8#32)))
      (IntOp.andi (IntOp.cmpi .sge (N (ix1 0)) 0#32) (IntOp.cmpi .sle (N (ix1 0)) 72#32)) = 1#1 := by
    have eE : broadcastInDim S72x512 ![0, 1] Facts.bcast_S72x1_S72x512_0_1 (broadcastInDim S72x1 ![0] Facts.bcast_S72_S72x1_0 E) j = E (ix1 (j 0)) :=
      congrArg E (funext fun a => by match a with | ⟨0, _⟩ => rfl)
    have eN : ∀ k : S1.Idx, N k = N (ix1 0) := fun k => congrArg N (funext fun a => by
      match a with | ⟨0, _⟩ => exact Fin.ext (by have := (k 0).isLt; simp only [Matrix.cons_val_zero] at this; change (k 0).val = 0; omega))
    rw [← h, ← eE]
    simp only [Pre_tables_in_range.fn, Pre_tables_in_range.fn_part1, andi, cmpi]
    refine congrArg₂ IntOp.andi rfl (congrArg₂ IntOp.andi ?_ ?_)
    · exact congrArg (fun n => IntOp.cmpi .sge n 0#32) (eN _).symm
    · exact congrArg (fun n => IntOp.cmpi .sle n 72#32) (eN _).symm
  rw [one_and, one_and, one_and, one_and, one_and] at h'
  exact ⟨lt_of_range _ _ (by decide) h'.1.1.1 h'.1.1.2, lt_of_range _ _ (by decide) h'.1.2.1 h'.1.2.2, le_of_range _ _ (by decide) h'.2.1 h'.2.2⟩

/-- The precondition's tables are in range. -/
theorem pre_read (h : Pre_tables_in_range.fn x g T E N wg wu wd = fun _ => 1#1) :
    (∀ y, (T y).toNat < 16384) ∧ (∀ y, (E y).toNat < 8) ∧ (N (ix1 0)).toNat ≤ 72 := by
  have hj (j) := pre_at x g T E N wg wu wd j (congrFun h j)
  refine ⟨fun y => ?_, fun y => ?_, (hj (ix2 0 0)).2.2⟩
  · have := (hj ((Shape.reshapeEquiv Facts.shapeCasts_S36864_S72x512).symm y)).1
    unfold shapeCast at this
    rwa [Equiv.apply_symm_apply] at this
  · have := (hj (ix2 (y 0) 0)).2.1
    rw [eq_ix1 y]
    exact this

end Cert.Experts
-- ==== Proof.Same.lean ====
/-
  The kernel and its idealization are printed as one program: their bodies, body tables and @main are equal at any float values.
-/
module

public import proofs.«01_k».proof.Proof.Gen.Kernel
public import proofs.«01_k».proof.Proof.Gen.KernelIdeal
@[expose] public section
noncomputable section
namespace Cert.Experts
open Idealize.ShloMosaic Idealize.SL.Sem
variable {F : FTy → Type} [FloatOps F]

/-- The two programs' kernel bodies are one. -/
theorem defs₀_same : Cert.KernelIdeal.defs₀ (F := F) = Cert.Kernel.defs₀ :=
  congrArg (Defs.onTc (nD := Cert.KernelIdeal.nD) (τ := Cert.KernelIdeal.τ) (sig := Cert.KernelIdeal.sig) (Val := Elt F) (Λ := Cert.KernelIdeal.Λ₀)) (funext fun k => funext fun a => match k, a with
    | 0, (t, s) => rfl
    | ⟨_ + 1, h⟩, _ => absurd h (Nat.not_lt.2 (Nat.le_add_left _ _)))

theorem defs_same : Cert.KernelIdeal.defs (F := F) = Cert.Kernel.defs :=
  congrArg (Pipeline.defs (Cert.KernelIdeal.pcfgs (F := F))) defs₀_same

theorem main_same : Cert.KernelIdeal.main (F := F) = Cert.Kernel.main := rfl
end Cert.Experts
end
-- ==== Proof.DenseStep.lean ====
/-
  The dense feed-forward call, point by point: what its body leaves in the output block and in the kept normalised rows,
  as the two printed computations of the blocks it reads.
-/
module

public import proofs.«01_k».proof.Proof.Gen.Kernel2Ideal.Value

@[expose] public section

noncomputable section

namespace Cert.Dense

open Cert.Kernel2Ideal Cert.Kernel2Ideal.Gen Cert.Kernel2Ideal.Facts
open Idealize.ShloMosaic Idealize.ShloMosaic.TcCoe Idealize.ShloMosaic.Tactic

variable {F : FTy → Type} [FloatOps F]

theorem origin : (![0, 0] : Fin 2 → ℕ) = fun _ => 0 := funext fun a => by
  match a with
  | ⟨0, _⟩ => rfl
  | ⟨1, _⟩ => rfl

section
variable (c : Dev nD) (i : grid0.Coords)
  (b0 : Memref sig .tc .vmem S1024x2048 .f32) (h0 : b0.IsWhole) (b1 : Memref sig .tc .vmem S1x2048 .f32) (h1 : b1.IsWhole)
  (b2 : Memref sig .tc .vmem S2048x512 .bf16) (h2 : b2.IsWhole) (b3 : Memref sig .tc .vmem S2048x512 .bf16) (h3 : b3.IsWhole)
  (b4 : Memref sig .tc .vmem S512x2048 .bf16) (h4 : b4.IsWhole) (b5 : Memref sig .tc .vmem S1024x2048 .f32) (h5 : b5.IsWhole)
  (b6 : Memref sig .tc .vmem S1024x2048 .bf16) (h6 : b6.IsWhole)
  (x : Vec F S1024x2048 .f32) (g : Vec F S1x2048 .f32) (wg wu : Vec F S2048x512 .bf16) (wd : Vec F S512x2048 .bf16)

/-- A later chunk adds its part to the output block, over the rows kept. -/
theorem later (hc : ¬cond0_0 i) (o : Vec F S1024x2048 .f32) (xn : Vec F S1024x2048 .bf16) :
    out0_B_5 c i b0 h0 b1 h1 b2 h2 b3 h3 b4 h4 b5 h5 b6 h6 hc x g wg wu wd o xn = k0_pay2 xn wg wu o wd := by
  unfold out0_B_5
  rw [View.read_writes_eq_canon _ _ _ (cover0_B_5 c i b0 h0 b1 h1 b2 h2 b3 h3 b4 h4 b5 h5 b6 h6 hc x g wg wu wd o xn)]
  unfold kernelRun0_B
  dsimp only
  rw [View.canon_unit_zero origin]
  simp only [View.readAt_eq_ld, h0.read_unread, h1.read_unread, h2.read_unread, h3.read_unread, h4.read_unread, h5.read_unread, h6.read_unread,
    View.ld_unit_zero (S := S1024x2048) origin, View.ld_unit_zero (S := S2048x512) origin, View.ld_unit_zero (S := S512x2048) origin]

/-- The first chunk keeps the normalised rows. -/
theorem first_rows (hc : cond0_0 i) :
    sout0_A_0 c i b0 h0 b1 h1 b2 h2 b3 h3 b4 h4 b5 h5 b6 h6 hc x g wg wu wd = k0_pay1 x g := by
  unfold sout0_A_0
  rw [View.read_writes_eq_canon _ _ _ (scover0_A_0 c i b0 h0 b1 h1 b2 h2 b3 h3 b4 h4 b5 h5 b6 h6 hc x g wg wu wd)]
  unfold kernelRun0_A
  dsimp only
  sl_unfold_words
  rw [View.canon_unit_zero origin]
  simp only [View.readAt_eq_ld, h0.read_unread, h1.read_unread, View.ld_unit_zero (S := S1024x2048) origin, View.ld_unit_zero (S := S1x2048) origin]

/-- The first chunk starts the output block from the rows themselves and adds its part. -/
theorem first (hc : cond0_0 i) :
    out0_A_5 c i b0 h0 b1 h1 b2 h2 b3 h3 b4 h4 b5 h5 b6 h6 hc x g wg wu wd = k0_pay2 (k0_pay1 x g) wg wu x wd := by
  unfold out0_A_5
  rw [View.read_writes_eq_canon _ _ _ (cover0_A_5 c i b0 h0 b1 h1 b2 h2 b3 h3 b4 h4 b5 h5 b6 h6 hc x g wg wu wd)]
  unfold kernelRun0_A
  dsimp only
  sl_unfold_words
  rw [View.canon_cons_unit_zero (S := S1024x2048) origin]
  simp only [View.readCov_unit_zero (S := S1024x2048) _ origin, View.readAt_eq_ld, h0.read_unread, h1.read_unread, h2.read_unread, h3.read_unread, h4.read_unread,
    View.ld_unit_zero (S := S1024x2048) origin, View.ld_unit_zero (S := S1x2048) origin, View.ld_unit_zero (S := S2048x512) origin,
    View.ld_unit_zero (S := S512x2048) origin]
end

/-! ## The points -/

variable (m : (ℓ : Loc nD τ sig) → Buf (Elt F) ℓ) (c : Dev nD)

abbrev rowsB (t : Fin cfg0.N) : Vec F S1024x2048 .f32 := iblk m c 0 t
abbrev gainB (t : Fin cfg0.N) : Vec F S1x2048 .f32 := iblk m c 1 t
abbrev gateB (t : Fin cfg0.N) : Vec F S2048x512 .bf16 := iblk m c 2 t
abbrev upB (t : Fin cfg0.N) : Vec F S2048x512 .bf16 := iblk m c 3 t
abbrev downB (t : Fin cfg0.N) : Vec F S512x2048 .bf16 := iblk m c 4 t

/-- The output block and the kept rows after the first point of a block of rows. -/
theorem outs_first (t : Fin cfg0.N) (h : t.val % 11 = 0) :
    outsAt0 m c t.val t.isLt = (k0_pay2 (k0_pay1 (rowsB m c t) (gainB m c t)) (gateB m c t) (upB m c t) (rowsB m c t) (downB m c t),
      k0_pay1 (rowsB m c t) (gainB m c t)) := by
  rw [outsAt0_A m c t h]
  exact congrArg₂ Prod.mk (first ..) (first_rows ..)

/-- The same after a later point. -/
theorem outs_later (n : ℕ) (hn : n + 1 < cfg0.N) (h : ¬(n + 1) % 11 = 0) :
    outsAt0 m c (n + 1) hn = (k0_pay2 (outsAt0 m c n (Nat.lt_of_succ_lt hn)).2 (gateB m c ⟨n + 1, hn⟩) (upB m c ⟨n + 1, hn⟩)
      (outsAt0 m c n (Nat.lt_of_succ_lt hn)).1 (downB m c ⟨n + 1, hn⟩), (outsAt0 m c n (Nat.lt_of_succ_lt hn)).2) := by
  refine (outsAt0_B m c ⟨n + 1, hn⟩ h).trans (congrArg₂ Prod.mk ?_ rfl)
  exact later ..

end Cert.Dense

end
-- ==== Proof.DensePay.lean ====
/-
  The dense feed-forward call's two computations read at an index over the extended reals: the normalised rows, and one
  chunk's contribution to the output block. And an entry of the call's result as a formula of its five arguments.
-/
module

public import proofs.«01_k».proof.Proof.Spec
public import proofs.«01_k».proof.Proof.DenseStep
public import Idealize.ShloMosaic.Lib.MatmulPlain

@[expose] public section

noncomputable section

namespace Cert.Dense

open Cert.Kernel2Ideal Cert.Kernel2Ideal.Gen Cert.Kernel2Ideal.Facts
open Idealize.ShloMosaic Idealize.ShloMosaic.TcCoe
open Idealize.ShloMosaic.ValueIdx
open Cert.Experts (unit hidden act half_tanh)

/-! ## An entry of the result -/

/-- One hidden coordinate's part of entry `(i, j)`. -/
def part (X : (⟨2, ![16384, 2048]⟩ : Shape).Idx → EReal) (G : (⟨1, ![2048]⟩ : Shape).Idx → EReal)
    (A B : (⟨2, ![2048, 5632]⟩ : Shape).Idx → EReal) (D : (⟨2, ![5632, 2048]⟩ : Shape).Idx → EReal)
    (i : Fin 16384) (j : Fin 2048) (f : Fin 5632) : EReal :=
  hidden (unit (fun a => X (ix2 i a)) (fun a => G (ix1 a))) (fun k => A (ix2 k f)) (fun k => B (ix2 k f)) * D (ix2 f j)

/-- Entry `(i, j)`: the row itself plus its gated hidden row times a column. -/
def entry (X : (⟨2, ![16384, 2048]⟩ : Shape).Idx → EReal) (G : (⟨1, ![2048]⟩ : Shape).Idx → EReal)
    (A B : (⟨2, ![2048, 5632]⟩ : Shape).Idx → EReal) (D : (⟨2, ![5632, 2048]⟩ : Shape).Idx → EReal)
    (i : Fin 16384) (j : Fin 2048) : EReal :=
  X (ix2 i j) + ∑ f : Fin 5632, part X G A B D i j f

/-- A sum over the hidden dimension, chunk by chunk. -/
theorem sum_chunks (w : Fin 5632 → EReal) : ∑ f, w f = ∑ a : Fin 11, ∑ b : Fin 512, w ⟨512 * a.val + b.val, by omega⟩ := by
  rw [← Equiv.sum_comp (finProdFinEquiv : Fin 11 × Fin 512 ≃ Fin 5632), Fintype.sum_prod_type]
  refine Finset.sum_congr rfl fun a _ => Finset.sum_congr rfl fun b _ => congrArg w (Fin.ext ?_)
  exact Nat.add_comm b.val (512 * a.val)

/-! ## Shapes -/

theorem add_column {α : Type} (v : S1024.Idx → α) (h) (r : Fin 1024) : shapeCast S1024x1 v h (ix2 r 0) = v (ix1 r) := by
  refine shapeCast_apply v h _ _ ?_
  rw [Shape.rowMajor_val_one, Shape.rowMajor_val_two]
  show r.val = r.val * 1 + 0
  omega

theorem spread_column {α : Type} (v : S1024x1.Idx → α) (h) (r : Fin 1024) (k : Fin 2048) :
    broadcastTo S1024x2048 v h (ix2 r k) = v (ix2 r 0) := by
  refine broadcastTo_apply v h _ _ fun a => ?_
  match a with
  | ⟨0, _⟩ => rfl
  | ⟨1, _⟩ => rfl

theorem spread_row {α : Type} (v : S1x2048.Idx → α) (h) (r : Fin 1024) (k : Fin 2048) :
    broadcastTo S1024x2048 v h (ix2 r k) = v (ix2 0 k) := by
  refine broadcastTo_apply v h _ _ fun a => ?_
  match a with
  | ⟨0, _⟩ => rfl
  | ⟨1, _⟩ => rfl

theorem row_sum (v : FVec Ideal S1024x2048 .f32) (acc : BitVec 32) (h : S1024x2048.Reduces [1] S1024) (hφ : FKind.Formats .f32)
    (hacc : acc = FKind.add.neutral .f32 hφ) (r : Fin 1024) :
    multiReduction .add [1] S1024 v acc h hφ hacc (ix1 r) = ∑ k : Fin 2048, v (ix2 r k) := by
  refine (Ideal.multiReduction_add_single v acc h hφ hacc (ix1 r)).trans ?_
  refine Finset.sum_congr rfl fun k _ => congrArg v (funext fun a => Fin.ext ?_)
  match a with
  | ⟨0, _⟩ => rfl
  | ⟨1, _⟩ => rfl

/-! ## The two computations -/

theorem rows_apply (X : Vec Ideal S1024x2048 .f32) (G : Vec Ideal S1x2048 .f32) (r : Fin 1024) (k : Fin 2048) :
    k0_pay1 (F := Ideal) X G (ix2 r k) = unit (fun a => X (ix2 r a)) (fun a => G (ix2 0 a)) k := by
  unfold k0_pay1
  rw [shapeCast_self, shapeCast_self]
  show (X (ix2 r k) * broadcastTo S1024x2048 _ _ (ix2 r k)) * broadcastTo S1024x2048 G _ (ix2 r k) = _
  rw [spread_column, spread_row]
  show X (ix2 r k) * Ideal.rsqrt (Ideal.div (shapeCast S1024x1 _ _ (ix2 r 0)) (Ideal.ofBits .f32 0x45000000#32) + Ideal.ofBits .f32 0x358637BD#32) * G (ix2 0 k) = _
  rw [add_column]
  refine congrArg (fun q : EReal => X (ix2 r k) * Ideal.rsqrt (Ideal.div q (Ideal.ofBits .f32 0x45000000#32) + Ideal.ofBits .f32 0x358637BD#32)
    * G (ix2 0 k)) ?_
  exact row_sum _ _ _ _ _ r

theorem product_up (x : FVec Ideal S1024x2048 .bf16) (w : FVec Ideal S2048x512 .bf16) (r : Fin 1024) (f : Fin 512) :
    matmul dot_S1024x2048_S2048x512_S1024x512_1_0_0_1_n_n none x w (constant S1024x512 .f32 0x00000000#32) (ix2 r f)
      = ∑ k : Fin 2048, x (ix2 r k) * w (ix2 k f) := by
  refine (Ideal.matmul_plain_apply (M := 1024) (K := 2048) (N := 512) none x w _ r f).trans ?_
  rw [show constant (F := Ideal) S1024x512 .f32 0x00000000#32 (ix2 r f) = 0 from Ideal.ofBits_zero_f32, zero_add]

theorem product_down (x : FVec Ideal S1024x512 .bf16) (w : FVec Ideal S512x2048 .bf16) (r : Fin 1024) (j : Fin 2048) :
    matmul dot_S1024x512_S512x2048_S1024x2048_1_0_0_1_n_n none x w (constant S1024x2048 .f32 0x00000000#32) (ix2 r j)
      = ∑ f : Fin 512, x (ix2 r f) * w (ix2 f j) := by
  refine (Ideal.matmul_plain_apply (M := 1024) (K := 512) (N := 2048) none x w _ r j).trans ?_
  rw [show constant (F := Ideal) S1024x2048 .f32 0x00000000#32 (ix2 r j) = 0 from Ideal.ofBits_zero_f32, zero_add]

/-- One chunk added to the output block. -/
theorem chunk_apply (xn : Vec Ideal S1024x2048 .bf16) (wg wu : Vec Ideal S2048x512 .bf16) (O : Vec Ideal S1024x2048 .f32)
    (wd : Vec Ideal S512x2048 .bf16) (r : Fin 1024) (j : Fin 2048) :
    k0_pay2 (F := Ideal) xn wg wu O wd (ix2 r j)
      = O (ix2 r j) + ∑ f : Fin 512, hidden (fun k => xn (ix2 r k)) (fun k => wg (ix2 k f)) (fun k => wu (ix2 k f)) * wd (ix2 f j) := by
  unfold k0_pay2
  rw [shapeCast_self, shapeCast_self, shapeCast_self, shapeCast_self]
  refine congrArg (O (ix2 r j) + ·) ?_
  refine (product_down _ _ r j).trans (Finset.sum_congr rfl fun f _ => ?_)
  refine congrArg (· * wd (ix2 f j)) ?_
  unfold Cert.Experts.hidden act
  rw [← product_up xn wg r f, ← product_up xn wu r f, ← half_tanh]
  rfl

end Cert.Dense

end
-- ==== Proof.DenseValue.lean ====
/-
  The dense feed-forward call's result over the extended reals: each entry is the row's own entry plus its gated hidden
  row times a column, summed chunk by chunk.
-/
module

public import proofs.«01_k».proof.Proof.DensePay

@[expose] public section

noncomputable section

namespace Cert.Dense

open Cert.Kernel2Ideal Cert.Kernel2Ideal.Gen Cert.Kernel2Ideal.Facts
open Idealize.ShloMosaic Idealize.ShloMosaic.TcCoe
open Idealize.ShloMosaic.ValueIdx
open Cert.Experts (unit hidden)

variable (m : (ℓ : Loc nD τ sig) → Buf (Elt Ideal) ℓ) (c : Dev nD)

/-! ## The arguments -/

abbrev xA : S16384x2048.Idx → EReal := m ((c : Thread nD τ).loc main_arg0)
abbrev gA : S2048.Idx → EReal := m ((c : Thread nD τ).loc main_arg1)
abbrev gateA : S2048x5632.Idx → EReal := m ((c : Thread nD τ).loc main_arg2)
abbrev upA : S2048x5632.Idx → EReal := m ((c : Thread nD τ).loc main_arg3)
abbrev downA : S5632x2048.Idx → EReal := m ((c : Thread nD τ).loc main_arg4)

theorem V_rows (i : S16384x2048.Idx) : V m c main_arg0 i = xA m c i := congrFun (V_main_arg0 m c) i
theorem V_gate (i : S2048x5632.Idx) : V m c main_v0 i = gateA m c i := rfl
theorem V_up (i : S2048x5632.Idx) : V m c main_v1 i = upA m c i := rfl
theorem V_down (i : S5632x2048.Idx) : V m c main_v2 i = downA m c i := rfl

theorem V_gain (k : Fin 2048) : V m c main_v3 (ix2 0 k) = gA m c (ix1 k) := by
  show shapeCast S1x2048 (gA m c) shapeCasts_S2048_S1x2048 (ix2 0 k) = _
  refine shapeCast_apply _ _ _ _ ?_
  rw [Shape.rowMajor_val_one, Shape.rowMajor_val_two]
  show k.val = 0 * 2048 + k.val
  omega

/-! ## The blocks a point reads -/

theorem index0 : ∀ t : Fin grid0.N, win0_0.index t = ![t.val / 11, 0] := by decide +kernel
theorem index1 : ∀ t : Fin grid0.N, win0_1.index t = ![0, 0] := by decide +kernel
theorem index2 : ∀ t : Fin grid0.N, win0_2.index t = ![0, t.val % 11] := by decide +kernel
theorem index3 : ∀ t : Fin grid0.N, win0_3.index t = ![0, t.val % 11] := by decide +kernel
theorem index4 : ∀ t : Fin grid0.N, win0_4.index t = ![t.val % 11, 0] := by decide +kernel

/-- A row of a block of rows, in the whole array. -/
def rowOf (b : ℕ) (hb : b < 16) (r : Fin 1024) : Fin 16384 := ⟨1024 * b + r.val, by omega⟩

/-- A hidden coordinate of a chunk, in the whole dimension. -/
def hidOf (q : ℕ) (hq : q < 11) (f : Fin 512) : Fin 5632 := ⟨512 * q + f.val, by omega⟩

variable (t : Fin cfg0.N)

theorem rowsB_apply (b : ℕ) (hb : b < 16) (e : t.val / 11 = b) (r : Fin 1024) (k : Fin 2048) :
    rowsB m c t (ix2 r k) = xA m c (ix2 (rowOf b hb r) k) := by
  refine Eq.trans ?_ (V_rows m c _)
  show V m c main_arg0 _ = V m c main_arg0 _
  congr 1
  funext a
  apply Fin.ext
  match a with
  | ⟨0, _⟩ =>
    show win0_0.index t (0 : Fin 2) * 1024 + 1 * r.val = 1024 * b + r.val
    rw [index0 t]
    show t.val / 11 * 1024 + 1 * r.val = _
    omega
  | ⟨1, _⟩ => show win0_0.index t (1 : Fin 2) * 2048 + 1 * k.val = k.val; rw [index0 t]; show 0 * 2048 + 1 * k.val = k.val; omega

theorem gainB_apply (k : Fin 2048) : gainB m c t (ix2 0 k) = gA m c (ix1 k) := by
  refine Eq.trans ?_ (V_gain m c k)
  show V m c main_v3 _ = V m c main_v3 _
  congr 1
  funext a
  apply Fin.ext
  match a with
  | ⟨0, _⟩ => show win0_1.index t (0 : Fin 2) * 1 + 1 * 0 = 0; rw [index1 t]; rfl
  | ⟨1, _⟩ => show win0_1.index t (1 : Fin 2) * 2048 + 1 * k.val = k.val; rw [index1 t]; show 0 * 2048 + 1 * k.val = k.val; omega

theorem gateB_apply (q : ℕ) (hq : q < 11) (e : t.val % 11 = q) (k : Fin 2048) (f : Fin 512) :
    gateB m c t (ix2 k f) = gateA m c (ix2 k (hidOf q hq f)) := by
  refine Eq.trans ?_ (V_gate m c _)
  show V m c main_v0 _ = V m c main_v0 _
  congr 1
  funext a
  apply Fin.ext
  match a with
  | ⟨0, _⟩ => show win0_2.index t (0 : Fin 2) * 2048 + 1 * k.val = k.val; rw [index2 t]; show 0 * 2048 + 1 * k.val = k.val; omega
  | ⟨1, _⟩ =>
    show win0_2.index t (1 : Fin 2) * 512 + 1 * f.val = 512 * q + f.val
    rw [index2 t]
    show t.val % 11 * 512 + 1 * f.val = _
    omega

theorem upB_apply (q : ℕ) (hq : q < 11) (e : t.val % 11 = q) (k : Fin 2048) (f : Fin 512) :
    upB m c t (ix2 k f) = upA m c (ix2 k (hidOf q hq f)) := by
  refine Eq.trans ?_ (V_up m c _)
  show V m c main_v1 _ = V m c main_v1 _
  congr 1
  funext a
  apply Fin.ext
  match a with
  | ⟨0, _⟩ => show win0_3.index t (0 : Fin 2) * 2048 + 1 * k.val = k.val; rw [index3 t]; show 0 * 2048 + 1 * k.val = k.val; omega
  | ⟨1, _⟩ =>
    show win0_3.index t (1 : Fin 2) * 512 + 1 * f.val = 512 * q + f.val
    rw [index3 t]
    show t.val % 11 * 512 + 1 * f.val = _
    omega

theorem downB_apply (q : ℕ) (hq : q < 11) (e : t.val % 11 = q) (f : Fin 512) (j : Fin 2048) :
    downB m c t (ix2 f j) = downA m c (ix2 (hidOf q hq f) j) := by
  refine Eq.trans ?_ (V_down m c _)
  show V m c main_v2 _ = V m c main_v2 _
  congr 1
  funext a
  apply Fin.ext
  match a with
  | ⟨0, _⟩ =>
    show win0_4.index t (0 : Fin 2) * 512 + 1 * f.val = 512 * q + f.val
    rw [index4 t]
    show t.val % 11 * 512 + 1 * f.val = _
    omega
  | ⟨1, _⟩ => show win0_4.index t (1 : Fin 2) * 2048 + 1 * j.val = j.val; rw [index4 t]; show 0 * 2048 + 1 * j.val = j.val; omega

/-! ## A block of rows, chunk by chunk -/

/-- A chunk's part of entry `(i, j)`. -/
def chunk (i : Fin 16384) (j : Fin 2048) (q : ℕ) : EReal :=
  if hq : q < 11 then ∑ f : Fin 512, part (xA m c) (gA m c) (gateA m c) (upA m c) (downA m c) i j (hidOf q hq f) else 0

/-- One point's addition, over rows kept normalised. -/
theorem point_apply (b : ℕ) (hb : b < 16) (q : ℕ) (hq : q < 11) (e : t.val % 11 = q) (xn : Vec Ideal S1024x2048 .bf16)
    (hx : ∀ (r : Fin 1024) (k : Fin 2048), xn (ix2 r k) = unit (fun a => xA m c (ix2 (rowOf b hb r) a)) (fun a => gA m c (ix1 a)) k)
    (O : Vec Ideal S1024x2048 .f32) (r : Fin 1024) (j : Fin 2048) :
    k0_pay2 (F := Ideal) xn (gateB m c t) (upB m c t) O (downB m c t) (ix2 r j) = O (ix2 r j) + chunk m c (rowOf b hb r) j q := by
  rw [chunk_apply]
  unfold chunk
  rw [dif_pos hq]
  refine congrArg (O (ix2 r j) + ·) (Finset.sum_congr rfl fun f _ => ?_)
  unfold part
  rw [downB_apply m c t q hq e f j]
  refine congrArg (· * _) ?_
  have e1 : (fun k => xn (ix2 r k)) = _ := funext fun k => hx r k
  have e2 : (fun k => gateB m c t (ix2 k f)) = _ := funext fun k => gateB_apply m c t q hq e k f
  have e3 : (fun k => upB m c t (ix2 k f)) = _ := funext fun k => upB_apply m c t q hq e k f
  rw [e1, e2, e3]

theorem kept_apply (b : ℕ) (hb : b < 16) (e : t.val / 11 = b) (r : Fin 1024) (k : Fin 2048) :
    k0_pay1 (F := Ideal) (rowsB m c t) (gainB m c t) (ix2 r k)
      = unit (fun a => xA m c (ix2 (rowOf b hb r) a)) (fun a => gA m c (ix1 a)) k := by
  rw [rows_apply]
  have e1 : (fun a => rowsB m c t (ix2 r a)) = _ := funext fun a => rowsB_apply m c t b hb e r a
  have e2 : (fun a => gainB m c t (ix2 0 a)) = _ := funext fun a => gainB_apply m c t a
  rw [e1, e2]

theorem point_lt (b : ℕ) (hb : b < 16) (q : ℕ) (hq : q < 11) : 11 * b + q < cfg0.N :=
  lt_of_lt_of_eq (by omega) N_0.symm

/-- After chunk `q` the scratch holds the normalised rows, and the output block the rows plus the chunks so far. -/
theorem after_chunk (b : ℕ) (hb : b < 16) : ∀ (q : ℕ) (hq : q < 11),
    (∀ (r : Fin 1024) (k : Fin 2048), (outsAt0 m c (11 * b + q) (point_lt b hb q hq)).2 (ix2 r k)
      = unit (fun a => xA m c (ix2 (rowOf b hb r) a)) (fun a => gA m c (ix1 a)) k)
    ∧ ∀ (r : Fin 1024) (j : Fin 2048), (outsAt0 m c (11 * b + q) (point_lt b hb q hq)).1 (ix2 r j)
      = xA m c (ix2 (rowOf b hb r) j) + ∑ a ∈ Finset.range (q + 1), chunk m c (rowOf b hb r) j a
  | 0, hq => by
    have e0 : (11 * b + 0) / 11 = b := by omega
    have e1 : (11 * b + 0) % 11 = 0 := by omega
    rw [outs_first m c ⟨11 * b + 0, point_lt b hb 0 hq⟩ e1]
    refine ⟨fun r k => kept_apply m c _ b hb e0 r k, fun r j => ?_⟩
    refine (point_apply m c ⟨11 * b + 0, point_lt b hb 0 hq⟩ b hb 0 hq e1 _ (fun r k => kept_apply m c _ b hb e0 r k) _ r j).trans ?_
    rw [rowsB_apply m c _ b hb e0 r j, Finset.sum_range_one]
  | q + 1, hq => by
    have e1 : (11 * b + (q + 1)) % 11 = q + 1 := by omega
    obtain ⟨hx, ho⟩ := after_chunk b hb q (Nat.lt_of_succ_lt hq)
    have s := outs_later m c (11 * b + q) (point_lt b hb (q + 1) hq) (by omega)
    refine ⟨fun r k => ?_, fun r j => ?_⟩
    · exact (congrArg (fun p => p.2 (ix2 r k)) s).trans (hx r k)
    · refine (congrArg (fun p => p.1 (ix2 r j)) s).trans ?_
      refine (point_apply m c ⟨11 * b + (q + 1), point_lt b hb (q + 1) hq⟩ b hb (q + 1) hq e1 _ hx _ r j).trans ?_
      rw [ho r j, Finset.sum_range_succ _ (q + 1), add_assoc]

/-- The call's result at an index. -/
theorem result_apply (i : Fin 16384) (j : Fin 2048) :
    Cert.Kernel2Ideal.Value.G5 m c (ix2 i j) = entry (xA m c) (gA m c) (gateA m c) (upA m c) (downA m c) i j := by
  have hb : i.val / 1024 < 16 := by omega
  have hp : Cert.Kernel2Ideal.Value.pt5Of (ix2 i j) = 11 * (i.val / 1024) + 10 := by
    show 11 * (1 * (i.val / 1024 - 0) + 1 * (j.val / 2048 - 0)) + 10 = _
    omega
  have hl : Cert.Kernel2Ideal.Value.loc5Of (ix2 i j) = ix2 (⟨i.val % 1024, Nat.mod_lt _ (by decide)⟩ : Fin 1024) j := by
    funext a
    apply Fin.ext
    match a with
    | ⟨0, _⟩ => rfl
    | ⟨1, _⟩ => exact Nat.mod_eq_of_lt j.isLt
  have hr : rowOf (i.val / 1024) hb ⟨i.val % 1024, Nat.mod_lt _ (by decide)⟩ = i :=
    Fin.ext (by show 1024 * (i.val / 1024) + i.val % 1024 = i.val; omega)
  have hN := point_lt (i.val / 1024) hb 10 (by decide)
  unfold Cert.Kernel2Ideal.Value.G5
  rw [dif_pos (by rw [hp]; exact hN), hl, Cert.Kernel2Ideal.Value.fold0_congr m c _ _ (11 * (i.val / 1024) + 10) (by omega) hp,
    ← Cert.Kernel2Ideal.Value.outsAt0_sweep m c _ hN]
  refine ((after_chunk m c (i.val / 1024) hb 10 (by decide)).2 _ j).trans ?_
  rw [hr, Finset.sum_range]
  unfold entry
  rw [sum_chunks]
  refine congrArg (xA m c (ix2 i j) + ·) (Finset.sum_congr rfl fun a _ => ?_)
  unfold chunk
  rw [dif_pos a.isLt]
  rfl

end Cert.Dense

end
-- ==== Proof.DenseRef.lean ====
/-
  The dense feed-forward's reference over the extended reals, read at an index.
-/
module

public import proofs.«01_k».proof.Proof.DensePay
public import proofs.«01_k».proof.Proof.Gen.Reference2Ideal.Run
public import Idealize.ShloMosaic.Lib.StackMember

@[expose] public section

noncomputable section

namespace Cert.Dense.Ref

open Cert.Reference2Ideal Cert.Reference2Ideal.Gen
open Idealize.ShloMosaic Idealize.ShloMosaic.TcCoe
open Idealize.ShloMosaic.ValueIdx
open Cert.Experts (unit hidden act)

/-! ## The pieces of the reference -/

/-- The normalised rows. -/
def xn (X : FVec Ideal S16384x2048 .f32) (G : FVec Ideal S2048 .f32) : FVec Ideal S16384x2048 .f32 :=
  mulf (mulf X (broadcastInDim S16384x2048 ![0, 1] bcast_S16384x1_S16384x2048_0_1 (Host.rsqrt (addf (Host.divf (broadcastInDim S16384x1 ![0] bcast_S16384_S16384x1_0
    (Host.reduceAdd (mulf X X) (constant S_ .f32 0x00000000#32) reducesTo_S16384x2048_S16384_d1 h_S_))
    (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 G))

/-- A product of the rows with a weight. -/
def up (Y : FVec Ideal S16384x2048 .f32) (W : FVec Ideal S2048x5632 .f32) : FVec Ideal S16384x5632 .f32 :=
  Host.dotGeneral dot_S16384x2048_S2048x5632_S16384x5632_1_0_0_1_n_n none Y W

/-- The activation. -/
def gated (H U : FVec Ideal S16384x5632 .f32) : FVec Ideal S16384x5632 .f32 :=
  mulf (mulf H (Host.divf (broadcastInDim S16384x5632 ![] bcast_S_S16384x5632 (constant S_ .f32 0x3F800000#32))
    (addf (broadcastInDim S16384x5632 ![] bcast_S_S16384x5632 (constant S_ .f32 0x3F800000#32)) (Host.exp (Host.negf H))))) U

/-- The reference's result, in those pieces. -/
def out (X : FVec Ideal S16384x2048 .f32) (G : FVec Ideal S2048 .f32) (A B : FVec Ideal S2048x5632 .f32) (D : FVec Ideal S5632x2048 .f32) :
    FVec Ideal S16384x2048 .f32 :=
  addf X (Host.dotGeneral dot_S16384x5632_S5632x2048_S16384x2048_1_0_0_1_n_n none (gated (up (xn X G) A) (up (xn X G) B)) D)

/-! ## Each read at an index -/

theorem sum_row (v : FVec Ideal S16384x2048 .f32) (i : Fin 16384) :
    Host.reduceAdd v (constant S_ .f32 0x00000000#32) reducesTo_S16384x2048_S16384_d1 h_S_ (ix1 i) = ∑ k : Fin 2048, v (ix2 i k) := by
  have h' : S16384x2048.Reduces [1] S16384 := by decide
  refine (Ideal.hostReduceAdd_single reducesTo_S16384x2048_S16384_d1 h' v _ (ix1 i)).trans ?_
  rw [show constant (F := Ideal) S_ .f32 0x00000000#32 (Shape.Idx.first h_S_) = 0 from Ideal.ofBits_zero_f32, zero_add]
  refine Finset.sum_congr rfl fun k _ => congrArg v (funext fun a => Fin.ext ?_)
  match a with
  | ⟨0, _⟩ => rfl
  | ⟨1, _⟩ => rfl

theorem column {α : Type} (v : S16384.Idx → α) (i : Fin 16384) (k : Fin 1) : broadcastInDim S16384x1 ![0] bcast_S16384_S16384x1_0 v (ix2 i k) = v (ix1 i) := by
  refine broadcastInDim_apply _ _ v _ _ fun a => ?_
  match a with
  | ⟨0, _⟩ => rfl

theorem across {α : Type} (v : S16384x1.Idx → α) (i : Fin 16384) (k : Fin 2048) :
    broadcastInDim S16384x2048 ![0, 1] bcast_S16384x1_S16384x2048_0_1 v (ix2 i k) = v (ix2 i 0) := by
  refine broadcastInDim_apply _ _ v _ _ fun a => ?_
  match a with
  | ⟨0, _⟩ => rfl
  | ⟨1, _⟩ => rfl

theorem down {α : Type} (v : S2048.Idx → α) (i : Fin 16384) (k : Fin 2048) :
    broadcastInDim S16384x2048 ![0, 1] bcast_S1x2048_S16384x2048_0_1 (broadcastInDim S1x2048 ![1] bcast_S2048_S1x2048_1 v) (ix2 i k) = v (ix1 k) := by
  refine (broadcastInDim_apply _ _ _ _ (ix2 (0 : Fin 1) k) fun a => ?_).trans (broadcastInDim_apply _ _ v _ _ fun a => ?_)
  · match a with
    | ⟨0, _⟩ => rfl
    | ⟨1, _⟩ => rfl
  · match a with
    | ⟨0, _⟩ => rfl

theorem xn_apply (X : FVec Ideal S16384x2048 .f32) (G : FVec Ideal S2048 .f32) (i : Fin 16384) (k : Fin 2048) :
    xn X G (ix2 i k) = unit (fun a => X (ix2 i a)) (fun a => G (ix1 a)) k := by
  unfold xn unit
  refine congrArg₂ (fun x y : EReal => x * y) (congrArg (fun y : EReal => X (ix2 i k) * y) ((across _ i k).trans ?_)) (down G i k)
  exact congrArg (fun q : EReal => Ideal.rsqrt (Ideal.div q (Ideal.ofBits .f32 0x45000000#32) + Ideal.ofBits .f32 0x358637BD#32))
    ((column _ i 0).trans (sum_row _ i))

theorem up_apply (Y : FVec Ideal S16384x2048 .f32) (W : FVec Ideal S2048x5632 .f32) (i : Fin 16384) (f : Fin 5632) :
    up Y W (ix2 i f) = ∑ k : Fin 2048, (Y (ix2 i k) * W (ix2 k f) : EReal) :=
  StackMember.dotGeneral_plain_apply (m := 16384) (k := 2048) (n := 5632) none Y W i f

theorem gated_apply (H U : FVec Ideal S16384x5632 .f32) (i : S16384x5632.Idx) : gated H U i = act (H i) (U i) := by
  unfold gated act
  refine congrArg (fun q : EReal => (H i * q) * U i) ?_
  show Ideal.div (Ideal.ofBits .f32 0x3F800000#32) (Ideal.ofBits .f32 0x3F800000#32 + Ideal.exp (-(H i))) = _
  rw [Ideal.ofBits_one_f32]
  rfl

/-- The reference's result at an index. -/
theorem out_apply (X : FVec Ideal S16384x2048 .f32) (G : FVec Ideal S2048 .f32) (A B : FVec Ideal S2048x5632 .f32) (D : FVec Ideal S5632x2048 .f32)
    (i : Fin 16384) (j : Fin 2048) : out X G A B D (ix2 i j) = entry X G A B D i j := by
  unfold out entry
  refine congrArg (fun q : EReal => X (ix2 i j) + q) ?_
  refine (StackMember.dotGeneral_plain_apply (m := 16384) (k := 5632) (n := 2048) none _ D i j).trans (Finset.sum_congr rfl fun f _ => ?_)
  unfold part
  refine congrArg (fun q : EReal => q * D (ix2 f j)) ?_
  rw [gated_apply, up_apply, up_apply]
  unfold Cert.Experts.hidden
  have e : (fun k => xn X G (ix2 i k)) = _ := funext fun k => xn_apply X G i k
  exact congrArg (fun y : Fin 2048 → EReal => act (∑ k, y k * A (ix2 k f)) (∑ k, y k * B (ix2 k f))) e

end Cert.Dense.Ref

end
-- ==== Proof.DenseSame.lean ====
/-
  The dense feed-forward call and its idealization are printed as one program: their bodies, body tables and @main are equal at any float values.
-/
module

public import proofs.«01_k».proof.Proof.Gen.Kernel2
public import proofs.«01_k».proof.Proof.Gen.Kernel2Ideal
@[expose] public section
noncomputable section
namespace Cert.Dense
open Idealize.ShloMosaic Idealize.SL.Sem
variable {F : FTy → Type} [FloatOps F]

/-- The two programs' kernel bodies are one. -/
theorem defs₀_same : Cert.Kernel2Ideal.defs₀ (F := F) = Cert.Kernel2.defs₀ :=
  congrArg (Defs.onTc (nD := Cert.Kernel2Ideal.nD) (τ := Cert.Kernel2Ideal.τ) (sig := Cert.Kernel2Ideal.sig) (Val := Elt F) (Λ := Cert.Kernel2Ideal.Λ₀)) (funext fun k => funext fun a => match k, a with
    | 0, (t, s) => rfl
    | ⟨_ + 1, h⟩, _ => absurd h (Nat.not_lt.2 (Nat.le_add_left _ _)))

theorem defs_same : Cert.Kernel2Ideal.defs (F := F) = Cert.Kernel2.defs :=
  congrArg (Pipeline.defs (Cert.Kernel2Ideal.pcfgs (F := F))) defs₀_same

theorem main_same : Cert.Kernel2Ideal.main (F := F) = Cert.Kernel2.main := rfl
end Cert.Dense
end
-- ==== Proof.InProjStep.lean ====
/-
  The delta-rule mixer's input projection, point by point: what its body leaves in the output block and in the kept
  normalised rows, as the two printed computations of the blocks it reads.
-/
module

public import proofs.«01_k».proof.Proof.Gen.Kernel3Ideal.Value

@[expose] public section

noncomputable section

namespace Cert.InProj

open Cert.Kernel3Ideal Cert.Kernel3Ideal.Gen Cert.Kernel3Ideal.Facts
open Idealize.ShloMosaic Idealize.ShloMosaic.TcCoe Idealize.ShloMosaic.Tactic

variable {F : FTy → Type} [FloatOps F]

theorem origin : (![0, 0] : Fin 2 → ℕ) = fun _ => 0 := funext fun a => by
  match a with
  | ⟨0, _⟩ => rfl
  | ⟨1, _⟩ => rfl

section
variable (c : Dev nD) (i : grid0.Coords)
  (b0 : Memref sig .tc .vmem S1024x2048 .f32) (h0 : b0.IsWhole) (b1 : Memref sig .tc .vmem S1x2048 .f32) (h1 : b1.IsWhole)
  (b2 : Memref sig .tc .vmem S2048x1280 .bf16) (h2 : b2.IsWhole) (b3 : Memref sig .tc .vmem S1024x1280 .f32) (h3 : b3.IsWhole)
  (b4 : Memref sig .tc .vmem S1024x2048 .bf16) (h4 : b4.IsWhole)
  (x : Vec F S1024x2048 .f32) (g : Vec F S1x2048 .f32) (w : Vec F S2048x1280 .bf16)

/-- A later block of columns is a product of the rows kept. -/
theorem later (hc : ¬cond0_0 i) (xn : Vec F S1024x2048 .bf16) :
    out0_B_3 c i b0 h0 b1 h1 b2 h2 b3 h3 b4 h4 hc x g w xn = k0_pay2 xn w := by
  unfold out0_B_3
  rw [View.read_writes_eq_canon _ _ _ (cover0_B_3 c i b0 h0 b1 h1 b2 h2 b3 h3 b4 h4 hc x g w xn)]
  unfold kernelRun0_B
  dsimp only
  rw [View.canon_unit_zero origin]
  simp only [View.readAt_eq_ld, h0.read_unread, h1.read_unread, h2.read_unread, h4.read_unread,
    View.ld_unit_zero (S := S1024x2048) origin, View.ld_unit_zero (S := S2048x1280) origin]

/-- The first block keeps the normalised rows. -/
theorem first_rows (hc : cond0_0 i) :
    sout0_A_0 c i b0 h0 b1 h1 b2 h2 b3 h3 b4 h4 hc x g w = k0_pay1 x g := by
  unfold sout0_A_0
  rw [View.read_writes_eq_canon _ _ _ (scover0_A_0 c i b0 h0 b1 h1 b2 h2 b3 h3 b4 h4 hc x g w)]
  unfold kernelRun0_A
  dsimp only
  sl_unfold_words
  rw [View.canon_unit_zero origin]
  simp only [View.readAt_eq_ld, h0.read_unread, h1.read_unread, View.ld_unit_zero (S := S1024x2048) origin, View.ld_unit_zero (S := S1x2048) origin]

/-- The first block of columns is a product of the rows it has just normalised. -/
theorem first (hc : cond0_0 i) :
    out0_A_3 c i b0 h0 b1 h1 b2 h2 b3 h3 b4 h4 hc x g w = k0_pay2 (k0_pay1 x g) w := by
  unfold out0_A_3
  rw [View.read_writes_eq_canon _ _ _ (cover0_A_3 c i b0 h0 b1 h1 b2 h2 b3 h3 b4 h4 hc x g w)]
  unfold kernelRun0_A
  dsimp only
  sl_unfold_words
  rw [View.canon_unit_zero origin]
  simp only [View.readCov_unit_zero (S := S1024x2048) _ origin, View.readAt_eq_ld, h0.read_unread, h1.read_unread, h2.read_unread,
    View.ld_unit_zero (S := S1024x2048) origin, View.ld_unit_zero (S := S1x2048) origin, View.ld_unit_zero (S := S2048x1280) origin]
end

/-! ## The points -/

variable (m : (ℓ : Loc nD τ sig) → Buf (Elt F) ℓ) (c : Dev nD)

abbrev rowsB (t : Fin cfg0.N) : Vec F S1024x2048 .f32 := iblk m c 0 t
abbrev gainB (t : Fin cfg0.N) : Vec F S1x2048 .f32 := iblk m c 1 t
abbrev weightB (t : Fin cfg0.N) : Vec F S2048x1280 .bf16 := iblk m c 2 t

/-- The output block and the kept rows after the first point of a block of rows. -/
theorem outs_first (t : Fin cfg0.N) (h : t.val % 10 = 0) :
    outsAt0 m c t.val t.isLt = (k0_pay2 (k0_pay1 (rowsB m c t) (gainB m c t)) (weightB m c t), k0_pay1 (rowsB m c t) (gainB m c t)) := by
  rw [outsAt0_A m c t h]
  exact congrArg₂ Prod.mk (first ..) (first_rows ..)

/-- The same after a later point. -/
theorem outs_later (n : ℕ) (hn : n + 1 < cfg0.N) (h : ¬(n + 1) % 10 = 0) :
    outsAt0 m c (n + 1) hn = (k0_pay2 (outsAt0 m c n (Nat.lt_of_succ_lt hn)).2 (weightB m c ⟨n + 1, hn⟩), (outsAt0 m c n (Nat.lt_of_succ_lt hn)).2) := by
  refine (outsAt0_B m c ⟨n + 1, hn⟩ h).trans (congrArg₂ Prod.mk ?_ rfl)
  exact later ..

end Cert.InProj

end
-- ==== Proof.Columns.lean ====
/-
  The column order of the delta-rule mixer's input projection: the stored weight's columns as they are, then each key
  head's gates gathered into eight neighbouring columns, then zeros up to a whole number of blocks. A matrix of any
  height put in that order, read at an index.
-/
module

public import Idealize.ShloMosaic.Lib.ValueIdx
public import Idealize.ShloMosaic.Lib.Pipeline.Value

@[expose] public section

noncomputable section

namespace Cert.InProj

open Idealize.ShloMosaic Idealize.ShloMosaic.ValueIdx

/-- Where gate column `s` comes from: of a head's eight columns the first two are its `b` gates, and its two `a` gates
    follow three times over. -/
def gateCol (s : Fin 128) : Fin 12352 :=
  if s.val % 8 < 2 then ⟨12288 + (2 * (s.val / 8) + s.val % 8), by omega⟩ else ⟨12320 + (2 * (s.val / 8) + s.val % 2), by omega⟩

/-- A row in that order, `z` beyond the gates. -/
def arr {α : Type} (v : Fin 12352 → α) (z : α) (j : Fin 12800) : α :=
  if h : j.val < 12288 then v ⟨j.val, by omega⟩ else if h' : j.val < 12416 then v (gateCol ⟨j.val - 12288, by omega⟩) else z

/-- A product with columns in that order is the product, in that order. -/
theorem sum_arr (y : Fin 2048 → EReal) (W : Fin 2048 → Fin 12352 → EReal) (j : Fin 12800) :
    ∑ k, y k * arr (W k) 0 j = arr (fun q => ∑ k, y k * W k q) 0 j := by
  unfold arr
  by_cases h : j.val < 12288
  · simp only [dif_pos h]
  · by_cases h' : j.val < 12416
    · simp only [dif_neg h, dif_pos h']
    · simp only [dif_neg h, dif_neg h', mul_zero, Finset.sum_const_zero]

section
variable {α : Type} {n : ℕ} (v : (⟨2, ![n, 12352]⟩ : Shape).Idx → α)

/-- Thirty-two columns from `off` on, two to a head. -/
theorem pair_apply (off : ℕ) (ho : off + 32 ≤ 12352) (h : (⟨2, ![n, 12352]⟩ : Shape).Slices ![0, off] ⟨2, ![n, 32]⟩)
    (h' : (⟨2, ![n, 32]⟩ : Shape).ShapeCasts ⟨3, ![n, 16, 2]⟩) (i : Fin n) (g : Fin 16) (r : Fin 2) :
    shapeCast ⟨3, ![n, 16, 2]⟩ (extractStridedSlice ⟨2, ![n, 32]⟩ ![0, off] v h) h' (ix3 i g r)
      = v (ix2 i ⟨off + (2 * g.val + r.val), by omega⟩) := by
  refine (shapeCast_apply _ _ _ (ix2 i (⟨2 * g.val + r.val, by omega⟩ : Fin 32)) ?_).trans ?_
  · rw [Shape.rowMajor_val_two, Shape.rowMajor_val_three]
    show i.val * 32 + (2 * g.val + r.val) = (i.val * 16 + g.val) * 2 + r.val
    omega
  · refine extractStridedSlice_apply _ _ _ _ _ fun a => ?_
    match a with
    | ⟨0, _⟩ => exact (Nat.zero_add _).symm
    | ⟨1, _⟩ => rfl

/-- Pieces stacked along the last axis, read in piece `k`, which starts at `pre`. -/
theorem stacked_apply (xs : List ((s : Shape) × (s.Idx → α))) (h) (i : Fin n) (g : Fin 16) (j : Fin 8) (k : ℕ) (hk : k < xs.length)
    (x : (⟨3, ![n, 16, 2]⟩ : Shape).Idx → α) (hx : xs[k] = ⟨⟨3, ![n, 16, 2]⟩, x⟩) (pre : ℕ)
    (hpre : (((xs.take k).map (·.1)).map fun s => if h : s.rank = (⟨3, ![n, 16, 8]⟩ : Shape).rank then s.size ((2 : Fin 3).cast h.symm) else 0).sum = pre)
    (r : Fin 2) (hs : pre + r.val = j.val) : concatenate ⟨3, ![n, 16, 8]⟩ 2 xs h (ix3 i g j) = x (ix3 i g r) := by
  refine concatenate_apply_piece _ xs h _ k hk _ x hx rfl pre hpre (ix3 i g r) (fun d hd => ?_) hs
  match d with
  | ⟨0, _⟩ => rfl
  | ⟨1, _⟩ => rfl
  | ⟨2, _⟩ => exact absurd rfl hd

/-- The gates, gathered head by head. -/
theorem gates_apply (hb : (⟨2, ![n, 12352]⟩ : Shape).Slices ![0, 12288] ⟨2, ![n, 32]⟩)
    (ha : (⟨2, ![n, 12352]⟩ : Shape).Slices ![0, 12320] ⟨2, ![n, 32]⟩) (h' : (⟨2, ![n, 32]⟩ : Shape).ShapeCasts ⟨3, ![n, 16, 2]⟩)
    (hc) (hs) (i : Fin n) (s : Fin 128) :
    shapeCast ⟨2, ![n, 128]⟩ (concatenate ⟨3, ![n, 16, 8]⟩ 2
      [⟨⟨3, ![n, 16, 2]⟩, shapeCast ⟨3, ![n, 16, 2]⟩ (extractStridedSlice ⟨2, ![n, 32]⟩ ![0, 12288] v hb) h'⟩,
       ⟨⟨3, ![n, 16, 2]⟩, shapeCast ⟨3, ![n, 16, 2]⟩ (extractStridedSlice ⟨2, ![n, 32]⟩ ![0, 12320] v ha) h'⟩,
       ⟨⟨3, ![n, 16, 2]⟩, shapeCast ⟨3, ![n, 16, 2]⟩ (extractStridedSlice ⟨2, ![n, 32]⟩ ![0, 12320] v ha) h'⟩,
       ⟨⟨3, ![n, 16, 2]⟩, shapeCast ⟨3, ![n, 16, 2]⟩ (extractStridedSlice ⟨2, ![n, 32]⟩ ![0, 12320] v ha) h'⟩] hc) hs (ix2 i s)
      = v (ix2 i (gateCol s)) := by
  have hg : s.val / 8 < 16 := by omega
  have hr : s.val % 8 < 8 := by omega
  refine (shapeCast_apply _ _ _ (ix3 i (⟨s.val / 8, hg⟩ : Fin 16) (⟨s.val % 8, hr⟩ : Fin 8)) ?_).trans ?_
  · rw [Shape.rowMajor_val_two, Shape.rowMajor_val_three]
    show (i.val * 16 + s.val / 8) * 8 + s.val % 8 = i.val * 128 + s.val
    omega
  unfold gateCol
  by_cases h0 : s.val % 8 < 2
  · rw [if_pos h0]
    refine Eq.trans (stacked_apply _ hc i ⟨s.val / 8, hg⟩ ⟨s.val % 8, hr⟩ 0 (by simp) _ rfl 0 rfl ⟨s.val % 8, h0⟩ (Nat.zero_add _)) ?_
    exact pair_apply v 12288 (by omega) hb h' _ _ _
  · rw [if_neg h0]
    have h2 : s.val % 2 < 2 := by omega
    have p := pair_apply v 12320 (by omega) ha h' i (⟨s.val / 8, hg⟩ : Fin 16) ⟨s.val % 2, h2⟩
    by_cases h4 : s.val % 8 < 4
    · exact Eq.trans (stacked_apply _ hc i ⟨s.val / 8, hg⟩ ⟨s.val % 8, hr⟩ 1 (by simp) _ rfl 2 rfl ⟨s.val % 2, h2⟩ (by show 2 + s.val % 2 = s.val % 8; omega)) p
    · by_cases h6 : s.val % 8 < 6
      · exact Eq.trans (stacked_apply _ hc i ⟨s.val / 8, hg⟩ ⟨s.val % 8, hr⟩ 2 (by simp) _ rfl 4 rfl ⟨s.val % 2, h2⟩ (by show 4 + s.val % 2 = s.val % 8; omega)) p
      · exact Eq.trans (stacked_apply _ hc i ⟨s.val / 8, hg⟩ ⟨s.val % 8, hr⟩ 3 (by simp) _ rfl 6 rfl ⟨s.val % 2, h2⟩ (by show 6 + s.val % 2 = s.val % 8; omega)) p

/-- Pieces side by side, read in piece `k`, which starts at column `pre`. -/
theorem beside_apply {a b : ℕ} (xs : List ((s : Shape) × (s.Idx → α))) (h) (i : Fin n) (j : Fin b) (k : ℕ) (hk : k < xs.length)
    (x : (⟨2, ![n, a]⟩ : Shape).Idx → α) (hx : xs[k] = ⟨⟨2, ![n, a]⟩, x⟩) (pre : ℕ)
    (hpre : (((xs.take k).map (·.1)).map fun s => if h : s.rank = (⟨2, ![n, b]⟩ : Shape).rank then s.size ((1 : Fin 2).cast h.symm) else 0).sum = pre)
    (s : Fin a) (hs : pre + s.val = j.val) : concatenate ⟨2, ![n, b]⟩ 1 xs h (ix2 i j) = x (ix2 i s) := by
  refine concatenate_apply_piece _ xs h _ k hk _ x hx rfl pre hpre (ix2 i s) (fun d hd => ?_) hs
  match d with
  | ⟨0, _⟩ => rfl
  | ⟨1, _⟩ => exact absurd rfl hd

variable (G : (⟨2, ![n, 128]⟩ : Shape).Idx → α) (hG : ∀ (i : Fin n) (s : Fin 128), G (ix2 i s) = v (ix2 i (gateCol s)))
  (Z : (⟨2, ![n, 384]⟩ : Shape).Idx → α) (z : α) (hZ : ∀ y, Z y = z)
include hG hZ

/-- The order, put together from three pieces. -/
theorem three_apply (h0 : (⟨2, ![n, 12352]⟩ : Shape).Slices ![0, 0] ⟨2, ![n, 12288]⟩) (hc) (i : Fin n) (j : Fin 12800) :
    concatenate ⟨2, ![n, 12800]⟩ 1 [⟨⟨2, ![n, 12288]⟩, extractStridedSlice ⟨2, ![n, 12288]⟩ ![0, 0] v h0⟩, ⟨⟨2, ![n, 128]⟩, G⟩, ⟨⟨2, ![n, 384]⟩, Z⟩] hc (ix2 i j)
      = arr (fun q => v (ix2 i q)) z j := by
  unfold arr
  by_cases h : j.val < 12288
  · rw [dif_pos h]
    refine Eq.trans (beside_apply _ hc i j 0 (by simp) _ rfl 0 rfl ⟨j.val, h⟩ (Nat.zero_add _)) ?_
    refine extractStridedSlice_apply _ _ _ _ _ fun a => ?_
    match a with
    | ⟨0, _⟩ => exact (Nat.zero_add _).symm
    | ⟨1, _⟩ => exact (Nat.zero_add _).symm
  · rw [dif_neg h]
    by_cases h' : j.val < 12416
    · rw [dif_pos h']
      exact Eq.trans (beside_apply _ hc i j 1 (by simp) _ rfl 12288 rfl ⟨j.val - 12288, by omega⟩ (by show 12288 + (j.val - 12288) = j.val; omega)) (hG _ _)
    · rw [dif_neg h']
      exact Eq.trans (beside_apply _ hc i j 2 (by simp) _ rfl 12416 rfl ⟨j.val - 12416, by omega⟩ (by show 12416 + (j.val - 12416) = j.val; omega)) (hZ _)

/-- The order, put together from four pieces. -/
theorem four_apply (h0 : (⟨2, ![n, 12352]⟩ : Shape).Slices ![0, 0] ⟨2, ![n, 8192]⟩) (h1 : (⟨2, ![n, 12352]⟩ : Shape).Slices ![0, 8192] ⟨2, ![n, 4096]⟩)
    (hc) (i : Fin n) (j : Fin 12800) :
    concatenate ⟨2, ![n, 12800]⟩ 1 [⟨⟨2, ![n, 8192]⟩, extractStridedSlice ⟨2, ![n, 8192]⟩ ![0, 0] v h0⟩,
      ⟨⟨2, ![n, 4096]⟩, extractStridedSlice ⟨2, ![n, 4096]⟩ ![0, 8192] v h1⟩, ⟨⟨2, ![n, 128]⟩, G⟩, ⟨⟨2, ![n, 384]⟩, Z⟩] hc (ix2 i j)
      = arr (fun q => v (ix2 i q)) z j := by
  unfold arr
  by_cases h : j.val < 12288
  · rw [dif_pos h]
    by_cases h8 : j.val < 8192
    · refine Eq.trans (beside_apply _ hc i j 0 (by simp) _ rfl 0 rfl ⟨j.val, h8⟩ (Nat.zero_add _)) ?_
      refine extractStridedSlice_apply _ _ _ _ _ fun a => ?_
      match a with
      | ⟨0, _⟩ => exact (Nat.zero_add _).symm
      | ⟨1, _⟩ => exact (Nat.zero_add _).symm
    · refine Eq.trans (beside_apply _ hc i j 1 (by simp) _ rfl 8192 rfl ⟨j.val - 8192, by omega⟩ (by show 8192 + (j.val - 8192) = j.val; omega)) ?_
      refine extractStridedSlice_apply _ _ _ _ _ fun a => ?_
      match a with
      | ⟨0, _⟩ => exact (Nat.zero_add _).symm
      | ⟨1, _⟩ => show j.val = 8192 + (j.val - 8192); omega
  · rw [dif_neg h]
    by_cases h' : j.val < 12416
    · rw [dif_pos h']
      exact Eq.trans (beside_apply _ hc i j 2 (by simp) _ rfl 12288 rfl ⟨j.val - 12288, by omega⟩ (by show 12288 + (j.val - 12288) = j.val; omega)) (hG _ _)
    · rw [dif_neg h']
      exact Eq.trans (beside_apply _ hc i j 3 (by simp) _ rfl 12416 rfl ⟨j.val - 12416, by omega⟩ (by show 12416 + (j.val - 12416) = j.val; omega)) (hZ _)
end

end Cert.InProj

end
-- ==== Proof.InProj.lean ====
/-
  The delta-rule mixer's input projection over the extended reals: each entry of the call's result is a normalised row
  times a column of the weight in its new order.
-/
module

public import proofs.«01_k».proof.Proof.DensePay
public import proofs.«01_k».proof.Proof.InProjStep
public import proofs.«01_k».proof.Proof.Columns
public import Idealize.ShloMosaic.Lib.MatmulPlain
public import Idealize.ShloMosaic.Lib.IdealHost

@[expose] public section

noncomputable section

namespace Cert.InProj

open Cert.Kernel3Ideal Cert.Kernel3Ideal.Gen Cert.Kernel3Ideal.Facts
open Idealize.ShloMosaic Idealize.ShloMosaic.TcCoe
open Idealize.ShloMosaic.ValueIdx
open Cert.Experts (unit)

/-- Entry `(i, j)`: the normalised row `i` times column `j` of the weight in its new order. -/
def entry (X : (⟨2, ![16384, 2048]⟩ : Shape).Idx → EReal) (G : (⟨1, ![2048]⟩ : Shape).Idx → EReal)
    (W : (⟨2, ![2048, 12352]⟩ : Shape).Idx → EReal) (i : Fin 16384) (j : Fin 12800) : EReal :=
  ∑ k : Fin 2048, unit (fun a => X (ix2 i a)) (fun a => G (ix1 a)) k * arr (fun q => W (ix2 k q)) 0 j

/-! ## The two computations -/

theorem rows_apply (X : Vec Ideal S1024x2048 .f32) (G : Vec Ideal S1x2048 .f32) (r : Fin 1024) (k : Fin 2048) :
    k0_pay1 (F := Ideal) X G (ix2 r k) = unit (fun a => X (ix2 r a)) (fun a => G (ix2 0 a)) k := by
  refine Eq.trans ?_ (Cert.Dense.rows_apply X G r k)
  unfold k0_pay1 Cert.Kernel2Ideal.Gen.k0_pay1
  rfl

theorem product_apply (x : Vec Ideal S1024x2048 .bf16) (w : Vec Ideal S2048x1280 .bf16) (r : Fin 1024) (s : Fin 1280) :
    k0_pay2 (F := Ideal) x w (ix2 r s) = ∑ k : Fin 2048, x (ix2 r k) * w (ix2 k s) := by
  unfold k0_pay2
  rw [shapeCast_self]
  refine (Ideal.matmul_plain_apply (M := 1024) (K := 2048) (N := 1280) none x w _ r s).trans ?_
  rw [show constant (F := Ideal) S1024x1280 .f32 0x00000000#32 (ix2 r s) = 0 from Ideal.ofBits_zero_f32, zero_add]

/-! ## The arguments -/

variable (m : (ℓ : Loc nD τ sig) → Buf (Elt Ideal) ℓ) (c : Dev nD)

abbrev xA : S16384x2048.Idx → EReal := m ((c : Thread nD τ).loc main_arg0)
abbrev gA : S2048.Idx → EReal := m ((c : Thread nD τ).loc main_arg1)
abbrev wA : S2048x12352.Idx → EReal := m ((c : Thread nD τ).loc main_arg2)

theorem V_rows (i : S16384x2048.Idx) : V m c main_arg0 i = xA m c i := congrFun (V_main_arg0 m c) i

theorem V_gain (k : Fin 2048) : V m c main_v13 (ix2 0 k) = gA m c (ix1 k) := by
  show shapeCast S1x2048 (gA m c) shapeCasts_S2048_S1x2048 (ix2 0 k) = _
  refine shapeCast_apply _ _ _ _ ?_
  rw [Shape.rowMajor_val_one, Shape.rowMajor_val_two]
  show k.val = 0 * 2048 + k.val
  omega

/-- The gate columns of the weight, gathered. -/
def gates (W : S2048x12352.Idx → EReal) : S2048x128.Idx → EReal :=
  shapeCast S2048x128 (concatenate S2048x16x8 2
    [⟨S2048x16x2, shapeCast S2048x16x2 (extractStridedSlice S2048x32 ![0, 12288] W slices_S2048x12352_S2048x32_0_12288) shapeCasts_S2048x32_S2048x16x2⟩,
     ⟨S2048x16x2, shapeCast S2048x16x2 (extractStridedSlice S2048x32 ![0, 12320] W slices_S2048x12352_S2048x32_0_12320) shapeCasts_S2048x32_S2048x16x2⟩,
     ⟨S2048x16x2, shapeCast S2048x16x2 (extractStridedSlice S2048x32 ![0, 12320] W slices_S2048x12352_S2048x32_0_12320) shapeCasts_S2048x32_S2048x16x2⟩,
     ⟨S2048x16x2, shapeCast S2048x16x2 (extractStridedSlice S2048x32 ![0, 12320] W slices_S2048x12352_S2048x32_0_12320) shapeCasts_S2048x32_S2048x16x2⟩]
    concatenates_S2048x16x2_S2048x16x2_S2048x16x2_S2048x16x2_S2048x16x8_d2) shapeCasts_S2048x16x8_S2048x128

/-- The weight as the call reads it. -/
def weight (W : S2048x12352.Idx → EReal) : S2048x12800.Idx → EReal :=
  concatenate S2048x12800 1 [⟨S2048x8192, extractStridedSlice S2048x8192 ![0, 0] W slices_S2048x12352_S2048x8192_0_0⟩,
    ⟨S2048x4096, extractStridedSlice S2048x4096 ![0, 8192] W slices_S2048x12352_S2048x4096_0_8192⟩, ⟨S2048x128, gates W⟩,
    ⟨S2048x384, broadcastInDim S2048x384 ![] bcast_S_S2048x384 (constant (F := Ideal) S_ .bf16 0x0000#16)⟩]
    concatenates_S2048x8192_S2048x4096_S2048x128_S2048x384_S2048x12800_d1

theorem weight_apply (W : S2048x12352.Idx → EReal) (k : Fin 2048) (j : Fin 12800) : weight W (ix2 k j) = arr (fun q => W (ix2 k q)) 0 j :=
  four_apply W (gates W) (fun i s => gates_apply W _ _ _ _ _ i s) _ 0 (fun _ => Ideal.ofBits_zero_bf16) _ _ _ k j

theorem V_weight (i : S2048x12800.Idx) : V m c main_v12 i = weight (wA m c) i := rfl

/-! ## The blocks a point reads -/

theorem index0 : ∀ t : Fin grid0.N, win0_0.index t = ![t.val / 10, 0] := by decide +kernel
theorem index1 : ∀ t : Fin grid0.N, win0_1.index t = ![0, 0] := by decide +kernel
theorem index2 : ∀ t : Fin grid0.N, win0_2.index t = ![0, t.val % 10] := by decide +kernel

/-- A row of a block of rows, and a column of a block of columns, in the whole array. -/
def rowOf (b : ℕ) (hb : b < 16) (r : Fin 1024) : Fin 16384 := ⟨1024 * b + r.val, by omega⟩
def colOf (q : ℕ) (hq : q < 10) (s : Fin 1280) : Fin 12800 := ⟨1280 * q + s.val, by omega⟩

variable (t : Fin cfg0.N)

theorem rowsB_apply (b : ℕ) (hb : b < 16) (e : t.val / 10 = b) (r : Fin 1024) (k : Fin 2048) :
    rowsB m c t (ix2 r k) = xA m c (ix2 (rowOf b hb r) k) := by
  refine Eq.trans ?_ (V_rows m c _)
  show V m c main_arg0 _ = V m c main_arg0 _
  congr 1
  funext a
  apply Fin.ext
  match a with
  | ⟨0, _⟩ =>
    show win0_0.index t (0 : Fin 2) * 1024 + 1 * r.val = 1024 * b + r.val
    rw [index0 t]
    show t.val / 10 * 1024 + 1 * r.val = _
    omega
  | ⟨1, _⟩ => show win0_0.index t (1 : Fin 2) * 2048 + 1 * k.val = k.val; rw [index0 t]; show 0 * 2048 + 1 * k.val = k.val; omega

theorem gainB_apply (k : Fin 2048) : gainB m c t (ix2 0 k) = gA m c (ix1 k) := by
  refine Eq.trans ?_ (V_gain m c k)
  show V m c main_v13 _ = V m c main_v13 _
  congr 1
  funext a
  apply Fin.ext
  match a with
  | ⟨0, _⟩ => show win0_1.index t (0 : Fin 2) * 1 + 1 * 0 = 0; rw [index1 t]; rfl
  | ⟨1, _⟩ => show win0_1.index t (1 : Fin 2) * 2048 + 1 * k.val = k.val; rw [index1 t]; show 0 * 2048 + 1 * k.val = k.val; omega

theorem weightB_apply (q : ℕ) (hq : q < 10) (e : t.val % 10 = q) (k : Fin 2048) (s : Fin 1280) :
    weightB m c t (ix2 k s) = arr (fun q => wA m c (ix2 k q)) 0 (colOf q hq s) := by
  refine Eq.trans ?_ ((V_weight m c _).trans (weight_apply (wA m c) k (colOf q hq s)))
  show V m c main_v12 _ = V m c main_v12 _
  congr 1
  funext a
  apply Fin.ext
  match a with
  | ⟨0, _⟩ => show win0_2.index t (0 : Fin 2) * 2048 + 1 * k.val = k.val; rw [index2 t]; show 0 * 2048 + 1 * k.val = k.val; omega
  | ⟨1, _⟩ =>
    show win0_2.index t (1 : Fin 2) * 1280 + 1 * s.val = 1280 * q + s.val
    rw [index2 t]
    show t.val % 10 * 1280 + 1 * s.val = _
    omega

/-! ## A block of rows, one block of columns after another -/

theorem kept_apply (b : ℕ) (hb : b < 16) (e : t.val / 10 = b) (r : Fin 1024) (k : Fin 2048) :
    k0_pay1 (F := Ideal) (rowsB m c t) (gainB m c t) (ix2 r k)
      = unit (fun a => xA m c (ix2 (rowOf b hb r) a)) (fun a => gA m c (ix1 a)) k := by
  rw [rows_apply]
  have e1 : (fun a => rowsB m c t (ix2 r a)) = _ := funext fun a => rowsB_apply m c t b hb e r a
  have e2 : (fun a => gainB m c t (ix2 0 a)) = _ := funext fun a => gainB_apply m c t a
  rw [e1, e2]

/-- One point's product, over rows kept normalised. -/
theorem point_apply (b : ℕ) (hb : b < 16) (q : ℕ) (hq : q < 10) (e : t.val % 10 = q) (xn : Vec Ideal S1024x2048 .bf16)
    (hx : ∀ (r : Fin 1024) (k : Fin 2048), xn (ix2 r k) = unit (fun a => xA m c (ix2 (rowOf b hb r) a)) (fun a => gA m c (ix1 a)) k)
    (r : Fin 1024) (s : Fin 1280) :
    k0_pay2 (F := Ideal) xn (weightB m c t) (ix2 r s) = entry (xA m c) (gA m c) (wA m c) (rowOf b hb r) (colOf q hq s) := by
  rw [product_apply]
  unfold entry
  refine Finset.sum_congr rfl fun k _ => ?_
  rw [hx r k, weightB_apply m c t q hq e k s]

theorem point_lt (b : ℕ) (hb : b < 16) (q : ℕ) (hq : q < 10) : 10 * b + q < cfg0.N :=
  lt_of_lt_of_eq (by omega) N_0.symm

/-- After block `q` of columns the scratch holds the normalised rows, and the output block its entries. -/
theorem after_block (b : ℕ) (hb : b < 16) : ∀ (q : ℕ) (hq : q < 10),
    (∀ (r : Fin 1024) (k : Fin 2048), (outsAt0 m c (10 * b + q) (point_lt b hb q hq)).2 (ix2 r k)
      = unit (fun a => xA m c (ix2 (rowOf b hb r) a)) (fun a => gA m c (ix1 a)) k)
    ∧ ∀ (r : Fin 1024) (s : Fin 1280), (outsAt0 m c (10 * b + q) (point_lt b hb q hq)).1 (ix2 r s)
      = entry (xA m c) (gA m c) (wA m c) (rowOf b hb r) (colOf q hq s)
  | 0, hq => by
    have e0 : (10 * b + 0) / 10 = b := by omega
    have e1 : (10 * b + 0) % 10 = 0 := by omega
    rw [outs_first m c ⟨10 * b + 0, point_lt b hb 0 hq⟩ e1]
    exact ⟨fun r k => kept_apply m c _ b hb e0 r k, fun r s => point_apply m c _ b hb 0 hq e1 _ (fun r k => kept_apply m c _ b hb e0 r k) r s⟩
  | q + 1, hq => by
    have e1 : (10 * b + (q + 1)) % 10 = q + 1 := by omega
    obtain ⟨hx, -⟩ := after_block b hb q (Nat.lt_of_succ_lt hq)
    have s' := outs_later m c (10 * b + q) (point_lt b hb (q + 1) hq) (by omega)
    refine ⟨fun r k => ?_, fun r s => ?_⟩
    · exact (congrArg (fun p => p.2 (ix2 r k)) s').trans (hx r k)
    · exact (congrArg (fun p => p.1 (ix2 r s)) s').trans (point_apply m c ⟨10 * b + (q + 1), point_lt b hb (q + 1) hq⟩ b hb (q + 1) hq e1 _ hx r s)

/-- The call's result at an index. -/
theorem result_apply (i : Fin 16384) (j : Fin 12800) :
    Cert.Kernel3Ideal.Value.G3 m c (ix2 i j) = entry (xA m c) (gA m c) (wA m c) i j := by
  have hb : i.val / 1024 < 16 := by omega
  have hq : j.val / 1280 < 10 := by omega
  have hp : Cert.Kernel3Ideal.Value.pt3Of (ix2 i j) = 10 * (i.val / 1024) + j.val / 1280 := by
    show 10 * (i.val / 1024 - 0) + 1 * (j.val / 1280 - 0) = _
    omega
  have hl : Cert.Kernel3Ideal.Value.loc3Of (ix2 i j)
      = ix2 (⟨i.val % 1024, Nat.mod_lt _ (by decide)⟩ : Fin 1024) (⟨j.val % 1280, Nat.mod_lt _ (by decide)⟩ : Fin 1280) := by
    funext a
    apply Fin.ext
    match a with
    | ⟨0, _⟩ => rfl
    | ⟨1, _⟩ => rfl
  have hr : rowOf (i.val / 1024) hb ⟨i.val % 1024, Nat.mod_lt _ (by decide)⟩ = i :=
    Fin.ext (by show 1024 * (i.val / 1024) + i.val % 1024 = i.val; omega)
  have hc : colOf (j.val / 1280) hq ⟨j.val % 1280, Nat.mod_lt _ (by decide)⟩ = j :=
    Fin.ext (by show 1280 * (j.val / 1280) + j.val % 1280 = j.val; omega)
  have hN := point_lt (i.val / 1024) hb (j.val / 1280) hq
  unfold Cert.Kernel3Ideal.Value.G3
  rw [dif_pos (by rw [hp]; exact hN), hl, Cert.Kernel3Ideal.Value.fold0_congr m c _ _ (10 * (i.val / 1024) + j.val / 1280) (by omega) hp,
    ← Cert.Kernel3Ideal.Value.outsAt0_sweep m c _ hN]
  refine ((after_block m c (i.val / 1024) hb (j.val / 1280) hq).2 _ _).trans ?_
  rw [hr, hc]

end Cert.InProj

end
-- ==== Proof.InProjRef.lean ====
/-
  The input projection's reference over the extended reals, read at an index: the normalised rows' product with the
  weight as it is stored, put in the new column order afterwards.
-/
module

public import proofs.«01_k».proof.Proof.DenseRef
public import proofs.«01_k».proof.Proof.InProj
public import proofs.«01_k».proof.Proof.Gen.Reference3Ideal.Run

@[expose] public section

noncomputable section

namespace Cert.InProj.Ref

open Cert.Reference3Ideal Cert.Reference3Ideal.Gen
open Idealize.ShloMosaic Idealize.ShloMosaic.TcCoe
open Idealize.ShloMosaic.ValueIdx
open Cert.Experts (unit)

/-- The product, in the stored order. -/
def product (X : FVec Ideal S16384x2048 .f32) (G : FVec Ideal S2048 .f32) (W : FVec Ideal S2048x12352 .f32) : FVec Ideal S16384x12352 .f32 :=
  Host.dotGeneral dot_S16384x2048_S2048x12352_S16384x12352_1_0_0_1_n_n none (Cert.Dense.Ref.xn X G) W

/-- The gate columns of a product, gathered. -/
def gates (Z : FVec Ideal S16384x12352 .f32) : FVec Ideal S16384x128 .f32 :=
  shapeCast S16384x128 (concatenate S16384x16x8 2
    [⟨S16384x16x2, shapeCast S16384x16x2 (extractStridedSlice S16384x32 ![0, 12288] Z slices_S16384x12352_S16384x32_0_12288) shapeCasts_S16384x32_S16384x16x2⟩,
     ⟨S16384x16x2, shapeCast S16384x16x2 (extractStridedSlice S16384x32 ![0, 12320] Z slices_S16384x12352_S16384x32_0_12320) shapeCasts_S16384x32_S16384x16x2⟩,
     ⟨S16384x16x2, shapeCast S16384x16x2 (extractStridedSlice S16384x32 ![0, 12320] Z slices_S16384x12352_S16384x32_0_12320) shapeCasts_S16384x32_S16384x16x2⟩,
     ⟨S16384x16x2, shapeCast S16384x16x2 (extractStridedSlice S16384x32 ![0, 12320] Z slices_S16384x12352_S16384x32_0_12320) shapeCasts_S16384x32_S16384x16x2⟩]
    concatenates_S16384x16x2_S16384x16x2_S16384x16x2_S16384x16x2_S16384x16x8_d2) shapeCasts_S16384x16x8_S16384x128

/-- A product in the new order. -/
def ordered (Z : FVec Ideal S16384x12352 .f32) : FVec Ideal S16384x12800 .f32 :=
  concatenate S16384x12800 1 [⟨S16384x12288, extractStridedSlice S16384x12288 ![0, 0] Z slices_S16384x12352_S16384x12288_0_0⟩, ⟨S16384x128, gates Z⟩,
    ⟨S16384x384, broadcastInDim S16384x384 ![] bcast_S_S16384x384 (constant S_ .f32 0x00000000#32)⟩]
    concatenates_S16384x12288_S16384x128_S16384x384_S16384x12800_d1

/-- The reference's result, in those pieces. -/
def out (X : FVec Ideal S16384x2048 .f32) (G : FVec Ideal S2048 .f32) (W : FVec Ideal S2048x12352 .f32) : FVec Ideal S16384x12800 .f32 :=
  ordered (product X G W)

theorem ordered_apply (Z : FVec Ideal S16384x12352 .f32) (i : Fin 16384) (j : Fin 12800) : ordered Z (ix2 i j) = arr (fun q => Z (ix2 i q)) 0 j :=
  three_apply Z (gates Z) (fun i s => gates_apply Z _ _ _ _ _ i s) _ 0 (fun _ => Ideal.ofBits_zero_f32) _ _ i j

theorem product_apply (X : FVec Ideal S16384x2048 .f32) (G : FVec Ideal S2048 .f32) (W : FVec Ideal S2048x12352 .f32) (i : Fin 16384) (q : Fin 12352) :
    product X G W (ix2 i q) = ∑ k : Fin 2048, unit (fun a => X (ix2 i a)) (fun a => G (ix1 a)) k * W (ix2 k q) := by
  refine (StackMember.dotGeneral_plain_apply (m := 16384) (k := 2048) (n := 12352) none _ W i q).trans (Finset.sum_congr rfl fun k _ => ?_)
  exact congrArg (fun y : EReal => y * W (ix2 k q)) (Cert.Dense.Ref.xn_apply X G i k)

theorem out_apply (X : FVec Ideal S16384x2048 .f32) (G : FVec Ideal S2048 .f32) (W : FVec Ideal S2048x12352 .f32) (i : Fin 16384) (j : Fin 12800) :
    out X G W (ix2 i j) = entry X G W i j := by
  unfold out entry
  rw [ordered_apply, sum_arr]
  exact congrArg (fun v : Fin 12352 → EReal => arr v 0 j) (funext fun q => product_apply X G W i q)

/-- What the reference's run leaves. -/
theorem res_eq (m : (ℓ : Loc nD τ sig) → Buf (Elt Ideal) ℓ) (c : Dev nD) :
    Cert.Reference3Ideal.Value.res_out0 m c
      = out (m ((c.tc : Thread nD τ).loc main_arg0)) (m ((c.tc : Thread nD τ).loc main_arg1)) (m ((c.tc : Thread nD τ).loc main_arg2)) := by
  unfold Cert.Reference3Ideal.Value.res_out0 Cert.Reference3Ideal.Value.res_main_v22
  rfl

end Cert.InProj.Ref

end
-- ==== Proof.InProjSame.lean ====
/-
  The delta-rule mixer's input projection and its idealization are printed as one program: their bodies, body tables and @main are equal at any float values.
-/
module

public import proofs.«01_k».proof.Proof.Gen.Kernel3
public import proofs.«01_k».proof.Proof.Gen.Kernel3Ideal
@[expose] public section
noncomputable section
namespace Cert.InProj
open Idealize.ShloMosaic Idealize.SL.Sem
variable {F : FTy → Type} [FloatOps F]

/-- The two programs' kernel bodies are one. -/
theorem defs₀_same : Cert.Kernel3Ideal.defs₀ (F := F) = Cert.Kernel3.defs₀ :=
  congrArg (Defs.onTc (nD := Cert.Kernel3Ideal.nD) (τ := Cert.Kernel3Ideal.τ) (sig := Cert.Kernel3Ideal.sig) (Val := Elt F) (Λ := Cert.Kernel3Ideal.Λ₀)) (funext fun k => funext fun a => match k, a with
    | 0, (t, s) => rfl
    | ⟨_ + 1, h⟩, _ => absurd h (Nat.not_lt.2 (Nat.le_add_left _ _)))

theorem defs_same : Cert.Kernel3Ideal.defs (F := F) = Cert.Kernel3.defs :=
  congrArg (Pipeline.defs (Cert.Kernel3Ideal.pcfgs (F := F))) defs₀_same

theorem main_same : Cert.Kernel3Ideal.main (F := F) = Cert.Kernel3.main := rfl
end Cert.InProj
end
-- ==== Proof.OutProj.lean ====
/-
  The delta-rule mixer's output projection over the extended reals: the call's result and its reference, each entry the
  residual's own entry plus a row of the mixer's output times a column of the weight.
-/
module

public import proofs.«01_k».proof.Proof.Gen.Kernel4Ideal.Value
public import proofs.«01_k».proof.Proof.Gen.Reference4Ideal.Run
public import Idealize.ShloMosaic.Lib.ValueIdx
public import Idealize.ShloMosaic.Lib.MatmulPlain
public import Idealize.ShloMosaic.Lib.StackMember

@[expose] public section

noncomputable section

namespace Cert.OutProj

open Idealize.ShloMosaic Idealize.ShloMosaic.TcCoe
open Idealize.ShloMosaic.ValueIdx

/-- Entry `(i, j)`: the residual plus row `i` of the mixer's output times column `j` of the weight. -/
def entry (O : (⟨2, ![16384, 4096]⟩ : Shape).Idx → EReal) (W : (⟨2, ![4096, 2048]⟩ : Shape).Idx → EReal)
    (X : (⟨2, ![16384, 2048]⟩ : Shape).Idx → EReal) (i : Fin 16384) (j : Fin 2048) : EReal :=
  X (ix2 i j) + ∑ k : Fin 4096, O (ix2 i k) * W (ix2 k j)

/-! ## The reference -/

namespace Ref
open Cert.Reference4Ideal Cert.Reference4Ideal.Gen

/-- The reference's result. -/
def out (O : FVec Ideal S16384x4096 .bf16) (W : FVec Ideal S4096x2048 .f32) (X : FVec Ideal S16384x2048 .f32) : FVec Ideal S16384x2048 .f32 :=
  addf X (Host.dotGeneral dot_S16384x4096_S4096x2048_S16384x2048_1_0_0_1_n_n none (extf .f32 O bitsLt_bf16_f32) W)

theorem out_apply (O : FVec Ideal S16384x4096 .bf16) (W : FVec Ideal S4096x2048 .f32) (X : FVec Ideal S16384x2048 .f32) (i : Fin 16384) (j : Fin 2048) :
    out O W X (ix2 i j) = entry O W X i j := by
  unfold out entry
  refine congrArg (fun q : EReal => X (ix2 i j) + q) ?_
  exact StackMember.dotGeneral_plain_apply (m := 16384) (k := 4096) (n := 2048) none _ W i j
end Ref

/-! ## The kernel's call -/

open Cert.Kernel4Ideal Cert.Kernel4Ideal.Gen Cert.Kernel4Ideal.Facts

variable (m : (ℓ : Loc nD τ sig) → Buf (Elt Ideal) ℓ) (c : Dev nD)

abbrev oA : S16384x4096.Idx → EReal := m ((c : Thread nD τ).loc main_arg0)
abbrev wA : S4096x2048.Idx → EReal := m ((c : Thread nD τ).loc main_arg1)
abbrev xA : S16384x2048.Idx → EReal := m ((c : Thread nD τ).loc main_arg2)

theorem V_mixed (i : S16384x4096.Idx) : V m c main_arg0 i = oA m c i := congrFun (V_main_arg0 m c) i
theorem V_weight (i : S4096x2048.Idx) : V m c main_v0 i = wA m c i := rfl
theorem V_residual (i : S16384x2048.Idx) : V m c main_arg2 i = xA m c i := congrFun (V_main_arg2 m c) i

theorem index0 : ∀ t : Fin grid0.N, win0_0.index t = ![t.val / 2, 0] := by decide +kernel
theorem index1 : ∀ t : Fin grid0.N, win0_1.index t = ![0, t.val % 2] := by decide +kernel
theorem index2 : ∀ t : Fin grid0.N, win0_2.index t = ![t.val / 2, t.val % 2] := by decide +kernel
theorem index3 : ∀ t : Fin grid0.N, win0_3.index t = ![t.val / 2, t.val % 2] := by decide +kernel
theorem flushes : ∀ t : Fin grid0.N, win0_3.flush t = true := by decide +kernel

abbrev mixedB (t : Fin cfg0.N) : Vec Ideal S512x4096 .bf16 := iblk m c 0 t
abbrev weightB (t : Fin cfg0.N) : Vec Ideal S4096x1024 .bf16 := iblk m c 1 t
abbrev residualB (t : Fin cfg0.N) : Vec Ideal S512x1024 .f32 := iblk m c 2 t

variable (t : Fin cfg0.N)

theorem point_lt : t.val < 64 := lt_of_lt_of_eq t.isLt N_0

/-- A row and a column of point `t`'s block, in the whole array. -/
def rowOf (r : Fin 512) : Fin 16384 := ⟨512 * (t.val / 2) + r.val, by have := point_lt t; omega⟩
def colOf (s : Fin 1024) : Fin 2048 := ⟨1024 * (t.val % 2) + s.val, by omega⟩

theorem mixedB_apply (r : Fin 512) (k : Fin 4096) : mixedB m c t (ix2 r k) = oA m c (ix2 (rowOf t r) k) := by
  refine Eq.trans ?_ (V_mixed m c _)
  show V m c main_arg0 _ = V m c main_arg0 _
  congr 1
  funext a
  apply Fin.ext
  match a with
  | ⟨0, _⟩ =>
    show win0_0.index t (0 : Fin 2) * 512 + 1 * r.val = 512 * (t.val / 2) + r.val
    rw [index0 t]
    show t.val / 2 * 512 + 1 * r.val = _
    omega
  | ⟨1, _⟩ => show win0_0.index t (1 : Fin 2) * 4096 + 1 * k.val = k.val; rw [index0 t]; show 0 * 4096 + 1 * k.val = k.val; omega

theorem weightB_apply (k : Fin 4096) (s : Fin 1024) : weightB m c t (ix2 k s) = wA m c (ix2 k (colOf t s)) := by
  refine Eq.trans ?_ (V_weight m c _)
  show V m c main_v0 _ = V m c main_v0 _
  congr 1
  funext a
  apply Fin.ext
  match a with
  | ⟨0, _⟩ => show win0_1.index t (0 : Fin 2) * 4096 + 1 * k.val = k.val; rw [index1 t]; show 0 * 4096 + 1 * k.val = k.val; omega
  | ⟨1, _⟩ =>
    show win0_1.index t (1 : Fin 2) * 1024 + 1 * s.val = 1024 * (t.val % 2) + s.val
    rw [index1 t]
    show t.val % 2 * 1024 + 1 * s.val = _
    omega

theorem residualB_apply (r : Fin 512) (s : Fin 1024) : residualB m c t (ix2 r s) = xA m c (ix2 (rowOf t r) (colOf t s)) := by
  refine Eq.trans ?_ (V_residual m c _)
  show V m c main_arg2 _ = V m c main_arg2 _
  congr 1
  funext a
  apply Fin.ext
  match a with
  | ⟨0, _⟩ =>
    show win0_2.index t (0 : Fin 2) * 512 + 1 * r.val = 512 * (t.val / 2) + r.val
    rw [index2 t]
    show t.val / 2 * 512 + 1 * r.val = _
    omega
  | ⟨1, _⟩ =>
    show win0_2.index t (1 : Fin 2) * 1024 + 1 * s.val = 1024 * (t.val % 2) + s.val
    rw [index2 t]
    show t.val % 2 * 1024 + 1 * s.val = _
    omega

theorem origin : (![0, 0] : Fin 2 → ℕ) = fun _ => 0 := funext fun a => by
  match a with
  | ⟨0, _⟩ => rfl
  | ⟨1, _⟩ => rfl

/-- What a point's body computes, at an index of its block. -/
theorem body_apply (o : Vec Ideal S512x4096 .bf16) (w : Vec Ideal S4096x1024 .bf16) (x : Vec Ideal S512x1024 .f32) (r : Fin 512) (s : Fin 1024) :
    out0_3 (F := Ideal) o w x (ix2 r s) = x (ix2 r s) + ∑ k : Fin 4096, o (ix2 r k) * w (ix2 k s) := by
  unfold out0_3
  rw [View.canon_unit_zero origin]
  simp only [View.ld_unit_zero (S := S512x1024) origin, View.ld_unit_zero (S := S512x4096) origin, View.ld_unit_zero (S := S4096x1024) origin]
  unfold k0_pay1
  rw [shapeCast_self]
  refine congrArg (fun q : EReal => x (ix2 r s) + q) ?_
  refine (Ideal.matmul_plain_apply (M := 512) (K := 4096) (N := 1024) none o w _ r s).trans ?_
  rw [show constant (F := Ideal) S512x1024 .f32 0x00000000#32 (ix2 r s) = 0 from Ideal.ofBits_zero_f32, zero_add]

/-- The call's result, entry by entry. -/
def result : Buf (Elt Ideal) ((c : Thread nD τ).loc main_v1) := fun i => entry (oA m c) (wA m c) (xA m c) (i 0) (i 1)

/-- A point writes back its block of the result. -/
theorem writes : (dats m 0 c).flushed 3 t = ((cfg0.win 3).blk t).view.read (Elt Ideal) (result m c) := by
  rw [Cert.Kernel4Ideal.Value.flushed3 m c t]
  funext y
  have h0 : (y 0).val < 512 := (y 0).isLt
  have h1 : (y 1).val < 1024 := (y 1).isLt
  have e : (cfg0.win 3).xinj (grid0.coords t) y = ix2 (⟨(y 0).val, h0⟩ : Fin 512) (⟨(y 1).val, h1⟩ : Fin 1024) := by
    funext a
    apply Fin.ext
    match a with
    | ⟨0, _⟩ => rfl
    | ⟨1, _⟩ => rfl
  have p0 : ((cfg0.win 3).blk t).view.emb y 0 = rowOf t ⟨(y 0).val, h0⟩ := by
    apply Fin.ext
    show win0_3.index t (0 : Fin 2) * 512 + 1 * (y 0).val = 512 * (t.val / 2) + (y 0).val
    rw [index3 t]
    show t.val / 2 * 512 + 1 * (y 0).val = _
    omega
  have p1 : ((cfg0.win 3).blk t).view.emb y 1 = colOf t ⟨(y 1).val, h1⟩ := by
    apply Fin.ext
    show win0_3.index t (1 : Fin 2) * 1024 + 1 * (y 1).val = 1024 * (t.val % 2) + (y 1).val
    rw [index3 t]
    show t.val % 2 * 1024 + 1 * (y 1).val = _
    omega
  show out0_3 (mixedB m c t) (weightB m c t) (residualB m c t) ((cfg0.win 3).xinj (grid0.coords t) y)
    = entry (oA m c) (wA m c) (xA m c) (((cfg0.win 3).blk t).view.emb y 0) (((cfg0.win 3).blk t).view.emb y 1)
  rw [e, p0, p1]
  refine (body_apply _ _ _ _ _).trans ?_
  unfold entry
  rw [residualB_apply]
  refine congrArg (fun q : EReal => _ + q) (Finset.sum_congr rfl fun k _ => ?_)
  rw [mixedB_apply, weightB_apply]

/-- Every entry is in some point's block. -/
theorem covered (i : S16384x2048.Idx) : ∃ t : Fin cfg0.N, (cfg0.win 3).flush t = true ∧ i ∈ ((cfg0.win 3).blk t).view.set := by
  have h0 : (i 0).val < 16384 := (i 0).isLt
  have h1 : (i 1).val < 2048 := (i 1).isLt
  have hN : 2 * ((i 0).val / 512) + (i 1).val / 1024 < cfg0.N := lt_of_lt_of_eq (by omega) N_0.symm
  refine ⟨⟨_, hN⟩, flushes _, ?_⟩
  show i ∈ ((View.whole main_v1).slice (win0_3.rect ⟨_, hN⟩)).set
  rw [View.set_slice_whole, Rect.mem_set_unit]
  show ∀ a : Fin 2, win0_3.index ⟨_, hN⟩ a * S512x1024.size a ≤ (i a).val ∧ (i a).val < win0_3.index ⟨_, hN⟩ a * S512x1024.size a + S512x1024.size a
  rw [index3 ⟨_, hN⟩]
  intro a
  match a with
  | ⟨0, _⟩ =>
    show (2 * ((i 0).val / 512) + (i 1).val / 1024) / 2 * 512 ≤ (i 0).val ∧ (i 0).val < (2 * ((i 0).val / 512) + (i 1).val / 1024) / 2 * 512 + 512
    omega
  | ⟨1, _⟩ =>
    show (2 * ((i 0).val / 512) + (i 1).val / 1024) % 2 * 1024 ≤ (i 1).val ∧ (i 1).val < (2 * ((i 0).val / 512) + (i 1).val / 1024) % 2 * 1024 + 1024
    omega

/-- The array after the run. -/
theorem arr_eq : (dats m 0 c).arrAt 3 cfg0.N = result m c :=
  (dats m 0 c).arrAt_eq_of_cover 3 _ (fun t _ => writes m c t) covered

/-- The call's result is the reference's. -/
theorem result_eq : result m c = Ref.out (oA m c) (wA m c) (xA m c) := by
  funext i
  rw [eq_ix2 i]
  exact (Ref.out_apply _ _ _ _ _).symm

end Cert.OutProj

end
-- ==== Proof.OutProjSame.lean ====
/-
  The delta-rule mixer's output projection and its idealization are printed as one program: their bodies, body tables and @main are equal at any float values.
-/
module

public import proofs.«01_k».proof.Proof.Gen.Kernel4
public import proofs.«01_k».proof.Proof.Gen.Kernel4Ideal
@[expose] public section
noncomputable section
namespace Cert.OutProj
open Idealize.ShloMosaic Idealize.SL.Sem
variable {F : FTy → Type} [FloatOps F]

/-- The two programs' kernel bodies are one. -/
theorem defs₀_same : Cert.Kernel4Ideal.defs₀ (F := F) = Cert.Kernel4.defs₀ :=
  congrArg (Defs.onTc (nD := Cert.Kernel4Ideal.nD) (τ := Cert.Kernel4Ideal.τ) (sig := Cert.Kernel4Ideal.sig) (Val := Elt F) (Λ := Cert.Kernel4Ideal.Λ₀)) (funext fun k => funext fun a => match k, a with
    | 0, (t, s) => rfl
    | ⟨_ + 1, h⟩, _ => absurd h (Nat.not_lt.2 (Nat.le_add_left _ _)))

theorem defs_same : Cert.Kernel4Ideal.defs (F := F) = Cert.Kernel4.defs :=
  congrArg (Pipeline.defs (Cert.Kernel4Ideal.pcfgs (F := F))) defs₀_same

theorem main_same : Cert.Kernel4Ideal.main (F := F) = Cert.Kernel4.main := rfl
end Cert.OutProj
end
-- ==== Proof.lean ====
/-
  The claims: the kernel and its idealization run, under tables in range, leaving their arguments as launched and every
  semaphore at zero; the reference runs; and over the extended reals the kernel's result is the reference's. The same of
  the dense feed-forward call and of the delta-rule mixer's two projections, with no condition on their arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_tables_in_range
public import proofs.«01_k».proof.Proof.Run
public import proofs.«01_k».proof.Proof.Value
public import proofs.«01_k».proof.Proof.Ref
public import proofs.«01_k».proof.Proof.Pre
public import proofs.«01_k».proof.Proof.Same
public import proofs.«01_k».proof.Proof.DenseValue
public import proofs.«01_k».proof.Proof.DenseRef
public import proofs.«01_k».proof.Proof.DenseSame
public import proofs.«01_k».proof.Proof.InProj
public import proofs.«01_k».proof.Proof.InProjRef
public import proofs.«01_k».proof.Proof.InProjSame
public import proofs.«01_k».proof.Proof.OutProj
public import proofs.«01_k».proof.Proof.OutProjSame
public import Idealize.ShloMosaic.Adequacy
public import Idealize.ShloMosaic.Init

@[expose] public section

noncomputable section

namespace Cert.Proof

open Idealize.ShloMosaic Idealize.SL.Sem

/-- The precondition, as the run takes it. -/
theorem in_range {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_tables_in_range.fn (F := F)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        = fun _ => 1#1) : Cert.Experts.InRange m :=
  have r := Cert.Experts.pre_read _ _ _ _ _ _ _ _ (h Cert.Experts.d0)
  ⟨r.1, r.2.1, r.2.2⟩

theorem frame_ideal : Cert.quiescent_KernelIdeal := fun m g h =>
  (θ_run _ _ _).mono (fun _ h => ⟨fun c => (h.1 c).2, h.2⟩) (Cert.Experts.run m (in_range m h) g)

/-- The kernel is the same program at its own float values, so it has the same run. -/
theorem frame_kernel : Cert.quiescent_Kernel := fun m g h =>
  (congrArg₂ (fun D M => θ_run D (onTc (nD := Cert.KernelIdeal.nD) (τ := Cert.KernelIdeal.τ) M) ⟨m, fun _ => 0, g⟩ _)
    (Cert.Experts.defs_same (F := Bits)) (Cert.Experts.main_same (F := Bits))).mp
    ((θ_run Cert.KernelIdeal.defs _ _).mono (fun _ h => ⟨fun c => (h.1 c).2, h.2⟩) (Cert.Experts.run (F := Bits) m (in_range (F := Bits) m h) g))

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

open Idealize.ShloMosaic.ValueIdx Idealize.ShloMosaic.TcCoe in
/-- Entry by entry, the kernel's result is the reference's on the same arguments. -/
theorem result_eq (m : (ℓ : Loc Cert.KernelIdeal.nD Cert.KernelIdeal.τ Cert.KernelIdeal.sig) → Buf (Elt Ideal) ℓ) (R : Cert.Experts.InRange m) (c : Dev Cert.KernelIdeal.nD) :
    Cert.Experts.resultA m R c = Cert.Experts.Ref.out (Cert.Experts.xA m c) (Cert.Experts.gA m c) (Cert.Experts.tokT m) (Cert.Experts.expT m)
      (Cert.Experts.numT m) (Cert.Experts.gateA m c) (Cert.Experts.upA m c) (Cert.Experts.downA m c) := by
  funext i
  rw [eq_ix2 i]
  exact (Cert.Experts.result_apply m R c _ _).trans (Cert.Experts.Ref.out_apply _ _ _ _ _ _ _ _ R.tok R.exp R.num _ _).symm

theorem value : Cert.algebraic_KernelIdeal_ReferenceIdeal := by
  intro m g m' g' h e
  refine ⟨fun c => Cert.Experts.resultA m (in_range m h) c, ?_, ?_⟩
  · exact (θ_run _ _ _).mono (fun _ r c => ⟨(r.1 c).1.trans (Cert.Experts.arr_eq m (in_range m h) c), (r.1 c).2⟩) (Cert.Experts.run m (in_range m h) g)
  · refine (θ_run _ _ _).mono (fun _ r c => ⟨(r c).1.trans ?_, (r c).2⟩) (Cert.ReferenceIdeal.Value.run m' g')
    refine (Cert.Experts.Ref.res_eq m' c).trans ?_
    refine Eq.trans ?_ (result_eq m (in_range m h) c).symm
    obtain rfl : c = Cert.Experts.d0 := Cert.Experts.dev_eq c
    obtain ⟨e0, e1, e2, e3, e4, e5, e6, e7⟩ := e Cert.Experts.d0
    rw [e0, e1, e2, e3, e4, e5, e6, e7]

/-! ## The dense feed-forward call -/

theorem frame_ideal2 : Cert.quiescent_Kernel2Ideal := fun m g _ => Cert.Kernel2Ideal.Gen.frame m g

theorem frame_kernel2 : Cert.quiescent_Kernel2 := fun m g _ =>
  (congrArg₂ (fun D M => θ_run D (onTc (nD := Cert.Kernel2Ideal.nD) (τ := Cert.Kernel2Ideal.τ) M) ⟨m, fun _ => 0, g⟩ _)
    (Cert.Dense.defs_same (F := Bits)) (Cert.Dense.main_same (F := Bits))).mp (Cert.Kernel2Ideal.Gen.frame (F := Bits) m g)

theorem frame_reference2 : Cert.quiescent_Reference2Ideal := fun m g _ =>
  (θ_run Cert.Reference2Ideal.defs _ _).mono (fun r h => ⟨fun c => (h c).2, sem_eq_zero_of_no_sems (by decide) r.2⟩) (Cert.Reference2Ideal.Value.run m g)

open Idealize.ShloMosaic.ValueIdx Idealize.ShloMosaic.TcCoe in
/-- Entry by entry, the call's result is the reference's on the same arguments. -/
theorem result_eq2 (m : (ℓ : Loc Cert.Kernel2Ideal.nD Cert.Kernel2Ideal.τ Cert.Kernel2Ideal.sig) → Buf (Elt Ideal) ℓ) (c : Dev Cert.Kernel2Ideal.nD) :
    Cert.Kernel2Ideal.Value.G5 m c = Cert.Dense.Ref.out (Cert.Dense.xA m c) (Cert.Dense.gA m c) (Cert.Dense.gateA m c) (Cert.Dense.upA m c)
      (Cert.Dense.downA m c) := by
  funext i
  rw [eq_ix2 i]
  exact (Cert.Dense.result_apply m c _ _).trans (Cert.Dense.Ref.out_apply _ _ _ _ _ _ _).symm

theorem value2 : Cert.algebraic_Kernel2Ideal_Reference2Ideal := by
  intro m g m' g' h e
  refine ⟨fun c => Cert.Kernel2Ideal.Value.G5 m c, Cert.Kernel2Ideal.Value.run m g, ?_⟩
  refine (θ_run _ _ _).mono (fun _ r c => ⟨(r c).1.trans ?_, (r c).2⟩) (Cert.Reference2Ideal.Value.run m' g')
  refine Eq.trans ?_ (result_eq2 m c).symm
  obtain ⟨e0, e1, e2, e3, e4⟩ := e c
  rw [e0, e1, e2, e3, e4]
  rfl

/-! ## The delta-rule mixer's input projection -/

theorem frame_ideal3 : Cert.quiescent_Kernel3Ideal := fun m g _ => Cert.Kernel3Ideal.Gen.frame m g

theorem frame_kernel3 : Cert.quiescent_Kernel3 := fun m g _ =>
  (congrArg₂ (fun D M => θ_run D (onTc (nD := Cert.Kernel3Ideal.nD) (τ := Cert.Kernel3Ideal.τ) M) ⟨m, fun _ => 0, g⟩ _)
    (Cert.InProj.defs_same (F := Bits)) (Cert.InProj.main_same (F := Bits))).mp (Cert.Kernel3Ideal.Gen.frame (F := Bits) m g)

theorem frame_reference3 : Cert.quiescent_Reference3Ideal := fun m g _ =>
  (θ_run Cert.Reference3Ideal.defs _ _).mono (fun r h => ⟨fun c => (h c).2, sem_eq_zero_of_no_sems (by decide) r.2⟩) (Cert.Reference3Ideal.Value.run m g)

open Idealize.ShloMosaic.ValueIdx Idealize.ShloMosaic.TcCoe in
/-- Entry by entry, the projection is the reference's on the same arguments. -/
theorem result_eq3 (m : (ℓ : Loc Cert.Kernel3Ideal.nD Cert.Kernel3Ideal.τ Cert.Kernel3Ideal.sig) → Buf (Elt Ideal) ℓ) (c : Dev Cert.Kernel3Ideal.nD) :
    Cert.Kernel3Ideal.Value.G3 m c = Cert.InProj.Ref.out (Cert.InProj.xA m c) (Cert.InProj.gA m c) (Cert.InProj.wA m c) := by
  funext i
  rw [eq_ix2 i]
  exact (Cert.InProj.result_apply m c _ _).trans (Cert.InProj.Ref.out_apply _ _ _ _ _).symm

theorem value3 : Cert.algebraic_Kernel3Ideal_Reference3Ideal := by
  intro m g m' g' h e
  refine ⟨fun c => Cert.Kernel3Ideal.Value.G3 m c, Cert.Kernel3Ideal.Value.run m g, ?_⟩
  refine (θ_run _ _ _).mono (fun _ r c => ⟨(r c).1.trans ?_, (r c).2⟩) (Cert.Reference3Ideal.Value.run m' g')
  refine (Cert.InProj.Ref.res_eq m' c).trans ?_
  refine Eq.trans ?_ (result_eq3 m c).symm
  obtain ⟨e0, e1, e2⟩ := e c
  rw [e0, e1, e2]

/-! ## The delta-rule mixer's output projection -/

theorem frame_ideal4 : Cert.quiescent_Kernel4Ideal := fun m g _ => Cert.Kernel4Ideal.Gen.frame m g

theorem frame_kernel4 : Cert.quiescent_Kernel4 := fun m g _ =>
  (congrArg₂ (fun D M => θ_run D (onTc (nD := Cert.Kernel4Ideal.nD) (τ := Cert.Kernel4Ideal.τ) M) ⟨m, fun _ => 0, g⟩ _)
    (Cert.OutProj.defs_same (F := Bits)) (Cert.OutProj.main_same (F := Bits))).mp (Cert.Kernel4Ideal.Gen.frame (F := Bits) m g)

theorem frame_reference4 : Cert.quiescent_Reference4Ideal := fun m g _ =>
  (θ_run Cert.Reference4Ideal.defs _ _).mono (fun r h => ⟨fun c => (h c).2, sem_eq_zero_of_no_sems (by decide) r.2⟩) (Cert.Reference4Ideal.Value.run m g)

theorem value4 : Cert.algebraic_Kernel4Ideal_Reference4Ideal := by
  intro m g m' g' h e
  refine ⟨fun c => Cert.OutProj.result m c, ?_, ?_⟩
  · exact (θ_run _ _ _).mono (fun _ r c => ⟨(r c).1.trans (Cert.OutProj.arr_eq m c), (r c).2⟩) (Cert.Kernel4Ideal.Value.run_blocks m g)
  · refine (θ_run _ _ _).mono (fun _ r c => ⟨(r c).1.trans ?_, (r c).2⟩) (Cert.Reference4Ideal.Value.run m' g')
    refine Eq.trans ?_ (Cert.OutProj.result_eq m c).symm
    obtain ⟨e0, e1, e2⟩ := e c
    rw [e0, e1, e2]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_tables_in_range.Gen.facts,
  frame_kernel, frame_ideal, frame_reference, fun m g _ => frame_reference m g trivial, frame_kernel2, frame_ideal2, frame_reference2,
  frame_kernel3, frame_ideal3, frame_reference3, frame_kernel4, frame_ideal4, frame_reference4,
  trivial, value, trivial, value2, trivial, value3, trivial, value4⟩

end Cert.Proof

end
